-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_keys [hPre_finite_keys : Cert.Pre_finite_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_keys [hPre_finite_keys : Cert.Pre_finite_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_maps [hPre_finite_maps : Cert.Pre_finite_maps.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_maps.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).1 = (fun _ => 1#1)
    ∧ (Cert.Pre_finite_maps.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.1 = (fun _ => 1#1)
    ∧ (Cert.Pre_finite_maps.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.1 = (fun _ => 1#1)
    ∧ (Cert.Pre_finite_maps.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.1 = (fun _ => 1#1)
    ∧ (Cert.Pre_finite_maps.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.2.1 = (fun _ => 1#1)
    ∧ (Cert.Pre_finite_maps.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_maps [hPre_finite_maps : Cert.Pre_finite_maps.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_maps.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).1 = (fun _ => 1#1)
    ∧ (Cert.Pre_finite_maps.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.1 = (fun _ => 1#1)
    ∧ (Cert.Pre_finite_maps.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.1 = (fun _ => 1#1)
    ∧ (Cert.Pre_finite_maps.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.1 = (fun _ => 1#1)
    ∧ (Cert.Pre_finite_maps.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.2.1 = (fun _ => 1#1)
    ∧ (Cert.Pre_finite_maps.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_inputs [hPre_finite_inputs : Cert.Pre_finite_inputs.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_inputs.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).1 = (fun _ => 1#1)
    ∧ (Cert.Pre_finite_inputs.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).2.1 = (fun _ => 1#1)
    ∧ (Cert.Pre_finite_inputs.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_inputs [hPre_finite_inputs : Cert.Pre_finite_inputs.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_inputs.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).1 = (fun _ => 1#1)
    ∧ (Cert.Pre_finite_inputs.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2.1 = (fun _ => 1#1)
    ∧ (Cert.Pre_finite_inputs.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_keys [hKernelIdeal : Cert.KernelIdeal.Facts] [hPre_finite_keys : Cert.Pre_finite_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_keys [hReferenceIdeal : Cert.ReferenceIdeal.Facts] [hPre_finite_keys : Cert.Pre_finite_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Kernel4Ideal_pre_finite_maps [hKernel4Ideal : Cert.Kernel4Ideal.Facts] [hPre_finite_maps : Cert.Pre_finite_maps.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_maps m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_finite_maps [hReference4Ideal : Cert.Reference4Ideal.Facts] [hPre_finite_maps : Cert.Pre_finite_maps.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_maps m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Kernel7Ideal_pre_finite_inputs [hKernel7Ideal : Cert.Kernel7Ideal.Facts] [hPre_finite_inputs : Cert.Pre_finite_inputs.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_inputs m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Reference7Ideal_pre_finite_inputs [hReference7Ideal : Cert.Reference7Ideal.Facts] [hPre_finite_inputs : Cert.Pre_finite_inputs.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_inputs m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def preserves_Kernel_KernelIdeal : Prop :=
  True

def algebraic_KernelIdeal_ReferenceIdeal_pre_finite_keys [hKernelIdeal : Cert.KernelIdeal.Facts] [hReferenceIdeal : Cert.ReferenceIdeal.Facts] [hPre_finite_keys : Cert.Pre_finite_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v98) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal_pre_finite_maps [hKernel4Ideal : Cert.Kernel4Ideal.Facts] [hReference4Ideal : Cert.Reference4Ideal.Facts] [hPre_finite_maps : Cert.Pre_finite_maps.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_maps m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v69) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v39) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v46_0)) (v1 : (c : Dev Cert.Kernel6Ideal.nD) → Buf (Elt Ideal) ((c.tc : Thread Cert.Kernel6Ideal.nD Cert.Kernel6Ideal.τ).loc Cert.Kernel6Ideal.main_v46_1)) (v2 : (c : Dev Cert.Kernel6Ideal.nD) → Buf (Elt Ideal) ((c.tc : Thread Cert.Kernel6Ideal.nD Cert.Kernel6Ideal.τ).loc Cert.Kernel6Ideal.main_v46_2)) (v3 : (c : Dev Cert.Kernel6Ideal.nD) → Buf (Elt Ideal) ((c.tc : Thread Cert.Kernel6Ideal.nD Cert.Kernel6Ideal.τ).loc Cert.Kernel6Ideal.main_v46_3)) (v4 : (c : Dev Cert.Kernel6Ideal.nD) → Buf (Elt Ideal) ((c.tc : Thread Cert.Kernel6Ideal.nD Cert.Kernel6Ideal.τ).loc Cert.Kernel6Ideal.main_v46_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v46_0) = v0 c
          ∧ r.2.mem ((c.tc : Thread Cert.Kernel6Ideal.nD Cert.Kernel6Ideal.τ).loc Cert.Kernel6Ideal.main_v46_1) = v1 c
          ∧ r.2.mem ((c.tc : Thread Cert.Kernel6Ideal.nD Cert.Kernel6Ideal.τ).loc Cert.Kernel6Ideal.main_v46_2) = v2 c
          ∧ r.2.mem ((c.tc : Thread Cert.Kernel6Ideal.nD Cert.Kernel6Ideal.τ).loc Cert.Kernel6Ideal.main_v46_3) = v3 c
          ∧ r.2.mem ((c.tc : Thread Cert.Kernel6Ideal.nD Cert.Kernel6Ideal.τ).loc Cert.Kernel6Ideal.main_v46_4) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v77) = v0 c
          ∧ r.2.mem ((c.tc : Thread Cert.Reference6Ideal.nD Cert.Reference6Ideal.τ).loc Cert.Reference6Ideal.main_v132) = v1 c
          ∧ r.2.mem ((c.tc : Thread Cert.Reference6Ideal.nD Cert.Reference6Ideal.τ).loc Cert.Reference6Ideal.main_v133) = v2 c
          ∧ r.2.mem ((c.tc : Thread Cert.Reference6Ideal.nD Cert.Reference6Ideal.τ).loc Cert.Reference6Ideal.main_v19) = v3 c
          ∧ r.2.mem ((c.tc : Thread Cert.Reference6Ideal.nD Cert.Reference6Ideal.τ).loc Cert.Reference6Ideal.main_v20) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal_pre_finite_inputs [hKernel7Ideal : Cert.Kernel7Ideal.Facts] [hReference7Ideal : Cert.Reference7Ideal.Facts] [hPre_finite_inputs : Cert.Pre_finite_inputs.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_inputs m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v44_0)) (v1 : (c : Dev Cert.Kernel7Ideal.nD) → Buf (Elt Ideal) ((c.tc : Thread Cert.Kernel7Ideal.nD Cert.Kernel7Ideal.τ).loc Cert.Kernel7Ideal.main_v44_1)) (v2 : (c : Dev Cert.Kernel7Ideal.nD) → Buf (Elt Ideal) ((c.tc : Thread Cert.Kernel7Ideal.nD Cert.Kernel7Ideal.τ).loc Cert.Kernel7Ideal.main_v44_2)) (v3 : (c : Dev Cert.Kernel7Ideal.nD) → Buf (Elt Ideal) ((c.tc : Thread Cert.Kernel7Ideal.nD Cert.Kernel7Ideal.τ).loc Cert.Kernel7Ideal.main_v44_3)) (v4 : (c : Dev Cert.Kernel7Ideal.nD) → Buf (Elt Ideal) ((c.tc : Thread Cert.Kernel7Ideal.nD Cert.Kernel7Ideal.τ).loc Cert.Kernel7Ideal.main_v44_4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v44_0) = v0 c
          ∧ r.2.mem ((c.tc : Thread Cert.Kernel7Ideal.nD Cert.Kernel7Ideal.τ).loc Cert.Kernel7Ideal.main_v44_1) = v1 c
          ∧ r.2.mem ((c.tc : Thread Cert.Kernel7Ideal.nD Cert.Kernel7Ideal.τ).loc Cert.Kernel7Ideal.main_v44_2) = v2 c
          ∧ r.2.mem ((c.tc : Thread Cert.Kernel7Ideal.nD Cert.Kernel7Ideal.τ).loc Cert.Kernel7Ideal.main_v44_3) = v3 c
          ∧ r.2.mem ((c.tc : Thread Cert.Kernel7Ideal.nD Cert.Kernel7Ideal.τ).loc Cert.Kernel7Ideal.main_v44_4) = v4 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v109) = v0 c
          ∧ r.2.mem ((c.tc : Thread Cert.Reference7Ideal.nD Cert.Reference7Ideal.τ).loc Cert.Reference7Ideal.main_v164) = v1 c
          ∧ r.2.mem ((c.tc : Thread Cert.Reference7Ideal.nD Cert.Reference7Ideal.τ).loc Cert.Reference7Ideal.main_v165) = v2 c
          ∧ r.2.mem ((c.tc : Thread Cert.Reference7Ideal.nD Cert.Reference7Ideal.τ).loc Cert.Reference7Ideal.main_v51) = v3 c
          ∧ r.2.mem ((c.tc : Thread Cert.Reference7Ideal.nD Cert.Reference7Ideal.τ).loc Cert.Reference7Ideal.main_v52) = v4 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_keys : Cert.Pre_finite_keys.Facts) (hPre_finite_maps : Cert.Pre_finite_maps.Facts) (hPre_finite_inputs : Cert.Pre_finite_inputs.Facts),
    quiescent_Kernel (hKernel := hKernel)
    ∧ quiescent_KernelIdeal (hKernelIdeal := hKernelIdeal)
    ∧ quiescent_KernelIdeal_pre_finite_keys (hKernelIdeal := hKernelIdeal) (hPre_finite_keys := hPre_finite_keys)
    ∧ quiescent_ReferenceIdeal (hReferenceIdeal := hReferenceIdeal)
    ∧ quiescent_ReferenceIdeal_pre_finite_keys (hReferenceIdeal := hReferenceIdeal) (hPre_finite_keys := hPre_finite_keys)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_maps (hKernel4Ideal := hKernel4Ideal) (hPre_finite_maps := hPre_finite_maps)
    ∧ quiescent_Reference4Ideal (hReference4Ideal := hReference4Ideal)
    ∧ quiescent_Reference4Ideal_pre_finite_maps (hReference4Ideal := hReference4Ideal) (hPre_finite_maps := hPre_finite_maps)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite_inputs (hKernel7Ideal := hKernel7Ideal) (hPre_finite_inputs := hPre_finite_inputs)
    ∧ quiescent_Reference7Ideal (hReference7Ideal := hReference7Ideal)
    ∧ quiescent_Reference7Ideal_pre_finite_inputs (hReference7Ideal := hReference7Ideal) (hPre_finite_inputs := hPre_finite_inputs)
    ∧ preserves_Kernel_KernelIdeal
    ∧ algebraic_KernelIdeal_ReferenceIdeal_pre_finite_keys (hKernelIdeal := hKernelIdeal) (hReferenceIdeal := hReferenceIdeal) (hPre_finite_keys := hPre_finite_keys)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_maps (hKernel4Ideal := hKernel4Ideal) (hReference4Ideal := hReference4Ideal) (hPre_finite_maps := hPre_finite_maps)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite_inputs (hKernel7Ideal := hKernel7Ideal) (hReference7Ideal := hReference7Ideal) (hPre_finite_inputs := hPre_finite_inputs)
-- ==== Pre_finite_inputs.lean ====
abbrev S20480x1024 : Shape := ⟨2, ![20480, 1024]⟩
abbrev S16x6x1024 : Shape := ⟨3, ![16, 6, 1024]⟩
abbrev S1024x2560 : Shape := ⟨2, ![1024, 2560]⟩
abbrev S1x2048 : Shape := ⟨2, ![1, 2048]⟩
abbrev S1x256 : Shape := ⟨2, ![1, 256]⟩
abbrev S_ : Shape := ⟨0, ![]⟩

class Facts : Prop where
  bcast_S_S20480x1024 : S_.BroadcastsInDim S20480x1024 (![] : Fin 0 → Fin S20480x1024.rank)
  bcast_S_S16x6x1024 : S_.BroadcastsInDim S16x6x1024 (![] : Fin 0 → Fin S16x6x1024.rank)
  bitsLt_bf16_f32 : FTy.bits .bf16 < FTy.bits .f32
  bcast_S_S1024x2560 : S_.BroadcastsInDim S1024x2560 (![] : Fin 0 → Fin S1024x2560.rank)

variable [Facts]

def fn {F : FTy → Type} [FloatOps F] (main_arg0 : FVec F S20480x1024 .f32) (main_arg1 : FVec F S16x6x1024 .f32) (main_arg2 : FVec F S1024x2560 .bf16) (main_arg3 : FVec F S1x2048 .f32) (main_arg4 : FVec F S1x256 .f32) : IVec S20480x1024 1 × IVec S16x6x1024 1 × IVec S1024x2560 1 :=
  let main_v0 : FVec F S20480x1024 .f32 := Host.absf main_arg0
  let main_cst : FVec F S_ .f32 := constant S_ .f32 0x7F800000#32
  let main_v1 : FVec F S20480x1024 .f32 := broadcastInDim S20480x1024 ![] bcast_S_S20480x1024 main_cst
  let main_v2 : IVec S20480x1024 1 := cmpf .olt main_v0 main_v1
  let main_v3 : FVec F S16x6x1024 .f32 := Host.absf main_arg1
  let main_cst_0 : FVec F S_ .f32 := constant S_ .f32 0x7F800000#32
  let main_v4 : FVec F S16x6x1024 .f32 := broadcastInDim S16x6x1024 ![] bcast_S_S16x6x1024 main_cst_0
  let main_v5 : IVec S16x6x1024 1 := cmpf .olt main_v3 main_v4
  let main_v6 : FVec F S1024x2560 .f32 := (extf .f32 · bitsLt_bf16_f32) main_arg2
  let main_v7 : FVec F S1024x2560 .f32 := Host.absf main_v6
  let main_cst_1 : FVec F S_ .f32 := constant S_ .f32 0x7F800000#32
  let main_v8 : FVec F S1024x2560 .f32 := broadcastInDim S1024x2560 ![] bcast_S_S1024x2560 main_cst_1
  let main_v9 : IVec S1024x2560 1 := cmpf .olt main_v7 main_v8
  (main_v2, main_v5, main_v9)
-- ==== Pre_finite_keys.lean ====
abbrev S20480x2048 : Shape := ⟨2, ![20480, 2048]⟩
abbrev S20480x256 : Shape := ⟨2, ![20480, 256]⟩
abbrev S8x256x256 : Shape := ⟨3, ![8, 256, 256]⟩
abbrev S_ : Shape := ⟨0, ![]⟩

class Facts : Prop where
  bitsLt_bf16_f32 : FTy.bits .bf16 < FTy.bits .f32
  bcast_S_S20480x2048 : S_.BroadcastsInDim S20480x2048 (![] : Fin 0 → Fin S20480x2048.rank)
  bcast_S_S20480x256 : S_.BroadcastsInDim S20480x256 (![] : Fin 0 → Fin S20480x256.rank)
  bcast_S_S8x256x256 : S_.BroadcastsInDim S8x256x256 (![] : Fin 0 → Fin S8x256x256.rank)

variable [Facts]

def fn {F : FTy → Type} [FloatOps F] (main_arg0 : FVec F S20480x2048 .bf16) (main_arg1 : FVec F S20480x256 .bf16) (main_arg2 : FVec F S20480x256 .bf16) (main_arg3 : FVec F S8x256x256 .bf16) (main_arg4 : FVec F S8x256x256 .bf16) : IVec S20480x2048 1 × IVec S20480x256 1 × IVec S8x256x256 1 :=
  let main_v0 : FVec F S20480x2048 .f32 := (extf .f32 · bitsLt_bf16_f32) main_arg0
  let main_v1 : FVec F S20480x2048 .f32 := Host.absf main_v0
  let main_cst : FVec F S_ .f32 := constant S_ .f32 0x7F800000#32
  let main_v2 : FVec F S20480x2048 .f32 := broadcastInDim S20480x2048 ![] bcast_S_S20480x2048 main_cst
  let main_v3 : IVec S20480x2048 1 := cmpf .olt main_v1 main_v2
  let main_v4 : FVec F S20480x256 .f32 := (extf .f32 · bitsLt_bf16_f32) main_arg1
  let main_v5 : FVec F S20480x256 .f32 := Host.absf main_v4
  let main_cst_0 : FVec F S_ .f32 := constant S_ .f32 0x7F800000#32
  let main_v6 : FVec F S20480x256 .f32 := broadcastInDim S20480x256 ![] bcast_S_S20480x256 main_cst_0
  let main_v7 : IVec S20480x256 1 := cmpf .olt main_v5 main_v6
  let main_v8 : FVec F S8x256x256 .f32 := (extf .f32 · bitsLt_bf16_f32) main_arg3
  let main_v9 : FVec F S8x256x256 .f32 := Host.absf main_v8
  let main_cst_1 : FVec F S_ .f32 := constant S_ .f32 0x7F800000#32
  let main_v10 : FVec F S8x256x256 .f32 := broadcastInDim S8x256x256 ![] bcast_S_S8x256x256 main_cst_1
  let main_v11 : IVec S8x256x256 1 := cmpf .olt main_v9 main_v10
  (main_v3, main_v7, main_v11)
-- ==== Pre_finite_maps.lean ====
abbrev S4x64 : Shape := ⟨2, ![4, 64]⟩
abbrev S128 : Shape := ⟨1, ![128]⟩
abbrev S20480x2048 : Shape := ⟨2, ![20480, 2048]⟩
abbrev S20480x1024 : Shape := ⟨2, ![20480, 1024]⟩
abbrev S8x256x1024 : Shape := ⟨3, ![8, 256, 1024]⟩
abbrev S_ : Shape := ⟨0, ![]⟩

class Facts : Prop where
  bcast_S_S4x64 : S_.BroadcastsInDim S4x64 (![] : Fin 0 → Fin S4x64.rank)
  bitsLt_bf16_f32 : FTy.bits .bf16 < FTy.bits .f32
  bcast_S_S20480x2048 : S_.BroadcastsInDim S20480x2048 (![] : Fin 0 → Fin S20480x2048.rank)
  bcast_S_S20480x1024 : S_.BroadcastsInDim S20480x1024 (![] : Fin 0 → Fin S20480x1024.rank)
  bcast_S_S8x256x1024 : S_.BroadcastsInDim S8x256x1024 (![] : Fin 0 → Fin S8x256x1024.rank)

variable [Facts]

def fn_part1 {F : FTy → Type} [FloatOps F] (main_arg6 : FVec F S8x256x1024 .bf16) (main_v2 : IVec S4x64 1) (main_v6 : IVec S20480x2048 1) (main_v10 : IVec S20480x1024 1) (main_v14 : IVec S20480x1024 1) (main_v18 : IVec S8x256x1024 1) : IVec S4x64 1 × IVec S20480x2048 1 × IVec S20480x1024 1 × IVec S20480x1024 1 × IVec S8x256x1024 1 × IVec S8x256x1024 1 :=
  let main_v19 : FVec F S8x256x1024 .f32 := (extf .f32 · bitsLt_bf16_f32) main_arg6
  let main_v20 : FVec F S8x256x1024 .f32 := Host.absf main_v19
  let main_cst_4 : FVec F S_ .f32 := constant S_ .f32 0x7F800000#32
  let main_v21 : FVec F S8x256x1024 .f32 := broadcastInDim S8x256x1024 ![] bcast_S_S8x256x1024 main_cst_4
  let main_v22 : IVec S8x256x1024 1 := cmpf .olt main_v20 main_v21
  (main_v2, main_v6, main_v10, main_v14, main_v18, main_v22)

def fn {F : FTy → Type} [FloatOps F] (main_arg0 : FVec F S4x64 .f32) (main_arg1 : FVec F S128 .f32) (main_arg2 : FVec F S20480x2048 .bf16) (main_arg3 : FVec F S20480x1024 .bf16) (main_arg4 : FVec F S20480x1024 .bf16) (main_arg5 : FVec F S8x256x1024 .bf16) (main_arg6 : FVec F S8x256x1024 .bf16) : IVec S4x64 1 × IVec S20480x2048 1 × IVec S20480x1024 1 × IVec S20480x1024 1 × IVec S8x256x1024 1 × IVec S8x256x1024 1 :=
  let main_v0 : FVec F S4x64 .f32 := Host.absf main_arg0
  let main_cst : FVec F S_ .f32 := constant S_ .f32 0x7F800000#32
  let main_v1 : FVec F S4x64 .f32 := broadcastInDim S4x64 ![] bcast_S_S4x64 main_cst
  let main_v2 : IVec S4x64 1 := cmpf .olt main_v0 main_v1
  let main_v3 : FVec F S20480x2048 .f32 := (extf .f32 · bitsLt_bf16_f32) main_arg2
  let main_v4 : FVec F S20480x2048 .f32 := Host.absf main_v3
  let main_cst_0 : FVec F S_ .f32 := constant S_ .f32 0x7F800000#32
  let main_v5 : FVec F S20480x2048 .f32 := broadcastInDim S20480x2048 ![] bcast_S_S20480x2048 main_cst_0
  let main_v6 : IVec S20480x2048 1 := cmpf .olt main_v4 main_v5
  let main_v7 : FVec F S20480x1024 .f32 := (extf .f32 · bitsLt_bf16_f32) main_arg3
  let main_v8 : FVec F S20480x1024 .f32 := Host.absf main_v7
  let main_cst_1 : FVec F S_ .f32 := constant S_ .f32 0x7F800000#32
  let main_v9 : FVec F S20480x1024 .f32 := broadcastInDim S20480x1024 ![] bcast_S_S20480x1024 main_cst_1
  let main_v10 : IVec S20480x1024 1 := cmpf .olt main_v8 main_v9
  let main_v11 : FVec F S20480x1024 .f32 := (extf .f32 · bitsLt_bf16_f32) main_arg4
  let main_v12 : FVec F S20480x1024 .f32 := Host.absf main_v11
  let main_cst_2 : FVec F S_ .f32 := constant S_ .f32 0x7F800000#32
  let main_v13 : FVec F S20480x1024 .f32 := broadcastInDim S20480x1024 ![] bcast_S_S20480x1024 main_cst_2
  let main_v14 : IVec S20480x1024 1 := cmpf .olt main_v12 main_v13
  let main_v15 : FVec F S8x256x1024 .f32 := (extf .f32 · bitsLt_bf16_f32) main_arg5
  let main_v16 : FVec F S8x256x1024 .f32 := Host.absf main_v15
  let main_cst_3 : FVec F S_ .f32 := constant S_ .f32 0x7F800000#32
  let main_v17 : FVec F S8x256x1024 .f32 := broadcastInDim S8x256x1024 ![] bcast_S_S8x256x1024 main_cst_3
  let main_v18 : IVec S8x256x1024 1 := cmpf .olt main_v16 main_v17
  fn_part1 (F := F) main_arg6 main_v2 main_v6 main_v10 main_v14 main_v18
-- ==== Kernel.lean ====
abbrev S20480x2048 : Shape := ⟨2, ![20480, 2048]⟩
abbrev S20480x256 : Shape := ⟨2, ![20480, 256]⟩
abbrev S8x256x256 : Shape := ⟨3, ![8, 256, 256]⟩
abbrev S16384x2048 : Shape := ⟨2, ![16384, 2048]⟩
abbrev S256x2048 : Shape := ⟨2, ![256, 2048]⟩
abbrev S2048x256 : Shape := ⟨2, ![2048, 256]⟩
abbrev S1x256x256 : Shape := ⟨3, ![1, 256, 256]⟩
abbrev S2048x128 : Shape := ⟨2, ![2048, 128]⟩
abbrev S1x256x128 : Shape := ⟨3, ![1, 256, 128]⟩
abbrev S256x128 : Shape := ⟨2, ![256, 128]⟩
abbrev S256x256 : Shape := ⟨2, ![256, 256]⟩
abbrev S256 : Shape := ⟨1, ![256]⟩
abbrev S256x1 : Shape := ⟨2, ![256, 1]⟩

abbrev nBuf : Space → Nat
  | .hbm => 6
  | .vmem => 12
  | .smem => 0
  | _ => 0

abbrev bufTy : (tb : Table) → Fin (tcTables nBuf tb) → BufTy
  | .hbm, ⟨0, _⟩ => ⟨S20480x2048, .bf16⟩
  | .hbm, ⟨1, _⟩ => ⟨S20480x256, .bf16⟩
  | .hbm, ⟨2, _⟩ => ⟨S20480x256, .bf16⟩
  | .hbm, ⟨3, _⟩ => ⟨S8x256x256, .bf16⟩
  | .hbm, ⟨4, _⟩ => ⟨S8x256x256, .bf16⟩
  | .hbm, ⟨5, _⟩ => ⟨S16384x2048, .bf16⟩
  | .local _ .vmem, ⟨0, _⟩ => ⟨S256x2048, .bf16⟩
  | .local _ .vmem, ⟨1, _⟩ => ⟨S256x2048, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S1x256x256, .bf16⟩
  | .local _ .vmem, ⟨7, _⟩ => ⟨S1x256x256, .bf16⟩
  | .local _ .vmem, ⟨8, _⟩ => ⟨S1x256x256, .bf16⟩
  | .local _ .vmem, ⟨9, _⟩ => ⟨S1x256x256, .bf16⟩
  | .local _ .vmem, ⟨10, _⟩ => ⟨S256x2048, .bf16⟩
  | .local _ .vmem, ⟨11, _⟩ => ⟨S256x2048, .bf16⟩
  | _, _ => ⟨S20480x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c16_i32 : BitVec 32 := 16#32
  let v1 : BitVec 32 := Scalar.addi c16_i32 v0
  let v2 : BitVec 32 := Scalar.addi v1 arg1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S20480x2048 : Shape := ⟨2, ![20480, 2048]⟩
abbrev S20480x256 : Shape := ⟨2, ![20480, 256]⟩
abbrev S8x256x256 : Shape := ⟨3, ![8, 256, 256]⟩
abbrev S16384x2048 : Shape := ⟨2, ![16384, 2048]⟩
abbrev S8x2048x2x8x128 : Shape := ⟨5, ![8, 2048, 2, 8, 128]⟩
abbrev S16384x256 : Shape := ⟨2, ![16384, 256]⟩
abbrev S8x2048x2x128 : Shape := ⟨4, ![8, 2048, 2, 128]⟩
abbrev S8x256x2x128 : Shape := ⟨4, ![8, 256, 2, 128]⟩
abbrev S8x2304x2x128 : Shape := ⟨4, ![8, 2304, 2, 128]⟩
abbrev S8x2x2304x2048x8 : Shape := ⟨5, ![8, 2, 2304, 2048, 8]⟩
abbrev S8x2x8x2048x2304 : Shape := ⟨5, ![8, 2, 8, 2048, 2304]⟩
abbrev S_ : Shape := ⟨0, ![]⟩
abbrev S8x2x8x2048 : Shape := ⟨4, ![8, 2, 8, 2048]⟩
abbrev S8x2x8x2048x1 : Shape := ⟨5, ![8, 2, 8, 2048, 1]⟩
abbrev S8x2x128x8x2048 : Shape := ⟨5, ![8, 2, 128, 8, 2048]⟩

abbrev nBuf : Space → Nat
  | .hbm => 42
  | .vmem => 0
  | .smem => 0
  | _ => 0

abbrev bufTy : (tb : Table) → Fin (tcTables nBuf tb) → BufTy
  | .hbm, ⟨0, _⟩ => ⟨S20480x2048, .bf16⟩
  | .hbm, ⟨1, _⟩ => ⟨S20480x256, .bf16⟩
  | .hbm, ⟨2, _⟩ => ⟨S20480x256, .bf16⟩
  | .hbm, ⟨3, _⟩ => ⟨S8x256x256, .bf16⟩
  | .hbm, ⟨4, _⟩ => ⟨S8x256x256, .bf16⟩
  | .hbm, ⟨5, _⟩ => ⟨S20480x2048, .f32⟩
  | .hbm, ⟨6, _⟩ => ⟨S20480x256, .f32⟩
  | .hbm, ⟨7, _⟩ => ⟨S20480x256, .f32⟩
  | .hbm, ⟨8, _⟩ => ⟨S8x256x256, .f32⟩
  | .hbm, ⟨9, _⟩ => ⟨S8x256x256, .f32⟩
  | .hbm, ⟨10, _⟩ => ⟨S16384x2048, .f32⟩
  | .hbm, ⟨11, _⟩ => ⟨S8x2048x2x8x128, .f32⟩
  | .hbm, ⟨12, _⟩ => ⟨S16384x256, .f32⟩
  | .hbm, ⟨13, _⟩ => ⟨S8x2048x2x128, .f32⟩
  | .hbm, ⟨14, _⟩ => ⟨S8x256x2x128, .f32⟩
  | .hbm, ⟨15, _⟩ => ⟨S8x2304x2x128, .f32⟩
  | .hbm, ⟨16, _⟩ => ⟨S16384x256, .f32⟩
  | .hbm, ⟨17, _⟩ => ⟨S8x2048x2x128, .f32⟩
  | .hbm, ⟨18, _⟩ => ⟨S8x256x2x128, .f32⟩
  | .hbm, ⟨19, _⟩ => ⟨S8x2304x2x128, .f32⟩
  | .hbm, ⟨20, _⟩ => ⟨S8x2x2304x2048x8, .f32⟩
  | .hbm, ⟨21, _⟩ => ⟨S8x2x8x2048x2304, .f32⟩
  | .hbm, ⟨22, _⟩ => ⟨S_, .f32⟩
  | .hbm, ⟨23, _⟩ => ⟨S8x2x8x2048, .f32⟩
  | .hbm, ⟨24, _⟩ => ⟨S_, .f32⟩
  | .hbm, ⟨25, _⟩ => ⟨S8x2x8x2048, .f32⟩
  | .hbm, ⟨26, _⟩ => ⟨S8x2x8x2048, .f32⟩
  | .hbm, ⟨27, _⟩ => ⟨S8x2x8x2048x1, .f32⟩
  | .hbm, ⟨28, _⟩ => ⟨S8x2x8x2048x2304, .f32⟩
  | .hbm, ⟨29, _⟩ => ⟨S8x2x8x2048x2304, .f32⟩
  | .hbm, ⟨30, _⟩ => ⟨S8x2x8x2048x2304, .f32⟩
  | .hbm, ⟨31, _⟩ => ⟨S_, .f32⟩
  | .hbm, ⟨32, _⟩ => ⟨S8x2x8x2048, .f32⟩
  | .hbm, ⟨33, _⟩ => ⟨S8x2x8x2048x1, .f32⟩
  | .hbm, ⟨34, _⟩ => ⟨S8x2x8x2048x2304, .f32⟩
  | .hbm, ⟨35, _⟩ => ⟨S8x2x8x2048x2304, .f32⟩
  | .hbm, ⟨36, _⟩ => ⟨S8x2x8x2048x2304, .bf16⟩
  | .hbm, ⟨37, _⟩ => ⟨S8x2x8x2048x2304, .f32⟩
  | .hbm, ⟨38, _⟩ => ⟨S8x2x128x8x2048, .f32⟩
  | .hbm, ⟨39, _⟩ => ⟨S8x2048x2x8x128, .f32⟩
  | .hbm, ⟨40, _⟩ => ⟨S16384x2048, .f32⟩
  | .hbm, ⟨41, _⟩ => ⟨S16384x2048, .bf16⟩
  | _, _ => ⟨S20480x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_1 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩

abbrev nD : Nat := 1
abbrev τ : Topo := Topo.v7x

variable {F : FTy → Type} [FloatOps F]
-- ==== Kernel2.lean ====
abbrev S20480x2048 : Shape := ⟨2, ![20480, 2048]⟩
abbrev S2048x1024 : Shape := ⟨2, ![2048, 1024]⟩
abbrev S20480x1024 : Shape := ⟨2, ![20480, 1024]⟩
abbrev S16x6x1024 : Shape := ⟨3, ![16, 6, 1024]⟩
abbrev S1024 : Shape := ⟨1, ![1024]⟩
abbrev S1x1024 : Shape := ⟨2, ![1, 1024]⟩
abbrev S512x2048 : Shape := ⟨2, ![512, 2048]⟩
abbrev S512x1024 : Shape := ⟨2, ![512, 1024]⟩
abbrev S1x6x1024 : Shape := ⟨3, ![1, 6, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 9
  | .vmem => 11
  | .smem => 0
  | _ => 0

abbrev bufTy : (tb : Table) → Fin (tcTables nBuf tb) → BufTy
  | .hbm, ⟨0, _⟩ => ⟨S20480x2048, .bf16⟩
  | .hbm, ⟨1, _⟩ => ⟨S2048x1024, .bf16⟩
  | .hbm, ⟨2, _⟩ => ⟨S20480x1024, .f32⟩
  | .hbm, ⟨3, _⟩ => ⟨S16x6x1024, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S20480x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S1x6x1024, .f32⟩
  | .local _ .vmem, ⟨6, _⟩ => ⟨S1x6x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S20480x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel2Ideal.lean ====
abbrev S20480x2048 : Shape := ⟨2, ![20480, 2048]⟩
abbrev S2048x1024 : Shape := ⟨2, ![2048, 1024]⟩
abbrev S20480x1024 : Shape := ⟨2, ![20480, 1024]⟩
abbrev S16x6x1024 : Shape := ⟨3, ![16, 6, 1024]⟩
abbrev S1024 : Shape := ⟨1, ![1024]⟩
abbrev S1x1024 : Shape := ⟨2, ![1, 1024]⟩
abbrev S512x2048 : Shape := ⟨2, ![512, 2048]⟩
abbrev S512x1024 : Shape := ⟨2, ![512, 1024]⟩
abbrev S1x6x1024 : Shape := ⟨3, ![1, 6, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 9
  | .vmem => 11
  | .smem => 0
  | _ => 0

abbrev bufTy : (tb : Table) → Fin (tcTables nBuf tb) → BufTy
  | .hbm, ⟨0, _⟩ => ⟨S20480x2048, .bf16⟩
  | .hbm, ⟨1, _⟩ => ⟨S2048x1024, .bf16⟩
  | .hbm, ⟨2, _⟩ => ⟨S20480x1024, .f32⟩
  | .hbm, ⟨3, _⟩ => ⟨S16x6x1024, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S20480x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S1x6x1024, .f32⟩
  | .local _ .vmem, ⟨6, _⟩ => ⟨S1x6x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S20480x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S20480x2048 : Shape := ⟨2, ![20480, 2048]⟩
abbrev S2048x1024 : Shape := ⟨2, ![2048, 1024]⟩
abbrev S20480x1024 : Shape := ⟨2, ![20480, 1024]⟩
abbrev S16x6x1024 : Shape := ⟨3, ![16, 6, 1024]⟩
abbrev S1024 : Shape := ⟨1, ![1024]⟩
abbrev S1x1x1024 : Shape := ⟨3, ![1, 1, 1024]⟩
abbrev S4096x1024 : Shape := ⟨2, ![4096, 1024]⟩
abbrev S8x1x1024 : Shape := ⟨3, ![8, 1, 1024]⟩
abbrev S8x1024 : Shape := ⟨2, ![8, 1024]⟩
abbrev S8x2048x1024 : Shape := ⟨3, ![8, 2048, 1024]⟩
abbrev S16384x1024 : Shape := ⟨2, ![16384, 1024]⟩
abbrev S_ : Shape := ⟨0, ![]⟩
abbrev S20480 : Shape := ⟨1, ![20480]⟩
abbrev S20480x1 : Shape := ⟨2, ![20480, 1]⟩
abbrev S1x1024 : Shape := ⟨2, ![1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S20480x2048, .bf16⟩
  | .hbm, ⟨1, _⟩ => ⟨S2048x1024, .bf16⟩
  | .hbm, ⟨2, _⟩ => ⟨S20480x1024, .f32⟩
  | .hbm, ⟨3, _⟩ => ⟨S16x6x1024, .f32⟩
  | .hbm, ⟨4, _⟩ => ⟨S1024, .f32⟩
  | .hbm, ⟨5, _⟩ => ⟨S1024, .f32⟩
  | .hbm, ⟨6, _⟩ => ⟨S20480x2048, .f32⟩
  | .hbm, ⟨7, _⟩ => ⟨S2048x1024, .f32⟩
  | .hbm, ⟨8, _⟩ => ⟨S20480x1024, .f32⟩
  | .hbm, ⟨9, _⟩ => ⟨S1x1x1024, .f32⟩
  | .hbm, ⟨10, _⟩ => ⟨S1024, .f32⟩
  | .hbm, ⟨11, _⟩ => ⟨S4096x1024, .f32⟩
  | .hbm, ⟨12, _⟩ => ⟨S8x1x1024, .f32⟩
  | .hbm, ⟨13, _⟩ => ⟨S8x1024, .f32⟩
  | .hbm, ⟨14, _⟩ => ⟨S8x1x1024, .f32⟩
  | .hbm, ⟨15, _⟩ => ⟨S8x2048x1024, .f32⟩
  | .hbm, ⟨16, _⟩ => ⟨S16384x1024, .f32⟩
  | .hbm, ⟨17, _⟩ => ⟨S20480x1024, .f32⟩
  | .hbm, ⟨18, _⟩ => ⟨S_, .f32⟩
  | .hbm, ⟨19, _⟩ => ⟨S20480x1024, .f32⟩
  | .hbm, ⟨20, _⟩ => ⟨S20480x1024, .f32⟩
  | .hbm, ⟨21, _⟩ => ⟨S20480x1024, .f32⟩
  | .hbm, ⟨22, _⟩ => ⟨S20480x1024, .f32⟩
  | .hbm, ⟨23, _⟩ => ⟨S_, .f32⟩
  | .hbm, ⟨24, _⟩ => ⟨S20480, .f32⟩
  | .hbm, ⟨25, _⟩ => ⟨S20480x1, .f32⟩
  | .hbm, ⟨26, _⟩ => ⟨S_, .f32⟩
  | .hbm, ⟨27, _⟩ => ⟨S20480x1, .f32⟩
  | .hbm, ⟨28, _⟩ => ⟨S20480x1, .f32⟩
  | .hbm, ⟨29, _⟩ => ⟨S20480x1024, .f32⟩
  | .hbm, ⟨30, _⟩ => ⟨S20480x1024, .f32⟩
  | .hbm, ⟨31, _⟩ => ⟨S20480x1024, .f32⟩
  | .hbm, ⟨32, _⟩ => ⟨S_, .f32⟩
  | .hbm, ⟨33, _⟩ => ⟨S20480, .f32⟩
  | .hbm, ⟨34, _⟩ => ⟨S20480x1, .f32⟩
  | .hbm, ⟨35, _⟩ => ⟨S_, .f32⟩
  | .hbm, ⟨36, _⟩ => ⟨S20480x1, .f32⟩
  | .hbm, ⟨37, _⟩ => ⟨S20480x1, .f32⟩
  | .hbm, ⟨38, _⟩ => ⟨S20480x1024, .f32⟩
  | .hbm, ⟨39, _⟩ => ⟨S20480x1024, .f32⟩
  | .hbm, ⟨40, _⟩ => ⟨S_, .f32⟩
  | .hbm, ⟨41, _⟩ => ⟨S20480x1, .f32⟩
  | .hbm, ⟨42, _⟩ => ⟨S20480x1, .f32⟩
  | .hbm, ⟨43, _⟩ => ⟨S20480x1, .f32⟩
  | .hbm, ⟨44, _⟩ => ⟨S20480x1024, .f32⟩
  | .hbm, ⟨45, _⟩ => ⟨S20480x1024, .f32⟩
  | .hbm, ⟨46, _⟩ => ⟨S1x1024, .f32⟩
  | .hbm, ⟨47, _⟩ => ⟨S20480x1024, .f32⟩
  | .hbm, ⟨48, _⟩ => ⟨S20480x1024, .f32⟩
  | .hbm, ⟨49, _⟩ => ⟨S1x1024, .f32⟩
  | .hbm, ⟨50, _⟩ => ⟨S20480x1024, .f32⟩
  | .hbm, ⟨51, _⟩ => ⟨S20480x1024, .f32⟩
  | _, _ => ⟨S20480x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]
-- ==== Kernel3.lean ====
abbrev S20480x1024 : Shape := ⟨2, ![20480, 1024]⟩
abbrev S16x6x1024 : Shape := ⟨3, ![16, 6, 1024]⟩
abbrev S1024x2048 : Shape := ⟨2, ![1024, 2048]⟩
abbrev S2048 : Shape := ⟨1, ![2048]⟩
abbrev S1024 : Shape := ⟨1, ![1024]⟩
abbrev S8x128x128 : Shape := ⟨3, ![8, 128, 128]⟩
abbrev S8x128 : Shape := ⟨2, ![8, 128]⟩
abbrev S1024x1024 : Shape := ⟨2, ![1024, 1024]⟩
abbrev S8x128x1 : Shape := ⟨3, ![8, 128, 1]⟩
abbrev S1x2048 : Shape := ⟨2, ![1, 2048]⟩
abbrev S1x1024 : Shape := ⟨2, ![1, 1024]⟩
abbrev S256x1024 : Shape := ⟨2, ![256, 1024]⟩
abbrev S1x6x1024 : Shape := ⟨3, ![1, 6, 1024]⟩
abbrev S1x1x1024 : Shape := ⟨3, ![1, 1, 1024]⟩
abbrev S256x2048 : Shape := ⟨2, ![256, 2048]⟩
abbrev S256 : Shape := ⟨1, ![256]⟩
abbrev S256x1 : Shape := ⟨2, ![256, 1]⟩
abbrev S1x128x128 : Shape := ⟨3, ![1, 128, 128]⟩
abbrev S128x128 : Shape := ⟨2, ![128, 128]⟩

abbrev nBuf : Space → Nat
  | .hbm => 22
  | .vmem => 16
  | .smem => 0
  | _ => 0

abbrev bufTy : (tb : Table) → Fin (tcTables nBuf tb) → BufTy
  | .hbm, ⟨0, _⟩ => ⟨S20480x1024, .f32⟩
  | .hbm, ⟨1, _⟩ => ⟨S16x6x1024, .f32⟩
  | .hbm, ⟨2, _⟩ => ⟨S1024x2048, .f32⟩
  | .hbm, ⟨3, _⟩ => ⟨S2048, .f32⟩
  | .hbm, ⟨4, _⟩ => ⟨S1024, .f32⟩
  | .hbm, ⟨5, _⟩ => ⟨S1024, .f32⟩
  | .hbm, ⟨6, _⟩ => ⟨S8x128x128, .f32⟩
  | .hbm, ⟨7, _⟩ => ⟨S8x128, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S8x128x1, .f32⟩
  | .hbm, ⟨12, _⟩ => ⟨S8x128x128, .f32⟩
  | .hbm, ⟨13, _⟩ => ⟨S1024x2048, .bf16⟩
  | .hbm, ⟨14, _⟩ => ⟨S1x2048, .f32⟩
  | .hbm, ⟨15, _⟩ => ⟨S1x1024, .f32⟩
  | .hbm, ⟨16, _⟩ => ⟨S1x1024, .f32⟩
  | .hbm, ⟨17, _⟩ => ⟨S8x128x128, .bf16⟩
  | .hbm, ⟨18, _⟩ => ⟨S1024x1024, .bf16⟩
  | .hbm, ⟨19, _⟩ => ⟨S1x1024, .f32⟩
  | .hbm, ⟨20, _⟩ => ⟨S1x1024, .f32⟩
  | .hbm, ⟨21, _⟩ => ⟨S20480x1024, .f32⟩
  | .local _ .vmem, ⟨0, _⟩ => ⟨S256x1024, .f32⟩
  | .local _ .vmem, ⟨1, _⟩ => ⟨S256x1024, .f32⟩
  | .local _ .vmem, ⟨2, _⟩ => ⟨S1x6x1024, .f32⟩
  | .local _ .vmem, ⟨3, _⟩ => ⟨S1x6x1024, .f32⟩
  | .local _ .vmem, ⟨4, _⟩ => ⟨S1024x2048, .bf16⟩
  | .local _ .vmem, ⟨5, _⟩ => ⟨S1x2048, .f32⟩
  | .local _ .vmem, ⟨6, _⟩ => ⟨S1x1024, .f32⟩
  | .local _ .vmem, ⟨7, _⟩ => ⟨S1x1024, .f32⟩
  | .local _ .vmem, ⟨8, _⟩ => ⟨S8x128x128, .bf16⟩
  | .local _ .vmem, ⟨9, _⟩ => ⟨S8x128x128, .f32⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | _, _ => ⟨S20480x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S20480x1024 : Shape := ⟨2, ![20480, 1024]⟩
abbrev S16x6x1024 : Shape := ⟨3, ![16, 6, 1024]⟩
abbrev S1024x2048 : Shape := ⟨2, ![1024, 2048]⟩
abbrev S2048 : Shape := ⟨1, ![2048]⟩
abbrev S1024 : Shape := ⟨1, ![1024]⟩
abbrev S8x128x128 : Shape := ⟨3, ![8, 128, 128]⟩
abbrev S8x128 : Shape := ⟨2, ![8, 128]⟩
abbrev S1024x1024 : Shape := ⟨2, ![1024, 1024]⟩
abbrev S1x6x1024 : Shape := ⟨3, ![1, 6, 1024]⟩
abbrev S6x1024 : Shape := ⟨2, ![6, 1024]⟩
abbrev S4096x6x1024 : Shape := ⟨3, ![4096, 6, 1024]⟩
abbrev S8x6x1024 : Shape := ⟨3, ![8, 6, 1024]⟩
abbrev S8x1x6x1024 : Shape := ⟨4, ![8, 1, 6, 1024]⟩
abbrev S8x2048x6x1024 : Shape := ⟨4, ![8, 2048, 6, 1024]⟩
abbrev S16384x6x1024 : Shape := ⟨3, ![16384, 6, 1024]⟩
abbrev S20480x6x1024 : Shape := ⟨3, ![20480, 6, 1024]⟩
abbrev S20480x1x1024 : Shape := ⟨3, ![20480, 1, 1024]⟩
abbrev S_ : Shape := ⟨0, ![]⟩
abbrev S20480x2048 : Shape := ⟨2, ![20480, 2048]⟩
abbrev S1x2048 : Shape := ⟨2, ![1, 2048]⟩
abbrev S20480 : Shape := ⟨1, ![20480]⟩
abbrev S20480x1 : Shape := ⟨2, ![20480, 1]⟩
abbrev S1x1024 : Shape := ⟨2, ![1, 1024]⟩
abbrev S160x128x8x128 : Shape := ⟨4, ![160, 128, 8, 128]⟩
abbrev S8x160x128x128 : Shape := ⟨4, ![8, 160, 128, 128]⟩
abbrev S128x8 : Shape := ⟨2, ![128, 8]⟩
abbrev S1x128x8x1 : Shape := ⟨4, ![1, 128, 8, 1]⟩

abbrev nBuf : Space → Nat
  | .hbm => 126
  | .vmem => 0
  | .smem => 0
  | _ => 0

abbrev bufTy : (tb : Table) → Fin (tcTables nBuf tb) → BufTy
  | .hbm, ⟨0, _⟩ => ⟨S20480x1024, .f32⟩
  | .hbm, ⟨1, _⟩ => ⟨S16x6x1024, .f32⟩
  | .hbm, ⟨2, _⟩ => ⟨S1024x2048, .f32⟩
  | .hbm, ⟨3, _⟩ => ⟨S2048, .f32⟩
  | .hbm, ⟨4, _⟩ => ⟨S1024, .f32⟩
  | .hbm, ⟨5, _⟩ => ⟨S1024, .f32⟩
  | .hbm, ⟨6, _⟩ => ⟨S8x128x128, .f32⟩
  | .hbm, ⟨7, _⟩ => ⟨S8x128, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1x6x1024, .f32⟩
  | .hbm, ⟨12, _⟩ => ⟨S6x1024, .f32⟩
  | .hbm, ⟨13, _⟩ => ⟨S4096x6x1024, .f32⟩
  | .hbm, ⟨14, _⟩ => ⟨S8x6x1024, .f32⟩
  | .hbm, ⟨15, _⟩ => ⟨S8x1x6x1024, .f32⟩
  | .hbm, ⟨16, _⟩ => ⟨S8x2048x6x1024, .f32⟩
  | .hbm, ⟨17, _⟩ => ⟨S16384x6x1024, .f32⟩
  | .hbm, ⟨18, _⟩ => ⟨S20480x6x1024, .f32⟩
  | .hbm, ⟨19, _⟩ => ⟨S20480x1x1024, .f32⟩
  | .hbm, ⟨20, _⟩ => ⟨S20480x1024, .f32⟩
  | .hbm, ⟨21, _⟩ => ⟨S_, .f32⟩
  | .hbm, ⟨22, _⟩ => ⟨S20480x1024, .f32⟩
  | .hbm, ⟨23, _⟩ => ⟨S20480x1024, .f32⟩
  | .hbm, ⟨24, _⟩ => ⟨S20480x1024, .f32⟩
  | .hbm, ⟨25, _⟩ => ⟨S20480x1x1024, .f32⟩
  | .hbm, ⟨26, _⟩ => ⟨S20480x1024, .f32⟩
  | .hbm, ⟨27, _⟩ => ⟨S20480x1024, .f32⟩
  | .hbm, ⟨28, _⟩ => ⟨S20480x2048, .f32⟩
  | .hbm, ⟨29, _⟩ => ⟨S1x2048, .f32⟩
  | .hbm, ⟨30, _⟩ => ⟨S20480x2048, .f32⟩
  | .hbm, ⟨31, _⟩ => ⟨S20480x2048, .f32⟩
  | .hbm, ⟨32, _⟩ => ⟨S20480x2048, .f32⟩
  | .hbm, ⟨33, _⟩ => ⟨S20480x2048, .f32⟩
  | .hbm, ⟨34, _⟩ => ⟨S_, .f32⟩
  | .hbm, ⟨35, _⟩ => ⟨S20480x2048, .f32⟩
  | .hbm, ⟨36, _⟩ => ⟨S20480x2048, .f32⟩
  | .hbm, ⟨37, _⟩ => ⟨S20480x2048, .f32⟩
  | .hbm, ⟨38, _⟩ => ⟨S_, .f32⟩
  | .hbm, ⟨39, _⟩ => ⟨S20480x2048, .f32⟩
  | .hbm, ⟨40, _⟩ => ⟨S20480x2048, .f32⟩
  | .hbm, ⟨41, _⟩ => ⟨S20480x2048, .f32⟩
  | .hbm, ⟨42, _⟩ => ⟨S_, .f32⟩
  | .hbm, ⟨43, _⟩ => ⟨S20480x2048, .f32⟩
  | .hbm, ⟨44, _⟩ => ⟨S20480x2048, .f32⟩
  | .hbm, ⟨45, _⟩ => ⟨S_, .f32⟩
  | .hbm, ⟨46, _⟩ => ⟨S20480x2048, .f32⟩
  | .hbm, ⟨47, _⟩ => ⟨S20480x2048, .f32⟩
  | .hbm, ⟨48, _⟩ => ⟨S20480x2048, .f32⟩
  | .hbm, ⟨49, _⟩ => ⟨S20480x1024, .f32⟩
  | .hbm, ⟨50, _⟩ => ⟨S20480x1024, .f32⟩
  | .hbm, ⟨51, _⟩ => ⟨S_, .f32⟩
  | .hbm, ⟨52, _⟩ => ⟨S20480, .f32⟩
  | .hbm, ⟨53, _⟩ => ⟨S20480x1, .f32⟩
  | .hbm, ⟨54, _⟩ => ⟨S_, .f32⟩
  | .hbm, ⟨55, _⟩ => ⟨S20480x1, .f32⟩
  | .hbm, ⟨56, _⟩ => ⟨S20480x1, .f32⟩
  | .hbm, ⟨57, _⟩ => ⟨S20480x1024, .f32⟩
  | .hbm, ⟨58, _⟩ => ⟨S20480x1024, .f32⟩
  | .hbm, ⟨59, _⟩ => ⟨S20480x1024, .f32⟩
  | .hbm, ⟨60, _⟩ => ⟨S_, .f32⟩
  | .hbm, ⟨61, _⟩ => ⟨S20480, .f32⟩
  | .hbm, ⟨62, _⟩ => ⟨S20480x1, .f32⟩
  | .hbm, ⟨63, _⟩ => ⟨S_, .f32⟩
  | .hbm, ⟨64, _⟩ => ⟨S20480x1, .f32⟩
  | .hbm, ⟨65, _⟩ => ⟨S20480x1, .f32⟩
  | .hbm, ⟨66, _⟩ => ⟨S20480x1024, .f32⟩
  | .hbm, ⟨67, _⟩ => ⟨S20480x1024, .f32⟩
  | .hbm, ⟨68, _⟩ => ⟨S_, .f32⟩
  | .hbm, ⟨69, _⟩ => ⟨S20480x1, .f32⟩
  | .hbm, ⟨70, _⟩ => ⟨S20480x1, .f32⟩
  | .hbm, ⟨71, _⟩ => ⟨S20480x1, .f32⟩
  | .hbm, ⟨72, _⟩ => ⟨S20480x1024, .f32⟩
  | .hbm, ⟨73, _⟩ => ⟨S20480x1024, .f32⟩
  | .hbm, ⟨74, _⟩ => ⟨S1x1024, .f32⟩
  | .hbm, ⟨75, _⟩ => ⟨S20480x1024, .f32⟩
  | .hbm, ⟨76, _⟩ => ⟨S20480x1024, .f32⟩
  | .hbm, ⟨77, _⟩ => ⟨S1x1024, .f32⟩
  | .hbm, ⟨78, _⟩ => ⟨S20480x1024, .f32⟩
  | .hbm, ⟨79, _⟩ => ⟨S20480x1024, .f32⟩
  | .hbm, ⟨80, _⟩ => ⟨S160x128x8x128, .f32⟩
  | .hbm, ⟨81, _⟩ => ⟨S8x160x128x128, .f32⟩
  | .hbm, ⟨82, _⟩ => ⟨S160x128x8x128, .f32⟩
  | .hbm, ⟨83, _⟩ => ⟨S128x8, .f32⟩
  | .hbm, ⟨84, _⟩ => ⟨S1x128x8x1, .f32⟩
  | .hbm, ⟨85, _⟩ => ⟨S160x128x8x128, .f32⟩
  | .hbm, ⟨86, _⟩ => ⟨S160x128x8x128, .f32⟩
  | .hbm, ⟨87, _⟩ => ⟨S20480x1024, .f32⟩
  | .hbm, ⟨88, _⟩ => ⟨S20480x1024, .f32⟩
  | .hbm, ⟨89, _⟩ => ⟨S20480x1024, .f32⟩
  | .hbm, ⟨90, _⟩ => ⟨S_, .f32⟩
  | .hbm, ⟨91, _⟩ => ⟨S20480x1024, .f32⟩
  | .hbm, ⟨92, _⟩ => ⟨S20480x1024, .f32⟩
  | .hbm, ⟨93, _⟩ => ⟨S20480x1x1024, .f32⟩
  | .hbm, ⟨94, _⟩ => ⟨S20480x1024, .f32⟩
  | .hbm, ⟨95, _⟩ => ⟨S20480x1024, .f32⟩
  | .hbm, ⟨96, _⟩ => ⟨S20480x1024, .f32⟩
  | .hbm, ⟨97, _⟩ => ⟨S_, .f32⟩
  | .hbm, ⟨98, _⟩ => ⟨S20480, .f32⟩
  | .hbm, ⟨99, _⟩ => ⟨S20480x1, .f32⟩
  | .hbm, ⟨100, _⟩ => ⟨S_, .f32⟩
  | .hbm, ⟨101, _⟩ => ⟨S20480x1, .f32⟩
  | .hbm, ⟨102, _⟩ => ⟨S20480x1, .f32⟩
  | .hbm, ⟨103, _⟩ => ⟨S20480x1024, .f32⟩
  | .hbm, ⟨104, _⟩ => ⟨S20480x1024, .f32⟩
  | .hbm, ⟨105, _⟩ => ⟨S20480x1024, .f32⟩
  | .hbm, ⟨106, _⟩ => ⟨S_, .f32⟩
  | .hbm, ⟨107, _⟩ => ⟨S20480, .f32⟩
  | .hbm, ⟨108, _⟩ => ⟨S20480x1, .f32⟩
  | .hbm, ⟨109, _⟩ => ⟨S_, .f32⟩
  | .hbm, ⟨110, _⟩ => ⟨S20480x1, .f32⟩
  | .hbm, ⟨111, _⟩ => ⟨S20480x1, .f32⟩
  | .hbm, ⟨112, _⟩ => ⟨S20480x1024, .f32⟩
  | .hbm, ⟨113, _⟩ => ⟨S20480x1024, .f32⟩
  | .hbm, ⟨114, _⟩ => ⟨S_, .f32⟩
  | .hbm, ⟨115, _⟩ => ⟨S20480x1, .f32⟩
  | .hbm, ⟨116, _⟩ => ⟨S20480x1, .f32⟩
  | .hbm, ⟨117, _⟩ => ⟨S20480x1, .f32⟩
  | .hbm, ⟨118, _⟩ => ⟨S20480x1024, .f32⟩
  | .hbm, ⟨119, _⟩ => ⟨S20480x1024, .f32⟩
  | .hbm, ⟨120, _⟩ => ⟨S1x1024, .f32⟩
  | .hbm, ⟨121, _⟩ => ⟨S20480x1024, .f32⟩
  | .hbm, ⟨122, _⟩ => ⟨S20480x1024, .f32⟩
  | .hbm, ⟨123, _⟩ => ⟨S1x1024, .f32⟩
  | .hbm, ⟨124, _⟩ => ⟨S20480x1024, .f32⟩
  | .hbm, ⟨125, _⟩ => ⟨S20480x1024, .f32⟩
  | _, _ => ⟨S20480x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_1 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_2 : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_4 : Ref sig .tc := ⟨.hbm, 51, rfl⟩
abbrev main_v35 : Ref sig .tc := ⟨.hbm, 52, rfl⟩
abbrev main_v36 : Ref sig .tc := ⟨.hbm, 53, rfl⟩
abbrev main_cst_5 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_6 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_8 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_9 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_cst_10 : Ref sig .tc := ⟨.hbm, 97, rfl⟩
abbrev main_v75 : Ref sig .tc := ⟨.hbm, 98, rfl⟩
abbrev main_v76 : Ref sig .tc := ⟨.hbm, 99, rfl⟩
abbrev main_cst_11 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_cst_12 : Ref sig .tc := ⟨.hbm, 106, rfl⟩
abbrev main_v82 : Ref sig .tc := ⟨.hbm, 107, rfl⟩
abbrev main_v83 : Ref sig .tc := ⟨.hbm, 108, rfl⟩
abbrev main_cst_13 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_14 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩

abbrev nD : Nat := 1
abbrev τ : Topo := Topo.v7x

variable {F : FTy → Type} [FloatOps F]
-- ==== Kernel4.lean ====
abbrev S4x64 : Shape := ⟨2, ![4, 64]⟩
abbrev S128 : Shape := ⟨1, ![128]⟩
abbrev S20480x2048 : Shape := ⟨2, ![20480, 2048]⟩
abbrev S20480x1024 : Shape := ⟨2, ![20480, 1024]⟩
abbrev S8x256x1024 : Shape := ⟨3, ![8, 256, 1024]⟩
abbrev S1x128 : Shape := ⟨2, ![1, 128]⟩
abbrev S16384x1024 : Shape := ⟨2, ![16384, 1024]⟩
abbrev S256x2048 : Shape := ⟨2, ![256, 2048]⟩
abbrev S2048x1024 : Shape := ⟨2, ![2048, 1024]⟩
abbrev S1x256x1024 : Shape := ⟨3, ![1, 256, 1024]⟩
abbrev S256x1024 : Shape := ⟨2, ![256, 1024]⟩
abbrev S1x64 : Shape := ⟨2, ![1, 64]⟩
abbrev S1 : Shape := ⟨1, ![1]⟩
abbrev S1x1 : Shape := ⟨2, ![1, 1]⟩
abbrev S2048x128 : Shape := ⟨2, ![2048, 128]⟩
abbrev S1x256x128 : Shape := ⟨3, ![1, 256, 128]⟩
abbrev S256x128 : Shape := ⟨2, ![256, 128]⟩
abbrev S256x256 : Shape := ⟨2, ![256, 256]⟩
abbrev S256 : Shape := ⟨1, ![256]⟩
abbrev S256x1 : Shape := ⟨2, ![256, 1]⟩

abbrev nBuf : Space → Nat
  | .hbm => 9
  | .vmem => 14
  | .smem => 0
  | _ => 0

abbrev bufTy : (tb : Table) → Fin (tcTables nBuf tb) → BufTy
  | .hbm, ⟨0, _⟩ => ⟨S4x64, .f32⟩
  | .hbm, ⟨1, _⟩ => ⟨S128, .f32⟩
  | .hbm, ⟨2, _⟩ => ⟨S20480x2048, .bf16⟩
  | .hbm, ⟨3, _⟩ => ⟨S20480x1024, .bf16⟩
  | .hbm, ⟨4, _⟩ => ⟨S20480x1024, .bf16⟩
  | .hbm, ⟨5, _⟩ => ⟨S8x256x1024, .bf16⟩
  | .hbm, ⟨6, _⟩ => ⟨S8x256x1024, .bf16⟩
  | .hbm, ⟨7, _⟩ => ⟨S1x128, .f32⟩
  | .hbm, ⟨8, _⟩ => ⟨S16384x1024, .bf16⟩
  | .local _ .vmem, ⟨0, _⟩ => ⟨S4x64, .f32⟩
  | .local _ .vmem, ⟨1, _⟩ => ⟨S1x128, .f32⟩
  | .local _ .vmem, ⟨2, _⟩ => ⟨S256x2048, .bf16⟩
  | .local _ .vmem, ⟨3, _⟩ => ⟨S256x2048, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x256x1024, .bf16⟩
  | .local _ .vmem, ⟨11, _⟩ => ⟨S1x256x1024, .bf16⟩
  | .local _ .vmem, ⟨12, _⟩ => ⟨S256x1024, .bf16⟩
  | .local _ .vmem, ⟨13, _⟩ => ⟨S256x1024, .bf16⟩
  | _, _ => ⟨S4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c16_i32 : BitVec 32 := 16#32
  let v1 : BitVec 32 := Scalar.addi c16_i32 v0
  let v2 : BitVec 32 := Scalar.addi v1 arg1
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference4Ideal.lean ====
abbrev S4x64 : Shape := ⟨2, ![4, 64]⟩
abbrev S128 : Shape := ⟨1, ![128]⟩
abbrev S20480x2048 : Shape := ⟨2, ![20480, 2048]⟩
abbrev S20480x1024 : Shape := ⟨2, ![20480, 1024]⟩
abbrev S8x256x1024 : Shape := ⟨3, ![8, 256, 1024]⟩
abbrev S1x64 : Shape := ⟨2, ![1, 64]⟩
abbrev S64 : Shape := ⟨1, ![64]⟩
abbrev S_ : Shape := ⟨0, ![]⟩
abbrev S16384x2048 : Shape := ⟨2, ![16384, 2048]⟩
abbrev S8x2048x8x2x128 : Shape := ⟨5, ![8, 2048, 8, 2, 128]⟩
abbrev S16384x1024 : Shape := ⟨2, ![16384, 1024]⟩
abbrev S8x2048x8x128 : Shape := ⟨4, ![8, 2048, 8, 128]⟩
abbrev S8x256x8x128 : Shape := ⟨4, ![8, 256, 8, 128]⟩
abbrev S8x2304x8x128 : Shape := ⟨4, ![8, 2304, 8, 128]⟩
abbrev S8x8x2304x2048x2 : Shape := ⟨5, ![8, 8, 2304, 2048, 2]⟩
abbrev S8x8x2x2048x2304 : Shape := ⟨5, ![8, 8, 2, 2048, 2304]⟩
abbrev S8x8x2x2048 : Shape := ⟨4, ![8, 8, 2, 2048]⟩
abbrev S8x8x2x2048x1 : Shape := ⟨5, ![8, 8, 2, 2048, 1]⟩
abbrev S8x8x1x2048x2304 : Shape := ⟨5, ![8, 8, 1, 2048, 2304]⟩
abbrev S8x8x2048x2304 : Shape := ⟨4, ![8, 8, 2048, 2304]⟩
abbrev S8x8x128x2048 : Shape := ⟨4, ![8, 8, 128, 2048]⟩
abbrev S8x2048x8 : Shape := ⟨3, ![8, 2048, 8]⟩
abbrev S8x2048x8x1 : Shape := ⟨4, ![8, 2048, 8, 1]⟩
abbrev S1x1x1x128 : Shape := ⟨4, ![1, 1, 1, 128]⟩

abbrev nBuf : Space → Nat
  | .hbm => 87
  | .vmem => 0
  | .smem => 0
  | _ => 0

abbrev bufTy : (tb : Table) → Fin (tcTables nBuf tb) → BufTy
  | .hbm, ⟨0, _⟩ => ⟨S4x64, .f32⟩
  | .hbm, ⟨1, _⟩ => ⟨S128, .f32⟩
  | .hbm, ⟨2, _⟩ => ⟨S20480x2048, .bf16⟩
  | .hbm, ⟨3, _⟩ => ⟨S20480x1024, .bf16⟩
  | .hbm, ⟨4, _⟩ => ⟨S20480x1024, .bf16⟩
  | .hbm, ⟨5, _⟩ => ⟨S8x256x1024, .bf16⟩
  | .hbm, ⟨6, _⟩ => ⟨S8x256x1024, .bf16⟩
  | .hbm, ⟨7, _⟩ => ⟨S20480x2048, .f32⟩
  | .hbm, ⟨8, _⟩ => ⟨S20480x1024, .f32⟩
  | .hbm, ⟨9, _⟩ => ⟨S20480x1024, .f32⟩
  | .hbm, ⟨10, _⟩ => ⟨S8x256x1024, .f32⟩
  | .hbm, ⟨11, _⟩ => ⟨S8x256x1024, .f32⟩
  | .hbm, ⟨12, _⟩ => ⟨S1x64, .f32⟩
  | .hbm, ⟨13, _⟩ => ⟨S64, .f32⟩
  | .hbm, ⟨14, _⟩ => ⟨S1x64, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S1x64, .f32⟩
  | .hbm, ⟨21, _⟩ => ⟨S64, .f32⟩
  | .hbm, ⟨22, _⟩ => ⟨S1x64, .f32⟩
  | .hbm, ⟨23, _⟩ => ⟨S64, .f32⟩
  | .hbm, ⟨24, _⟩ => ⟨S64, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S16384x2048, .f32⟩
  | .hbm, ⟨32, _⟩ => ⟨S8x2048x8x2x128, .f32⟩
  | .hbm, ⟨33, _⟩ => ⟨S16384x1024, .f32⟩
  | .hbm, ⟨34, _⟩ => ⟨S8x2048x8x128, .f32⟩
  | .hbm, ⟨35, _⟩ => ⟨S8x256x8x128, .f32⟩
  | .hbm, ⟨36, _⟩ => ⟨S8x2304x8x128, .f32⟩
  | .hbm, ⟨37, _⟩ => ⟨S16384x1024, .f32⟩
  | .hbm, ⟨38, _⟩ => ⟨S8x2048x8x128, .f32⟩
  | .hbm, ⟨39, _⟩ => ⟨S8x256x8x128, .f32⟩
  | .hbm, ⟨40, _⟩ => ⟨S8x2304x8x128, .f32⟩
  | .hbm, ⟨41, _⟩ => ⟨S8x8x2304x2048x2, .f32⟩
  | .hbm, ⟨42, _⟩ => ⟨S8x8x2x2048x2304, .f32⟩
  | .hbm, ⟨43, _⟩ => ⟨S_, .f32⟩
  | .hbm, ⟨44, _⟩ => ⟨S8x8x2x2048, .f32⟩
  | .hbm, ⟨45, _⟩ => ⟨S_, .f32⟩
  | .hbm, ⟨46, _⟩ => ⟨S8x8x2x2048, .f32⟩
  | .hbm, ⟨47, _⟩ => ⟨S8x8x2x2048, .f32⟩
  | .hbm, ⟨48, _⟩ => ⟨S8x8x2x2048x1, .f32⟩
  | .hbm, ⟨49, _⟩ => ⟨S8x8x2x2048x2304, .f32⟩
  | .hbm, ⟨50, _⟩ => ⟨S8x8x2x2048x2304, .f32⟩
  | .hbm, ⟨51, _⟩ => ⟨S8x8x2x2048x2304, .f32⟩
  | .hbm, ⟨52, _⟩ => ⟨S_, .f32⟩
  | .hbm, ⟨53, _⟩ => ⟨S8x8x2x2048, .f32⟩
  | .hbm, ⟨54, _⟩ => ⟨S8x8x2x2048x1, .f32⟩
  | .hbm, ⟨55, _⟩ => ⟨S8x8x2x2048x2304, .f32⟩
  | .hbm, ⟨56, _⟩ => ⟨S8x8x2x2048x2304, .f32⟩
  | .hbm, ⟨57, _⟩ => ⟨S8x8x1x2048x2304, .f32⟩
  | .hbm, ⟨58, _⟩ => ⟨S8x8x2048x2304, .f32⟩
  | .hbm, ⟨59, _⟩ => ⟨S8x8x1x2048x2304, .f32⟩
  | .hbm, ⟨60, _⟩ => ⟨S8x8x2048x2304, .f32⟩
  | .hbm, ⟨61, _⟩ => ⟨S8x8x2048x2304, .f32⟩
  | .hbm, ⟨62, _⟩ => ⟨S8x8x2048x2304, .f32⟩
  | .hbm, ⟨63, _⟩ => ⟨S8x8x2048x2304, .f32⟩
  | .hbm, ⟨64, _⟩ => ⟨S8x8x128x2048, .f32⟩
  | .hbm, ⟨65, _⟩ => ⟨S8x2048x8x128, .f32⟩
  | .hbm, ⟨66, _⟩ => ⟨S8x2048x8x128, .f32⟩
  | .hbm, ⟨67, _⟩ => ⟨S_, .f32⟩
  | .hbm, ⟨68, _⟩ => ⟨S8x2048x8, .f32⟩
  | .hbm, ⟨69, _⟩ => ⟨S8x2048x8x1, .f32⟩
  | .hbm, ⟨70, _⟩ => ⟨S_, .f32⟩
  | .hbm, ⟨71, _⟩ => ⟨S8x2048x8x1, .f32⟩
  | .hbm, ⟨72, _⟩ => ⟨S8x2048x8x1, .f32⟩
  | .hbm, ⟨73, _⟩ => ⟨S_, .f32⟩
  | .hbm, ⟨74, _⟩ => ⟨S8x2048x8x1, .f32⟩
  | .hbm, ⟨75, _⟩ => ⟨S8x2048x8x1, .f32⟩
  | .hbm, ⟨76, _⟩ => ⟨S8x2048x8x1, .f32⟩
  | .hbm, ⟨77, _⟩ => ⟨S8x2048x8x128, .f32⟩
  | .hbm, ⟨78, _⟩ => ⟨S8x2048x8x128, .f32⟩
  | .hbm, ⟨79, _⟩ => ⟨S1x1x1x128, .f32⟩
  | .hbm, ⟨80, _⟩ => ⟨S8x2048x8x128, .f32⟩
  | .hbm, ⟨81, _⟩ => ⟨S8x2048x8x128, .f32⟩
  | .hbm, ⟨82, _⟩ => ⟨S_, .f32⟩
  | .hbm, ⟨83, _⟩ => ⟨S8x2048x8x128, .f32⟩
  | .hbm, ⟨84, _⟩ => ⟨S8x2048x8x128, .f32⟩
  | .hbm, ⟨85, _⟩ => ⟨S16384x1024, .f32⟩
  | .hbm, ⟨86, _⟩ => ⟨S16384x1024, .bf16⟩
  | _, _ => ⟨S4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_2 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_4 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_5 : Ref sig .tc := ⟨.hbm, 67, rfl⟩
abbrev main_v54 : Ref sig .tc := ⟨.hbm, 68, rfl⟩
abbrev main_v55 : Ref sig .tc := ⟨.hbm, 69, rfl⟩
abbrev main_cst_6 : Ref sig .tc := ⟨.hbm, 70, rfl⟩
abbrev main_v56 : Ref sig .tc := ⟨.hbm, 71, rfl⟩
abbrev main_v57 : Ref sig .tc := ⟨.hbm, 72, rfl⟩
abbrev main_cst_7 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_cst_8 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩

abbrev nD : Nat := 1
abbrev τ : Topo := Topo.v7x

variable {F : FTy → Type} [FloatOps F]
-- ==== Kernel5.lean ====
abbrev S20480x1024 : Shape := ⟨2, ![20480, 1024]⟩
abbrev S1024x1024 : Shape := ⟨2, ![1024, 1024]⟩
abbrev S16x6x1024 : Shape := ⟨3, ![16, 6, 1024]⟩
abbrev S1024 : Shape := ⟨1, ![1024]⟩
abbrev S1x1024 : Shape := ⟨2, ![1, 1024]⟩
abbrev S512x1024 : Shape := ⟨2, ![512, 1024]⟩
abbrev S1x6x1024 : Shape := ⟨3, ![1, 6, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 9
  | .vmem => 11
  | .smem => 0
  | _ => 0

abbrev bufTy : (tb : Table) → Fin (tcTables nBuf tb) → BufTy
  | .hbm, ⟨0, _⟩ => ⟨S20480x1024, .bf16⟩
  | .hbm, ⟨1, _⟩ => ⟨S1024x1024, .bf16⟩
  | .hbm, ⟨2, _⟩ => ⟨S20480x1024, .f32⟩
  | .hbm, ⟨3, _⟩ => ⟨S16x6x1024, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S20480x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x6x1024, .f32⟩
  | .local _ .vmem, ⟨6, _⟩ => ⟨S1x6x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S20480x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S20480x1024 : Shape := ⟨2, ![20480, 1024]⟩
abbrev S1024x1024 : Shape := ⟨2, ![1024, 1024]⟩
abbrev S16x6x1024 : Shape := ⟨3, ![16, 6, 1024]⟩
abbrev S1024 : Shape := ⟨1, ![1024]⟩
abbrev S1x1x1024 : Shape := ⟨3, ![1, 1, 1024]⟩
abbrev S4096x1024 : Shape := ⟨2, ![4096, 1024]⟩
abbrev S8x1x1024 : Shape := ⟨3, ![8, 1, 1024]⟩
abbrev S8x1024 : Shape := ⟨2, ![8, 1024]⟩
abbrev S8x2048x1024 : Shape := ⟨3, ![8, 2048, 1024]⟩
abbrev S16384x1024 : Shape := ⟨2, ![16384, 1024]⟩
abbrev S_ : Shape := ⟨0, ![]⟩
abbrev S20480 : Shape := ⟨1, ![20480]⟩
abbrev S20480x1 : Shape := ⟨2, ![20480, 1]⟩
abbrev S1x1024 : Shape := ⟨2, ![1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S20480x1024, .bf16⟩
  | .hbm, ⟨1, _⟩ => ⟨S1024x1024, .bf16⟩
  | .hbm, ⟨2, _⟩ => ⟨S20480x1024, .f32⟩
  | .hbm, ⟨3, _⟩ => ⟨S16x6x1024, .f32⟩
  | .hbm, ⟨4, _⟩ => ⟨S1024, .f32⟩
  | .hbm, ⟨5, _⟩ => ⟨S1024, .f32⟩
  | .hbm, ⟨6, _⟩ => ⟨S20480x1024, .f32⟩
  | .hbm, ⟨7, _⟩ => ⟨S1024x1024, .f32⟩
  | .hbm, ⟨8, _⟩ => ⟨S20480x1024, .f32⟩
  | .hbm, ⟨9, _⟩ => ⟨S1x1x1024, .f32⟩
  | .hbm, ⟨10, _⟩ => ⟨S1024, .f32⟩
  | .hbm, ⟨11, _⟩ => ⟨S4096x1024, .f32⟩
  | .hbm, ⟨12, _⟩ => ⟨S8x1x1024, .f32⟩
  | .hbm, ⟨13, _⟩ => ⟨S8x1024, .f32⟩
  | .hbm, ⟨14, _⟩ => ⟨S8x1x1024, .f32⟩
  | .hbm, ⟨15, _⟩ => ⟨S8x2048x1024, .f32⟩
  | .hbm, ⟨16, _⟩ => ⟨S16384x1024, .f32⟩
  | .hbm, ⟨17, _⟩ => ⟨S20480x1024, .f32⟩
  | .hbm, ⟨18, _⟩ => ⟨S_, .f32⟩
  | .hbm, ⟨19, _⟩ => ⟨S20480x1024, .f32⟩
  | .hbm, ⟨20, _⟩ => ⟨S20480x1024, .f32⟩
  | .hbm, ⟨21, _⟩ => ⟨S20480x1024, .f32⟩
  | .hbm, ⟨22, _⟩ => ⟨S20480x1024, .f32⟩
  | .hbm, ⟨23, _⟩ => ⟨S_, .f32⟩
  | .hbm, ⟨24, _⟩ => ⟨S20480, .f32⟩
  | .hbm, ⟨25, _⟩ => ⟨S20480x1, .f32⟩
  | .hbm, ⟨26, _⟩ => ⟨S_, .f32⟩
  | .hbm, ⟨27, _⟩ => ⟨S20480x1, .f32⟩
  | .hbm, ⟨28, _⟩ => ⟨S20480x1, .f32⟩
  | .hbm, ⟨29, _⟩ => ⟨S20480x1024, .f32⟩
  | .hbm, ⟨30, _⟩ => ⟨S20480x1024, .f32⟩
  | .hbm, ⟨31, _⟩ => ⟨S20480x1024, .f32⟩
  | .hbm, ⟨32, _⟩ => ⟨S_, .f32⟩
  | .hbm, ⟨33, _⟩ => ⟨S20480, .f32⟩
  | .hbm, ⟨34, _⟩ => ⟨S20480x1, .f32⟩
  | .hbm, ⟨35, _⟩ => ⟨S_, .f32⟩
  | .hbm, ⟨36, _⟩ => ⟨S20480x1, .f32⟩
  | .hbm, ⟨37, _⟩ => ⟨S20480x1, .f32⟩
  | .hbm, ⟨38, _⟩ => ⟨S20480x1024, .f32⟩
  | .hbm, ⟨39, _⟩ => ⟨S20480x1024, .f32⟩
  | .hbm, ⟨40, _⟩ => ⟨S_, .f32⟩
  | .hbm, ⟨41, _⟩ => ⟨S20480x1, .f32⟩
  | .hbm, ⟨42, _⟩ => ⟨S20480x1, .f32⟩
  | .hbm, ⟨43, _⟩ => ⟨S20480x1, .f32⟩
  | .hbm, ⟨44, _⟩ => ⟨S20480x1024, .f32⟩
  | .hbm, ⟨45, _⟩ => ⟨S20480x1024, .f32⟩
  | .hbm, ⟨46, _⟩ => ⟨S1x1024, .f32⟩
  | .hbm, ⟨47, _⟩ => ⟨S20480x1024, .f32⟩
  | .hbm, ⟨48, _⟩ => ⟨S20480x1024, .f32⟩
  | .hbm, ⟨49, _⟩ => ⟨S1x1024, .f32⟩
  | .hbm, ⟨50, _⟩ => ⟨S20480x1024, .f32⟩
  | .hbm, ⟨51, _⟩ => ⟨S20480x1024, .f32⟩
  | _, _ => ⟨S20480x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]
-- ==== Kernel6.lean ====
abbrev S20480x1024 : Shape := ⟨2, ![20480, 1024]⟩
abbrev S16x6x1024 : Shape := ⟨3, ![16, 6, 1024]⟩
abbrev S1024x4096 : Shape := ⟨2, ![1024, 4096]⟩
abbrev S2 : Shape := ⟨1, ![2]⟩
abbrev S128x128 : Shape := ⟨2, ![128, 128]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S2048x32x2 : Shape := ⟨3, ![2048, 32, 2]⟩
abbrev S2048x64 : Shape := ⟨2, ![2048, 64]⟩
abbrev S1x2 : Shape := ⟨2, ![1, 2]⟩
abbrev S32x2 : Shape := ⟨2, ![32, 2]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S1x2048 : Shape := ⟨2, ![1, 2048]⟩
abbrev S1x1024 : Shape := ⟨2, ![1, 1024]⟩
abbrev S20480x2048 : Shape := ⟨2, ![20480, 2048]⟩
abbrev S256x1024 : Shape := ⟨2, ![256, 1024]⟩
abbrev S1x6x1024 : Shape := ⟨3, ![1, 6, 1024]⟩
abbrev S256x128 : Shape := ⟨2, ![256, 128]⟩
abbrev S256x2048 : Shape := ⟨2, ![256, 2048]⟩
abbrev S1x1x1024 : Shape := ⟨3, ![1, 1, 1024]⟩
abbrev S256x4096 : Shape := ⟨2, ![256, 4096]⟩

abbrev nBuf : Space → Nat
  | .hbm => 60
  | .vmem => 22
  | .smem => 0
  | _ => 0

abbrev bufTy : (tb : Table) → Fin (tcTables nBuf tb) → BufTy
  | .hbm, ⟨0, _⟩ => ⟨S20480x1024, .f32⟩
  | .hbm, ⟨1, _⟩ => ⟨S16x6x1024, .f32⟩
  | .hbm, ⟨2, _⟩ => ⟨S1024x4096, .bf16⟩
  | .hbm, ⟨3, _⟩ => ⟨S2, .f32⟩
  | .hbm, ⟨4, _⟩ => ⟨S128x128, .bf16⟩
  | .hbm, ⟨5, _⟩ => ⟨S32, .i32⟩
  | .hbm, ⟨6, _⟩ => ⟨S32x64, .i32⟩
  | .hbm, ⟨7, _⟩ => ⟨S2048, .i32⟩
  | .hbm, ⟨8, _⟩ => ⟨S2048, .f32⟩
  | .hbm, ⟨9, _⟩ => ⟨S64, .i32⟩
  | .hbm, ⟨10, _⟩ => ⟨S1x64, .i32⟩
  | .hbm, ⟨11, _⟩ => ⟨S32x64, .i32⟩
  | .hbm, ⟨12, _⟩ => ⟨S2048, .i32⟩
  | .hbm, ⟨13, _⟩ => ⟨S2048, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S2048x1, .f32⟩
  | .hbm, ⟨23, _⟩ => ⟨S1x16, .f32⟩
  | .hbm, ⟨24, _⟩ => ⟨S2048x16, .f32⟩
  | .hbm, ⟨25, _⟩ => ⟨S2048x16, .f32⟩
  | .hbm, ⟨26, _⟩ => ⟨S2048x16, .f32⟩
  | .hbm, ⟨27, _⟩ => ⟨S2048x1, .f32⟩
  | .hbm, ⟨28, _⟩ => ⟨S1x16, .f32⟩
  | .hbm, ⟨29, _⟩ => ⟨S2048x16, .f32⟩
  | .hbm, ⟨30, _⟩ => ⟨S2048x16, .f32⟩
  | .hbm, ⟨31, _⟩ => ⟨S2048x16, .f32⟩
  | .hbm, ⟨32, _⟩ => ⟨S2048x32, .f32⟩
  | .hbm, ⟨33, _⟩ => ⟨S2048x32, .f32⟩
  | .hbm, ⟨34, _⟩ => ⟨S2048x32x2, .f32⟩
  | .hbm, ⟨35, _⟩ => ⟨S2048x64, .f32⟩
  | .hbm, ⟨36, _⟩ => ⟨S2048x32, .f32⟩
  | .hbm, ⟨37, _⟩ => ⟨S2048x32x2, .f32⟩
  | .hbm, ⟨38, _⟩ => ⟨S2048x64, .f32⟩
  | .hbm, ⟨39, _⟩ => ⟨S1x2, .f32⟩
  | .hbm, ⟨40, _⟩ => ⟨S32x2, .f32⟩
  | .hbm, ⟨41, _⟩ => ⟨S64, .f32⟩
  | .hbm, ⟨42, _⟩ => ⟨S1x2048x1x64, .f32⟩
  | .hbm, ⟨43, _⟩ => ⟨S1x2048x2x64, .f32⟩
  | .hbm, ⟨44, _⟩ => ⟨S2048x128, .f32⟩
  | .hbm, ⟨45, _⟩ => ⟨S1x64, .f32⟩
  | .hbm, ⟨46, _⟩ => ⟨S2048x64, .f32⟩
  | .hbm, ⟨47, _⟩ => ⟨S2048x64, .f32⟩
  | .hbm, ⟨48, _⟩ => ⟨S1x2048x1x64, .f32⟩
  | .hbm, ⟨49, _⟩ => ⟨S1x2048x2x64, .f32⟩
  | .hbm, ⟨50, _⟩ => ⟨S2048x128, .f32⟩
  | .hbm, ⟨51, _⟩ => ⟨S_, .f32⟩
  | .hbm, ⟨52, _⟩ => ⟨S1x2048, .f32⟩
  | .hbm, ⟨53, _⟩ => ⟨S_, .f32⟩
  | .hbm, ⟨54, _⟩ => ⟨S1x1024, .f32⟩
  | .hbm, ⟨55, _⟩ => ⟨S20480x2048, .bf16⟩
  | .hbm, ⟨56, _⟩ => ⟨S20480x1024, .bf16⟩
  | .hbm, ⟨57, _⟩ => ⟨S20480x1024, .bf16⟩
  | .hbm, ⟨58, _⟩ => ⟨S20480x1024, .f32⟩
  | .hbm, ⟨59, _⟩ => ⟨S20480x1024, .f32⟩
  | .local _ .vmem, ⟨0, _⟩ => ⟨S256x1024, .f32⟩
  | .local _ .vmem, ⟨1, _⟩ => ⟨S256x1024, .f32⟩
  | .local _ .vmem, ⟨2, _⟩ => ⟨S1x6x1024, .f32⟩
  | .local _ .vmem, ⟨3, _⟩ => ⟨S1x6x1024, .f32⟩
  | .local _ .vmem, ⟨4, _⟩ => ⟨S1024x4096, .bf16⟩
  | .local _ .vmem, ⟨5, _⟩ => ⟨S128x128, .bf16⟩
  | .local _ .vmem, ⟨6, _⟩ => ⟨S1x2048, .f32⟩
  | .local _ .vmem, ⟨7, _⟩ => ⟨S1x1024, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x2048, .bf16⟩
  | .local _ .vmem, ⟨13, _⟩ => ⟨S256x2048, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | _, _ => ⟨S20480x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_cst_3 : Ref sig .tc := ⟨.hbm, 51, rfl⟩
abbrev main_v44 : Ref sig .tc := ⟨.hbm, 52, rfl⟩
abbrev main_cst_4 : Ref sig .tc := ⟨.hbm, 53, rfl⟩
abbrev main_v45 : Ref sig .tc := ⟨.hbm, 54, rfl⟩
abbrev main_v46_0 : Ref sig .tc := ⟨.hbm, 55, rfl⟩
abbrev main_v46_1 : Ref sig .tc := ⟨.hbm, 56, rfl⟩
abbrev main_v46_2 : Ref sig .tc := ⟨.hbm, 57, rfl⟩
abbrev main_v46_3 : Ref sig .tc := ⟨.hbm, 58, rfl⟩
abbrev main_v46_4 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let v12 : BitVec 32 := Scalar.select v0 c0_i32_4 v11
  let c0_i32_5 : BitVec 32 := 0#32
  let c0_i32_6 : BitVec 32 := 0#32
  ![v12.toNat, c0_i32_5.toNat]

def cc0_transform_7 (i : grid0.Coords) : Fin 2 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let v12 : BitVec 32 := Scalar.select v0 c0_i32_4 v11
  let c0_i32_5 : BitVec 32 := 0#32
  let c0_i32_6 : BitVec 32 := 0#32
  ![v12.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference6Ideal.lean ====
abbrev S20480x1024 : Shape := ⟨2, ![20480, 1024]⟩
abbrev S16x6x1024 : Shape := ⟨3, ![16, 6, 1024]⟩
abbrev S1024x4096 : Shape := ⟨2, ![1024, 4096]⟩
abbrev S1x6x1024 : Shape := ⟨3, ![1, 6, 1024]⟩
abbrev S6x1024 : Shape := ⟨2, ![6, 1024]⟩
abbrev S4096x6x1024 : Shape := ⟨3, ![4096, 6, 1024]⟩
abbrev S8x6x1024 : Shape := ⟨3, ![8, 6, 1024]⟩
abbrev S8x1x6x1024 : Shape := ⟨4, ![8, 1, 6, 1024]⟩
abbrev S8x2048x6x1024 : Shape := ⟨4, ![8, 2048, 6, 1024]⟩
abbrev S16384x6x1024 : Shape := ⟨3, ![16384, 6, 1024]⟩
abbrev S20480x6x1024 : Shape := ⟨3, ![20480, 6, 1024]⟩
abbrev S20480x1x1024 : Shape := ⟨3, ![20480, 1, 1024]⟩
abbrev S_ : Shape := ⟨0, ![]⟩
abbrev S20480x4096 : Shape := ⟨2, ![20480, 4096]⟩
abbrev S20480x2048 : Shape := ⟨2, ![20480, 2048]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S16384x2048 : Shape := ⟨2, ![16384, 2048]⟩
abbrev S8x2048x32x64 : Shape := ⟨4, ![8, 2048, 32, 64]⟩
abbrev S1x2048x1x32 : Shape := ⟨4, ![1, 2048, 1, 32]⟩
abbrev S8x2048x32x32x2 : Shape := ⟨5, ![8, 2048, 32, 32, 2]⟩
abbrev S8x2048x32x32x1 : Shape := ⟨5, ![8, 2048, 32, 32, 1]⟩
abbrev S8x2048x32x32 : Shape := ⟨4, ![8, 2048, 32, 32]⟩
abbrev S4096x2048 : Shape := ⟨2, ![4096, 2048]⟩
abbrev S16384x1024 : Shape := ⟨2, ![16384, 1024]⟩
abbrev S8x2048x16x64 : Shape := ⟨4, ![8, 2048, 16, 64]⟩
abbrev S8x2048x16x32x2 : Shape := ⟨5, ![8, 2048, 16, 32, 2]⟩
abbrev S8x2048x16x32x1 : Shape := ⟨5, ![8, 2048, 16, 32, 1]⟩
abbrev S8x2048x16x32 : Shape := ⟨4, ![8, 2048, 16, 32]⟩
abbrev S4096x1024 : Shape := ⟨2, ![4096, 1024]⟩

abbrev nBuf : Space → Nat
  | .hbm => 143
  | .vmem => 0
  | .smem => 0
  | _ => 0

abbrev hbmTy0_0 (i : Nat) : BufTy := match i % 128 with
  | 0 => ⟨S20480x1024, .f32⟩
  | 1 => ⟨S16x6x1024, .f32⟩
  | 2 => ⟨S1024x4096, .bf16⟩
  | 3 => ⟨S1x6x1024, .f32⟩
  | 4 => ⟨S6x1024, .f32⟩
  | 5 => ⟨S4096x6x1024, .f32⟩
  | 6 => ⟨S8x6x1024, .f32⟩
  | 7 => ⟨S8x1x6x1024, .f32⟩
  | 8 => ⟨S8x2048x6x1024, .f32⟩
  | 9 => ⟨S16384x6x1024, .f32⟩
  | 10 => ⟨S20480x6x1024, .f32⟩
  | 11 => ⟨S20480x1x1024, .f32⟩
  | 12 => ⟨S20480x1024, .f32⟩
  | 13 => ⟨S_, .f32⟩
  | 14 => ⟨S20480x1024, .f32⟩
  | 15 => ⟨S20480x1024, .f32⟩
  | 16 => ⟨S20480x1024, .f32⟩
  | 17 => ⟨S20480x1x1024, .f32⟩
  | 18 => ⟨S20480x1024, .f32⟩
  | 19 => ⟨S20480x1024, .f32⟩
  | 20 => ⟨S1024x4096, .f32⟩
  | 21 => ⟨S20480x4096, .f32⟩
  | 22 => ⟨S20480x2048, .f32⟩
  | 23 => ⟨S20480x1024, .f32⟩
  | 24 => ⟨S20480x1024, .f32⟩
  | 25 => ⟨S32, .i32⟩
  | 26 => ⟨S32x64, .i32⟩
  | 27 => ⟨S2048, .i32⟩
  | 28 => ⟨S2048, .f32⟩
  | 29 => ⟨S64, .i32⟩
  | 30 => ⟨S1x64, .i32⟩
  | 31 => ⟨S32x64, .i32⟩
  | 32 => ⟨S2048, .i32⟩
  | 33 => ⟨S2048, .f32⟩
  | 34 => ⟨S16, .f32⟩
  | 35 => ⟨S16, .f32⟩
  | 36 => ⟨S_, .f32⟩
  | 37 => ⟨S16, .f32⟩
  | 38 => ⟨S16, .f32⟩
  | 39 => ⟨S_, .f32⟩
  | 40 => ⟨S16, .f32⟩
  | 41 => ⟨S16, .f32⟩
  | 42 => ⟨S2048x1, .f32⟩
  | 43 => ⟨S1x16, .f32⟩
  | 44 => ⟨S2048x16, .f32⟩
  | 45 => ⟨S2048x16, .f32⟩
  | 46 => ⟨S2048x16, .f32⟩
  | 47 => ⟨S2048x1, .f32⟩
  | 48 => ⟨S1x16, .f32⟩
  | 49 => ⟨S2048x16, .f32⟩
  | 50 => ⟨S2048x16, .f32⟩
  | 51 => ⟨S2048x16, .f32⟩
  | 52 => ⟨S2048x32, .f32⟩
  | 53 => ⟨S2048x32, .f32⟩
  | 54 => ⟨S2048x32, .f32⟩
  | 55 => ⟨S16384x2048, .f32⟩
  | 56 => ⟨S8x2048x32x64, .f32⟩
  | 57 => ⟨S1x2048x1x32, .f32⟩
  | 58 => ⟨S1x2048x1x32, .f32⟩
  | 59 => ⟨S8x2048x32x32x2, .f32⟩
  | 60 => ⟨S8x2048x32x32x1, .f32⟩
  | 61 => ⟨S8x2048x32x32, .f32⟩
  | 62 => ⟨S8x2048x32x32x1, .f32⟩
  | 63 => ⟨S8x2048x32x32, .f32⟩
  | 64 => ⟨S8x2048x32x32, .f32⟩
  | 65 => ⟨S8x2048x32x32, .f32⟩
  | 66 => ⟨S8x2048x32x32, .f32⟩
  | 67 => ⟨S8x2048x32x32, .f32⟩
  | 68 => ⟨S8x2048x32x32, .f32⟩
  | 69 => ⟨S8x2048x32x32, .f32⟩
  | 70 => ⟨S8x2048x32x32, .f32⟩
  | 71 => ⟨S8x2048x32x32, .f32⟩
  | 72 => ⟨S8x2048x32x32, .f32⟩
  | 73 => ⟨S8x2048x32x32, .f32⟩
  | 74 => ⟨S8x2048x32x32x1, .f32⟩
  | 75 => ⟨S8x2048x32x32x1, .f32⟩
  | 76 => ⟨S8x2048x32x32x2, .f32⟩
  | 77 => ⟨S8x2048x32x64, .f32⟩
  | 78 => ⟨S4096x2048, .f32⟩
  | 79 => ⟨S16384x2048, .f32⟩
  | 80 => ⟨S20480x2048, .f32⟩
  | 81 => ⟨S_, .f32⟩
  | 82 => ⟨S20480x2048, .f32⟩
  | 83 => ⟨S20480x2048, .f32⟩
  | 84 => ⟨S20480x2048, .bf16⟩
  | 85 => ⟨S32, .i32⟩
  | 86 => ⟨S32x64, .i32⟩
  | 87 => ⟨S2048, .i32⟩
  | 88 => ⟨S2048, .f32⟩
  | 89 => ⟨S64, .i32⟩
  | 90 => ⟨S1x64, .i32⟩
  | 91 => ⟨S32x64, .i32⟩
  | 92 => ⟨S2048, .i32⟩
  | 93 => ⟨S2048, .f32⟩
  | 94 => ⟨S16, .f32⟩
  | 95 => ⟨S16, .f32⟩
  | 96 => ⟨S_, .f32⟩
  | 97 => ⟨S16, .f32⟩
  | 98 => ⟨S16, .f32⟩
  | 99 => ⟨S_, .f32⟩
  | 100 => ⟨S16, .f32⟩
  | 101 => ⟨S16, .f32⟩
  | 102 => ⟨S2048x1, .f32⟩
  | 103 => ⟨S1x16, .f32⟩
  | 104 => ⟨S2048x16, .f32⟩
  | 105 => ⟨S2048x16, .f32⟩
  | 106 => ⟨S2048x16, .f32⟩
  | 107 => ⟨S2048x1, .f32⟩
  | 108 => ⟨S1x16, .f32⟩
  | 109 => ⟨S2048x16, .f32⟩
  | 110 => ⟨S2048x16, .f32⟩
  | 111 => ⟨S2048x16, .f32⟩
  | 112 => ⟨S2048x32, .f32⟩
  | 113 => ⟨S2048x32, .f32⟩
  | 114 => ⟨S2048x32, .f32⟩
  | 115 => ⟨S16384x1024, .f32⟩
  | 116 => ⟨S8x2048x16x64, .f32⟩
  | 117 => ⟨S1x2048x1x32, .f32⟩
  | 118 => ⟨S1x2048x1x32, .f32⟩
  | 119 => ⟨S8x2048x16x32x2, .f32⟩
  | 120 => ⟨S8x2048x16x32x1, .f32⟩
  | 121 => ⟨S8x2048x16x32, .f32⟩
  | 122 => ⟨S8x2048x16x32x1, .f32⟩
  | 123 => ⟨S8x2048x16x32, .f32⟩
  | 124 => ⟨S8x2048x16x32, .f32⟩
  | 125 => ⟨S8x2048x16x32, .f32⟩
  | 126 => ⟨S8x2048x16x32, .f32⟩
  | 127 => ⟨S8x2048x16x32, .f32⟩
  | _ => ⟨S20480x1024, .f32⟩

abbrev hbmTy0_1 (i : Nat) : BufTy := match i % 128 with
  | 0 => ⟨S8x2048x16x32, .f32⟩
  | 1 => ⟨S8x2048x16x32, .f32⟩
  | 2 => ⟨S8x2048x16x32, .f32⟩
  | 3 => ⟨S8x2048x16x32, .f32⟩
  | 4 => ⟨S8x2048x16x32, .f32⟩
  | 5 => ⟨S8x2048x16x32, .f32⟩
  | 6 => ⟨S8x2048x16x32x1, .f32⟩
  | 7 => ⟨S8x2048x16x32x1, .f32⟩
  | 8 => ⟨S8x2048x16x32x2, .f32⟩
  | 9 => ⟨S8x2048x16x64, .f32⟩
  | 10 => ⟨S4096x1024, .f32⟩
  | 11 => ⟨S16384x1024, .f32⟩
  | 12 => ⟨S20480x1024, .f32⟩
  | 13 => ⟨S20480x1024, .bf16⟩
  | 14 => ⟨S20480x1024, .bf16⟩
  | _ => ⟨S20480x1024, .f32⟩

abbrev hbmTy (i : Nat) : BufTy := match i / 128 with
  | 0 => hbmTy0_0 i
  | 1 => hbmTy0_1 i
  | _ => ⟨S20480x1024, .f32⟩

abbrev bufTy : (tb : Table) → Fin (tcTables nBuf tb) → BufTy
  | .hbm, ⟨i, _⟩ => hbmTy i
  | _, _ => ⟨S20480x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_cst_0 : Ref sig .tc := ⟨.hbm, 36, rfl⟩
abbrev main_v32 : Ref sig .tc := ⟨.hbm, 37, rfl⟩
abbrev main_v33 : Ref sig .tc := ⟨.hbm, 38, rfl⟩
abbrev main_cst_1 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_cst_2 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_cst_3 : Ref sig .tc := ⟨.hbm, 96, rfl⟩
abbrev main_v89 : Ref sig .tc := ⟨.hbm, 97, rfl⟩
abbrev main_v90 : Ref sig .tc := ⟨.hbm, 98, rfl⟩
abbrev main_cst_4 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩

abbrev nD : Nat := 1
abbrev τ : Topo := Topo.v7x

variable {F : FTy → Type} [FloatOps F]
-- ==== Kernel7.lean ====
abbrev S20480x1024 : Shape := ⟨2, ![20480, 1024]⟩
abbrev S16x6x1024 : Shape := ⟨3, ![16, 6, 1024]⟩
abbrev S1024x2560 : Shape := ⟨2, ![1024, 2560]⟩
abbrev S1x2048 : Shape := ⟨2, ![1, 2048]⟩
abbrev S1x256 : Shape := ⟨2, ![1, 256]⟩
abbrev S2 : Shape := ⟨1, ![2]⟩
abbrev S128x128 : Shape := ⟨2, ![128, 128]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S2048x32x2 : Shape := ⟨3, ![2048, 32, 2]⟩
abbrev S2048x64 : Shape := ⟨2, ![2048, 64]⟩
abbrev S1x2 : Shape := ⟨2, ![1, 2]⟩
abbrev S32x2 : Shape := ⟨2, ![32, 2]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S20480x2048 : Shape := ⟨2, ![20480, 2048]⟩
abbrev S20480x256 : Shape := ⟨2, ![20480, 256]⟩
abbrev S256x1024 : Shape := ⟨2, ![256, 1024]⟩
abbrev S1x6x1024 : Shape := ⟨3, ![1, 6, 1024]⟩
abbrev S256x128 : Shape := ⟨2, ![256, 128]⟩
abbrev S256x2048 : Shape := ⟨2, ![256, 2048]⟩
abbrev S256x256 : Shape := ⟨2, ![256, 256]⟩
abbrev S1x1x1024 : Shape := ⟨3, ![1, 1, 1024]⟩
abbrev S1x1024 : Shape := ⟨2, ![1, 1024]⟩
abbrev S256x2560 : Shape := ⟨2, ![256, 2560]⟩
abbrev S1x128 : Shape := ⟨2, ![1, 128]⟩

abbrev nBuf : Space → Nat
  | .hbm => 58
  | .vmem => 22
  | .smem => 0
  | _ => 0

abbrev bufTy : (tb : Table) → Fin (tcTables nBuf tb) → BufTy
  | .hbm, ⟨0, _⟩ => ⟨S20480x1024, .f32⟩
  | .hbm, ⟨1, _⟩ => ⟨S16x6x1024, .f32⟩
  | .hbm, ⟨2, _⟩ => ⟨S1024x2560, .bf16⟩
  | .hbm, ⟨3, _⟩ => ⟨S1x2048, .f32⟩
  | .hbm, ⟨4, _⟩ => ⟨S1x256, .f32⟩
  | .hbm, ⟨5, _⟩ => ⟨S2, .f32⟩
  | .hbm, ⟨6, _⟩ => ⟨S128x128, .bf16⟩
  | .hbm, ⟨7, _⟩ => ⟨S32, .i32⟩
  | .hbm, ⟨8, _⟩ => ⟨S32x64, .i32⟩
  | .hbm, ⟨9, _⟩ => ⟨S2048, .i32⟩
  | .hbm, ⟨10, _⟩ => ⟨S2048, .f32⟩
  | .hbm, ⟨11, _⟩ => ⟨S64, .i32⟩
  | .hbm, ⟨12, _⟩ => ⟨S1x64, .i32⟩
  | .hbm, ⟨13, _⟩ => ⟨S32x64, .i32⟩
  | .hbm, ⟨14, _⟩ => ⟨S2048, .i32⟩
  | .hbm, ⟨15, _⟩ => ⟨S2048, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S2048x1, .f32⟩
  | .hbm, ⟨25, _⟩ => ⟨S1x16, .f32⟩
  | .hbm, ⟨26, _⟩ => ⟨S2048x16, .f32⟩
  | .hbm, ⟨27, _⟩ => ⟨S2048x16, .f32⟩
  | .hbm, ⟨28, _⟩ => ⟨S2048x16, .f32⟩
  | .hbm, ⟨29, _⟩ => ⟨S2048x1, .f32⟩
  | .hbm, ⟨30, _⟩ => ⟨S1x16, .f32⟩
  | .hbm, ⟨31, _⟩ => ⟨S2048x16, .f32⟩
  | .hbm, ⟨32, _⟩ => ⟨S2048x16, .f32⟩
  | .hbm, ⟨33, _⟩ => ⟨S2048x16, .f32⟩
  | .hbm, ⟨34, _⟩ => ⟨S2048x32, .f32⟩
  | .hbm, ⟨35, _⟩ => ⟨S2048x32, .f32⟩
  | .hbm, ⟨36, _⟩ => ⟨S2048x32x2, .f32⟩
  | .hbm, ⟨37, _⟩ => ⟨S2048x64, .f32⟩
  | .hbm, ⟨38, _⟩ => ⟨S2048x32, .f32⟩
  | .hbm, ⟨39, _⟩ => ⟨S2048x32x2, .f32⟩
  | .hbm, ⟨40, _⟩ => ⟨S2048x64, .f32⟩
  | .hbm, ⟨41, _⟩ => ⟨S1x2, .f32⟩
  | .hbm, ⟨42, _⟩ => ⟨S32x2, .f32⟩
  | .hbm, ⟨43, _⟩ => ⟨S64, .f32⟩
  | .hbm, ⟨44, _⟩ => ⟨S1x2048x1x64, .f32⟩
  | .hbm, ⟨45, _⟩ => ⟨S1x2048x2x64, .f32⟩
  | .hbm, ⟨46, _⟩ => ⟨S2048x128, .f32⟩
  | .hbm, ⟨47, _⟩ => ⟨S1x64, .f32⟩
  | .hbm, ⟨48, _⟩ => ⟨S2048x64, .f32⟩
  | .hbm, ⟨49, _⟩ => ⟨S2048x64, .f32⟩
  | .hbm, ⟨50, _⟩ => ⟨S1x2048x1x64, .f32⟩
  | .hbm, ⟨51, _⟩ => ⟨S1x2048x2x64, .f32⟩
  | .hbm, ⟨52, _⟩ => ⟨S2048x128, .f32⟩
  | .hbm, ⟨53, _⟩ => ⟨S20480x2048, .bf16⟩
  | .hbm, ⟨54, _⟩ => ⟨S20480x256, .bf16⟩
  | .hbm, ⟨55, _⟩ => ⟨S20480x256, .bf16⟩
  | .hbm, ⟨56, _⟩ => ⟨S20480x256, .f32⟩
  | .hbm, ⟨57, _⟩ => ⟨S20480x256, .f32⟩
  | .local _ .vmem, ⟨0, _⟩ => ⟨S256x1024, .f32⟩
  | .local _ .vmem, ⟨1, _⟩ => ⟨S256x1024, .f32⟩
  | .local _ .vmem, ⟨2, _⟩ => ⟨S1x6x1024, .f32⟩
  | .local _ .vmem, ⟨3, _⟩ => ⟨S1x6x1024, .f32⟩
  | .local _ .vmem, ⟨4, _⟩ => ⟨S1024x2560, .bf16⟩
  | .local _ .vmem, ⟨5, _⟩ => ⟨S128x128, .bf16⟩
  | .local _ .vmem, ⟨6, _⟩ => ⟨S1x2048, .f32⟩
  | .local _ .vmem, ⟨7, _⟩ => ⟨S1x256, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x2048, .bf16⟩
  | .local _ .vmem, ⟨13, _⟩ => ⟨S256x2048, .bf16⟩
  | .local _ .vmem, ⟨14, _⟩ => ⟨S256x256, .bf16⟩
  | .local _ .vmem, ⟨15, _⟩ => ⟨S256x256, .bf16⟩
  | .local _ .vmem, ⟨16, _⟩ => ⟨S256x256, .bf16⟩
  | .local _ .vmem, ⟨17, _⟩ => ⟨S256x256, .bf16⟩
  | .local _ .vmem, ⟨18, _⟩ => ⟨S256x256, .f32⟩
  | .local _ .vmem, ⟨19, _⟩ => ⟨S256x256, .f32⟩
  | .local _ .vmem, ⟨20, _⟩ => ⟨S256x256, .f32⟩
  | .local _ .vmem, ⟨21, _⟩ => ⟨S256x256, .f32⟩
  | _, _ => ⟨S20480x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44_0 : Ref sig .tc := ⟨.hbm, 53, rfl⟩
abbrev main_v44_1 : Ref sig .tc := ⟨.hbm, 54, rfl⟩
abbrev main_v44_2 : Ref sig .tc := ⟨.hbm, 55, rfl⟩
abbrev main_v44_3 : Ref sig .tc := ⟨.hbm, 56, rfl⟩
abbrev main_v44_4 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let v12 : BitVec 32 := Scalar.select v0 c0_i32_4 v11
  let c0_i32_5 : BitVec 32 := 0#32
  let c0_i32_6 : BitVec 32 := 0#32
  ![v12.toNat, c0_i32_5.toNat]

def cc0_transform_7 (i : grid0.Coords) : Fin 2 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let v12 : BitVec 32 := Scalar.select v0 c0_i32_4 v11
  let c0_i32_5 : BitVec 32 := 0#32
  let c0_i32_6 : BitVec 32 := 0#32
  ![v12.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference7Ideal.lean ====
abbrev S20480x1024 : Shape := ⟨2, ![20480, 1024]⟩
abbrev S16x6x1024 : Shape := ⟨3, ![16, 6, 1024]⟩
abbrev S1024x2560 : Shape := ⟨2, ![1024, 2560]⟩
abbrev S1x2048 : Shape := ⟨2, ![1, 2048]⟩
abbrev S1x256 : Shape := ⟨2, ![1, 256]⟩
abbrev S1x6x1024 : Shape := ⟨3, ![1, 6, 1024]⟩
abbrev S6x1024 : Shape := ⟨2, ![6, 1024]⟩
abbrev S4096x6x1024 : Shape := ⟨3, ![4096, 6, 1024]⟩
abbrev S8x6x1024 : Shape := ⟨3, ![8, 6, 1024]⟩
abbrev S8x1x6x1024 : Shape := ⟨4, ![8, 1, 6, 1024]⟩
abbrev S8x2048x6x1024 : Shape := ⟨4, ![8, 2048, 6, 1024]⟩
abbrev S16384x6x1024 : Shape := ⟨3, ![16384, 6, 1024]⟩
abbrev S20480x6x1024 : Shape := ⟨3, ![20480, 6, 1024]⟩
abbrev S20480x1x1024 : Shape := ⟨3, ![20480, 1, 1024]⟩
abbrev S_ : Shape := ⟨0, ![]⟩
abbrev S20480x2560 : Shape := ⟨2, ![20480, 2560]⟩
abbrev S20480x2048 : Shape := ⟨2, ![20480, 2048]⟩
abbrev S20480x32x64 : Shape := ⟨3, ![20480, 32, 64]⟩
abbrev S32x64 : Shape := ⟨2, ![32, 64]⟩
abbrev S20480x32 : Shape := ⟨2, ![20480, 32]⟩
abbrev S20480x32x1 : Shape := ⟨3, ![20480, 32, 1]⟩
abbrev S1x32x64 : Shape := ⟨3, ![1, 32, 64]⟩
abbrev S20480x256 : Shape := ⟨2, ![20480, 256]⟩
abbrev S20480x4x64 : Shape := ⟨3, ![20480, 4, 64]⟩
abbrev S4x64 : Shape := ⟨2, ![4, 64]⟩
abbrev S20480x4 : Shape := ⟨2, ![20480, 4]⟩
abbrev S20480x4x1 : Shape := ⟨3, ![20480, 4, 1]⟩
abbrev S1x4x64 : Shape := ⟨3, ![1, 4, 64]⟩
abbrev S32 : Shape := ⟨1, ![32]⟩
abbrev S2048 : Shape := ⟨1, ![2048]⟩
abbrev S64 : Shape := ⟨1, ![64]⟩
abbrev S1x64 : Shape := ⟨2, ![1, 64]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S16384x2048 : Shape := ⟨2, ![16384, 2048]⟩
abbrev S8x2048x32x64 : Shape := ⟨4, ![8, 2048, 32, 64]⟩
abbrev S1x2048x1x32 : Shape := ⟨4, ![1, 2048, 1, 32]⟩
abbrev S8x2048x32x32x2 : Shape := ⟨5, ![8, 2048, 32, 32, 2]⟩
abbrev S8x2048x32x32x1 : Shape := ⟨5, ![8, 2048, 32, 32, 1]⟩
abbrev S8x2048x32x32 : Shape := ⟨4, ![8, 2048, 32, 32]⟩
abbrev S4096x2048 : Shape := ⟨2, ![4096, 2048]⟩
abbrev S16384x256 : Shape := ⟨2, ![16384, 256]⟩
abbrev S8x2048x4x64 : Shape := ⟨4, ![8, 2048, 4, 64]⟩
abbrev S8x2048x4x32x2 : Shape := ⟨5, ![8, 2048, 4, 32, 2]⟩
abbrev S8x2048x4x32x1 : Shape := ⟨5, ![8, 2048, 4, 32, 1]⟩
abbrev S8x2048x4x32 : Shape := ⟨4, ![8, 2048, 4, 32]⟩
abbrev S4096x256 : Shape := ⟨2, ![4096, 256]⟩

abbrev nBuf : Space → Nat
  | .hbm => 183
  | .vmem => 0
  | .smem => 0
  | _ => 0

abbrev hbmTy0_0 (i : Nat) : BufTy := match i % 128 with
  | 0 => ⟨S20480x1024, .f32⟩
  | 1 => ⟨S16x6x1024, .f32⟩
  | 2 => ⟨S1024x2560, .bf16⟩
  | 3 => ⟨S1x2048, .f32⟩
  | 4 => ⟨S1x256, .f32⟩
  | 5 => ⟨S1x6x1024, .f32⟩
  | 6 => ⟨S6x1024, .f32⟩
  | 7 => ⟨S4096x6x1024, .f32⟩
  | 8 => ⟨S8x6x1024, .f32⟩
  | 9 => ⟨S8x1x6x1024, .f32⟩
  | 10 => ⟨S8x2048x6x1024, .f32⟩
  | 11 => ⟨S16384x6x1024, .f32⟩
  | 12 => ⟨S20480x6x1024, .f32⟩
  | 13 => ⟨S20480x1x1024, .f32⟩
  | 14 => ⟨S20480x1024, .f32⟩
  | 15 => ⟨S_, .f32⟩
  | 16 => ⟨S20480x1024, .f32⟩
  | 17 => ⟨S20480x1024, .f32⟩
  | 18 => ⟨S20480x1024, .f32⟩
  | 19 => ⟨S20480x1x1024, .f32⟩
  | 20 => ⟨S20480x1024, .f32⟩
  | 21 => ⟨S20480x1024, .f32⟩
  | 22 => ⟨S1024x2560, .f32⟩
  | 23 => ⟨S20480x2560, .f32⟩
  | 24 => ⟨S20480x2048, .f32⟩
  | 25 => ⟨S20480x32x64, .f32⟩
  | 26 => ⟨S32x64, .f32⟩
  | 27 => ⟨S20480x32x64, .f32⟩
  | 28 => ⟨S_, .f32⟩
  | 29 => ⟨S20480x32, .f32⟩
  | 30 => ⟨S20480x32x1, .f32⟩
  | 31 => ⟨S_, .f32⟩
  | 32 => ⟨S20480x32x1, .f32⟩
  | 33 => ⟨S20480x32x1, .f32⟩
  | 34 => ⟨S_, .f32⟩
  | 35 => ⟨S20480x32x1, .f32⟩
  | 36 => ⟨S20480x32x1, .f32⟩
  | 37 => ⟨S20480x32x1, .f32⟩
  | 38 => ⟨S20480x32x64, .f32⟩
  | 39 => ⟨S20480x32x64, .f32⟩
  | 40 => ⟨S1x32x64, .f32⟩
  | 41 => ⟨S20480x32x64, .f32⟩
  | 42 => ⟨S20480x32x64, .f32⟩
  | 43 => ⟨S20480x2048, .f32⟩
  | 44 => ⟨S20480x256, .f32⟩
  | 45 => ⟨S20480x4x64, .f32⟩
  | 46 => ⟨S4x64, .f32⟩
  | 47 => ⟨S20480x4x64, .f32⟩
  | 48 => ⟨S_, .f32⟩
  | 49 => ⟨S20480x4, .f32⟩
  | 50 => ⟨S20480x4x1, .f32⟩
  | 51 => ⟨S_, .f32⟩
  | 52 => ⟨S20480x4x1, .f32⟩
  | 53 => ⟨S20480x4x1, .f32⟩
  | 54 => ⟨S_, .f32⟩
  | 55 => ⟨S20480x4x1, .f32⟩
  | 56 => ⟨S20480x4x1, .f32⟩
  | 57 => ⟨S20480x4x1, .f32⟩
  | 58 => ⟨S20480x4x64, .f32⟩
  | 59 => ⟨S20480x4x64, .f32⟩
  | 60 => ⟨S1x4x64, .f32⟩
  | 61 => ⟨S20480x4x64, .f32⟩
  | 62 => ⟨S20480x4x64, .f32⟩
  | 63 => ⟨S20480x256, .f32⟩
  | 64 => ⟨S20480x256, .f32⟩
  | 65 => ⟨S32, .i32⟩
  | 66 => ⟨S32x64, .i32⟩
  | 67 => ⟨S2048, .i32⟩
  | 68 => ⟨S2048, .f32⟩
  | 69 => ⟨S64, .i32⟩
  | 70 => ⟨S1x64, .i32⟩
  | 71 => ⟨S32x64, .i32⟩
  | 72 => ⟨S2048, .i32⟩
  | 73 => ⟨S2048, .f32⟩
  | 74 => ⟨S16, .f32⟩
  | 75 => ⟨S16, .f32⟩
  | 76 => ⟨S_, .f32⟩
  | 77 => ⟨S16, .f32⟩
  | 78 => ⟨S16, .f32⟩
  | 79 => ⟨S_, .f32⟩
  | 80 => ⟨S16, .f32⟩
  | 81 => ⟨S16, .f32⟩
  | 82 => ⟨S2048x1, .f32⟩
  | 83 => ⟨S1x16, .f32⟩
  | 84 => ⟨S2048x16, .f32⟩
  | 85 => ⟨S2048x16, .f32⟩
  | 86 => ⟨S2048x16, .f32⟩
  | 87 => ⟨S2048x1, .f32⟩
  | 88 => ⟨S1x16, .f32⟩
  | 89 => ⟨S2048x16, .f32⟩
  | 90 => ⟨S2048x16, .f32⟩
  | 91 => ⟨S2048x16, .f32⟩
  | 92 => ⟨S2048x32, .f32⟩
  | 93 => ⟨S2048x32, .f32⟩
  | 94 => ⟨S2048x32, .f32⟩
  | 95 => ⟨S16384x2048, .f32⟩
  | 96 => ⟨S8x2048x32x64, .f32⟩
  | 97 => ⟨S1x2048x1x32, .f32⟩
  | 98 => ⟨S1x2048x1x32, .f32⟩
  | 99 => ⟨S8x2048x32x32x2, .f32⟩
  | 100 => ⟨S8x2048x32x32x1, .f32⟩
  | 101 => ⟨S8x2048x32x32, .f32⟩
  | 102 => ⟨S8x2048x32x32x1, .f32⟩
  | 103 => ⟨S8x2048x32x32, .f32⟩
  | 104 => ⟨S8x2048x32x32, .f32⟩
  | 105 => ⟨S8x2048x32x32, .f32⟩
  | 106 => ⟨S8x2048x32x32, .f32⟩
  | 107 => ⟨S8x2048x32x32, .f32⟩
  | 108 => ⟨S8x2048x32x32, .f32⟩
  | 109 => ⟨S8x2048x32x32, .f32⟩
  | 110 => ⟨S8x2048x32x32, .f32⟩
  | 111 => ⟨S8x2048x32x32, .f32⟩
  | 112 => ⟨S8x2048x32x32, .f32⟩
  | 113 => ⟨S8x2048x32x32, .f32⟩
  | 114 => ⟨S8x2048x32x32x1, .f32⟩
  | 115 => ⟨S8x2048x32x32x1, .f32⟩
  | 116 => ⟨S8x2048x32x32x2, .f32⟩
  | 117 => ⟨S8x2048x32x64, .f32⟩
  | 118 => ⟨S4096x2048, .f32⟩
  | 119 => ⟨S16384x2048, .f32⟩
  | 120 => ⟨S20480x2048, .f32⟩
  | 121 => ⟨S_, .f32⟩
  | 122 => ⟨S20480x2048, .f32⟩
  | 123 => ⟨S20480x2048, .f32⟩
  | 124 => ⟨S20480x2048, .bf16⟩
  | 125 => ⟨S32, .i32⟩
  | 126 => ⟨S32x64, .i32⟩
  | 127 => ⟨S2048, .i32⟩
  | _ => ⟨S20480x1024, .f32⟩

abbrev hbmTy0_1 (i : Nat) : BufTy := match i % 128 with
  | 0 => ⟨S2048, .f32⟩
  | 1 => ⟨S64, .i32⟩
  | 2 => ⟨S1x64, .i32⟩
  | 3 => ⟨S32x64, .i32⟩
  | 4 => ⟨S2048, .i32⟩
  | 5 => ⟨S2048, .f32⟩
  | 6 => ⟨S16, .f32⟩
  | 7 => ⟨S16, .f32⟩
  | 8 => ⟨S_, .f32⟩
  | 9 => ⟨S16, .f32⟩
  | 10 => ⟨S16, .f32⟩
  | 11 => ⟨S_, .f32⟩
  | 12 => ⟨S16, .f32⟩
  | 13 => ⟨S16, .f32⟩
  | 14 => ⟨S2048x1, .f32⟩
  | 15 => ⟨S1x16, .f32⟩
  | 16 => ⟨S2048x16, .f32⟩
  | 17 => ⟨S2048x16, .f32⟩
  | 18 => ⟨S2048x16, .f32⟩
  | 19 => ⟨S2048x1, .f32⟩
  | 20 => ⟨S1x16, .f32⟩
  | 21 => ⟨S2048x16, .f32⟩
  | 22 => ⟨S2048x16, .f32⟩
  | 23 => ⟨S2048x16, .f32⟩
  | 24 => ⟨S2048x32, .f32⟩
  | 25 => ⟨S2048x32, .f32⟩
  | 26 => ⟨S2048x32, .f32⟩
  | 27 => ⟨S16384x256, .f32⟩
  | 28 => ⟨S8x2048x4x64, .f32⟩
  | 29 => ⟨S1x2048x1x32, .f32⟩
  | 30 => ⟨S1x2048x1x32, .f32⟩
  | 31 => ⟨S8x2048x4x32x2, .f32⟩
  | 32 => ⟨S8x2048x4x32x1, .f32⟩
  | 33 => ⟨S8x2048x4x32, .f32⟩
  | 34 => ⟨S8x2048x4x32x1, .f32⟩
  | 35 => ⟨S8x2048x4x32, .f32⟩
  | 36 => ⟨S8x2048x4x32, .f32⟩
  | 37 => ⟨S8x2048x4x32, .f32⟩
  | 38 => ⟨S8x2048x4x32, .f32⟩
  | 39 => ⟨S8x2048x4x32, .f32⟩
  | 40 => ⟨S8x2048x4x32, .f32⟩
  | 41 => ⟨S8x2048x4x32, .f32⟩
  | 42 => ⟨S8x2048x4x32, .f32⟩
  | 43 => ⟨S8x2048x4x32, .f32⟩
  | 44 => ⟨S8x2048x4x32, .f32⟩
  | 45 => ⟨S8x2048x4x32, .f32⟩
  | 46 => ⟨S8x2048x4x32x1, .f32⟩
  | 47 => ⟨S8x2048x4x32x1, .f32⟩
  | 48 => ⟨S8x2048x4x32x2, .f32⟩
  | 49 => ⟨S8x2048x4x64, .f32⟩
  | 50 => ⟨S4096x256, .f32⟩
  | 51 => ⟨S16384x256, .f32⟩
  | 52 => ⟨S20480x256, .f32⟩
  | 53 => ⟨S20480x256, .bf16⟩
  | 54 => ⟨S20480x256, .bf16⟩
  | _ => ⟨S20480x1024, .f32⟩

abbrev hbmTy (i : Nat) : BufTy := match i / 128 with
  | 0 => hbmTy0_0 i
  | 1 => hbmTy0_1 i
  | _ => ⟨S20480x1024, .f32⟩

abbrev bufTy : (tb : Table) → Fin (tcTables nBuf tb) → BufTy
  | .hbm, ⟨i, _⟩ => hbmTy i
  | _, _ => ⟨S20480x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_v22 : Ref sig .tc := ⟨.hbm, 29, rfl⟩
abbrev main_v23 : Ref sig .tc := ⟨.hbm, 30, rfl⟩
abbrev main_cst_1 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_3 : Ref sig .tc := ⟨.hbm, 48, rfl⟩
abbrev main_v39 : Ref sig .tc := ⟨.hbm, 49, rfl⟩
abbrev main_v40 : Ref sig .tc := ⟨.hbm, 50, rfl⟩
abbrev main_cst_4 : Ref sig .tc := ⟨.hbm, 51, rfl⟩
abbrev main_v41 : Ref sig .tc := ⟨.hbm, 52, rfl⟩
abbrev main_v42 : Ref sig .tc := ⟨.hbm, 53, rfl⟩
abbrev main_cst_5 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_cst_6 : Ref sig .tc := ⟨.hbm, 76, rfl⟩
abbrev main_v64 : Ref sig .tc := ⟨.hbm, 77, rfl⟩
abbrev main_v65 : Ref sig .tc := ⟨.hbm, 78, rfl⟩
abbrev main_cst_7 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_cst_8 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_cst_9 : Ref sig .tc := ⟨.hbm, 136, rfl⟩
abbrev main_v121 : Ref sig .tc := ⟨.hbm, 137, rfl⟩
abbrev main_v122 : Ref sig .tc := ⟨.hbm, 138, rfl⟩
abbrev main_cst_10 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev main_v164 : Ref sig .tc := ⟨.hbm, 181, rfl⟩
abbrev main_v165 : Ref sig .tc := ⟨.hbm, 182, rfl⟩

abbrev nD : Nat := 1
abbrev τ : Topo := Topo.v7x

variable {F : FTy → Type} [FloatOps F]
-- ==== Proof.LayerNorm.lean ====
module

public import Idealize.ShloMosaic.PureOps.Ideal.Laws

@[expose] public section

noncomputable section

namespace Cert.LayerNorm

open Idealize.ShloMosaic
open scoped BigOperators

/-- The mean of a row of 1024 entries. -/
def mean (z : Fin 1024 → EReal) : EReal := Ideal.div (∑ k, z k) (Ideal.ofBits .f32 0x44800000#32)

/-- Entry `l` of the layer norm of a row: the deviation from the mean, times the reciprocal root of the mean square
    deviation (plus a small constant), times a gain, plus a bias. -/
def layerNorm (z : Fin 1024 → EReal) (g b : EReal) (l : Fin 1024) : EReal :=
  (z l - mean z) * Ideal.rsqrt (Ideal.div (∑ k, (z k - mean z) * (z k - mean z)) (Ideal.ofBits .f32 0x44800000#32)
    + Ideal.ofBits .f32 0x358637BD#32) * g + b

/-- The layer norms of equal rows. -/
theorem layerNorm_congr {z w : Fin 1024 → EReal} {g g' b b' : EReal} {l l' : Fin 1024} (h : ∀ k, z k = w k) (hg : g = g')
    (hb : b = b') (hl : l = l') : layerNorm z g b l = layerNorm w g' b' l' := by
  rw [funext h, hg, hb, hl]

end Cert.LayerNorm

end
-- ==== Proof.Tokens.lean ====
module

public import Idealize.ShloMosaic.PureOps.Ideal.Laws

@[expose] public section

namespace Cert.Tokens

/-- The number of the modulation row of a token: the first row is the prompt's, then one for each sequence of the sample. -/
def groupNum (i : ℕ) : ℕ := if i < 4096 then 0 else 1 + (i - 4096) / 2048

/-- There are nine of them. -/
theorem groupNum_lt {i : ℕ} (h : i < 20480) : groupNum i < 16 := by
  unfold groupNum; split <;> omega

/-- The modulation row of a token. -/
def group (i : Fin 20480) : Fin 16 := ⟨groupNum i, groupNum_lt i.isLt⟩

end Cert.Tokens
-- ==== Proof.ProjBlock.lean ====
module

public import proofs.«01_k».proof.Proof.Gen.Kernel2Ideal.Value
public import proofs.«01_k».proof.Proof.Gen.Kernel2Ideal.Frame
public import proofs.«01_k».proof.Proof.LayerNorm
public import proofs.«01_k».proof.Proof.Tokens
public import Idealize.ShloMosaic.Lib.Pipeline.ValueKit
public import Idealize.ShloMosaic.Lib.Pointwise

@[expose] public section

set_option maxRecDepth 16384
noncomputable section
namespace Cert.Kernel2Ideal.Value
open Cert.Kernel2Ideal Cert.Kernel2Ideal.Gen Cert.LayerNorm Idealize.ShloMosaic Idealize.ShloMosaic.TcCoe Idealize.SL.Sem
open Idealize.ShloMosaic.Pipeline (Dat)

/-- The body, read at an entry: the layer norm of the row of residuals plus gated projections. -/
theorem body_at (o : Vec Ideal S512x2048 .bf16) (w : Vec Ideal S2048x1024 .bf16) (x : Vec Ideal S512x1024 .f32)
    (gate : Vec Ideal S1x1x1024 .f32) (g b : Vec Ideal S1x1024 .f32) (i : Fin 512) (l : Fin 1024) :
    k0_pay1 (F := Ideal) o w x gate g b (ix2 i l)
      = layerNorm (fun k => Ideal.ofBits .f32 0x3FD744FD#32 * x (ix2 i k) + gate (ix3 0 0 k) * ∑ e : Fin 2048, o (ix2 i e) * w (ix2 e k))
          (g (ix2 0 l)) (b (ix2 0 l)) l := by
  unfold layerNorm mean
  pointwise [k0_pay1]
end Cert.Kernel2Ideal.Value
end
-- ==== Proof.ProjArray.lean ====
module

public import proofs.«01_k».proof.Proof.ProjBlock

@[expose] public section

set_option maxRecDepth 16384
noncomputable section
namespace Cert.Kernel2Ideal.Value
open Cert.Kernel2Ideal Cert.Kernel2Ideal.Gen Cert.LayerNorm Cert.Tokens Idealize.ShloMosaic Idealize.ShloMosaic.TcCoe Idealize.SL.Sem
open Idealize.ShloMosaic.Pipeline (Dat)
variable (m : (ℓ : Loc nD τ sig) → Buf (Elt Ideal) ℓ)

/-- Where each window stands at a grid point. -/
theorem idx : ∀ t : Fin cfg0.N, win0_0.index t = ![t.val, 0] ∧ win0_1.index t = ![0, 0] ∧ win0_2.index t = ![t.val, 0]
    ∧ win0_3.index t = ![if t.val < 8 then 0 else 1 + (t.val - 8) / 4, 0, 0] ∧ win0_4.index t = ![0, 0] ∧ win0_5.index t = ![0, 0]
    ∧ win0_6.index t = ![t.val, 0] :=
  (by decide +kernel : ∀ t : Fin grid0.N, _)

/-- The gains as the region finds them: the argument, as one row. -/
theorem V_main_v0 (c : Dev nD) : V m c main_v0 = shapeCast S1x1024 (m ((c : Thread nD τ).loc main_arg4)) shapeCasts_S1024_S1x1024 := by
  entry_read
  rfl

/-- The biases as the region finds them: the argument, as one row. -/
theorem V_main_v1 (c : Dev nD) : V m c main_v1 = shapeCast S1x1024 (m ((c : Thread nD τ).loc main_arg5)) shapeCasts_S1024_S1x1024 := by
  entry_read
  rfl

/-- The gains' block. -/
theorem gain_block (c : Dev nD) (t : Fin cfg0.N) (k : Fin 1024) :
    iblk m c 4 t (ix2 0 k) = m ((c : Thread nD τ).loc main_arg4) (ix1 k) := by
  blk_simp [iblk, idx t]
  rw [V_main_v0]
  pointwise
  blk_ext [idx t]

/-- The biases' block. -/
theorem bias_block (c : Dev nD) (t : Fin cfg0.N) (k : Fin 1024) :
    iblk m c 5 t (ix2 0 k) = m ((c : Thread nD τ).loc main_arg5) (ix1 k) := by
  blk_simp [iblk, idx t]
  rw [V_main_v1]
  pointwise
  blk_ext [idx t]

/-- THE RESULT, entry by entry, from the argument arrays. -/
def projected (o : Vec Ideal S20480x2048 .bf16) (w : Vec Ideal S2048x1024 .bf16) (x : Vec Ideal S20480x1024 .f32)
    (mods : Vec Ideal S16x6x1024 .f32) (g b : Vec Ideal S1024 .f32) (i : Fin 20480) (l : Fin 1024) : EReal :=
  layerNorm (fun k => Ideal.ofBits .f32 0x3FD744FD#32 * x (ix2 i k)
      + mods (ix3 (group i) 2 k) * ∑ e : Fin 2048, o (ix2 i e) * w (ix2 e k)) (g (ix1 l)) (b (ix1 l)) l

/-- A block's entry is the result's entry at the place the block has in the array. -/
theorem point (c : Dev nD) (t : Fin cfg0.N) (y : S512x1024.Idx) (i : S20480x1024.Idx)
    (h0 : (i 0 : ℕ) = t.val * 512 + y 0) (h1 : (i 1 : ℕ) = y 1) :
    out0_6 (iblk m c 0 t) (iblk m c 1 t) (iblk m c 2 t) (iblk m c 3 t) (iblk m c 4 t) (iblk m c 5 t) y
      = projected (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (i 0) (i 1) := by
  have ht : t.val < 40 := lt_of_lt_of_eq t.isLt N_0
  have hy : y 1 = i 1 := Fin.ext h1.symm
  unfold out0_6
  canon_tiles x h
  rw [eq_ix2 x]
  refine (body_at _ _ _ _ _ _ (x 0) (x 1)).trans (layerNorm_congr (fun k => ?_) ?_ ?_ ?_)
  · refine congrArg₂ (· + ·) (congrArg₂ (· * ·) rfl ?_) (congrArg₂ (· * ·) ?_ (Finset.sum_congr rfl fun e _ => congrArg₂ (· * ·) ?_ ?_))
    all_goals (pointwise; blk_ext [iblk, V, idx t, group, groupNum] <;> (split_ifs <;> omega))
  · pointwise
    exact (gain_block m c t _).trans (congrArg _ (congrArg ix1 (Fin.ext (by omega))))
  · pointwise
    exact (bias_block m c t _).trans (congrArg _ (congrArg ix1 (Fin.ext (by omega))))
  · exact Fin.ext (by omega)

/-- The output array after the run is the projection of the arguments. -/
theorem final (c : Dev nD) :
    (dats m 0 c).arrAt 6 cfg0.N = fun i : S20480x1024.Idx =>
      projected (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (i 0) (i 1) := by
  refine (dats m 0 c).arrAt_eq_of_covers 6 _ (by decide +kernel) fun t hf y => ?_
  blk_simp
  rw [after0_6]
  refine point m c t y _ ?_ ?_
  all_goals (blk_simp [idx t] <;> try omega)
end Cert.Kernel2Ideal.Value
end
-- ==== Proof.ProjReference.lean ====
module

public import proofs.«01_k».proof.Proof.Gen.Reference2Ideal.Run
public import proofs.«01_k».proof.Proof.LayerNorm
public import proofs.«01_k».proof.Proof.Tokens
public import Idealize.ShloMosaic.Lib.Pipeline.ValueKit
public import Idealize.ShloMosaic.Lib.Pointwise

@[expose] public section

set_option maxRecDepth 16384
noncomputable section
namespace Cert.Reference2Ideal.Value
open Cert.Reference2Ideal Cert.Reference2Ideal.Gen Cert.LayerNorm Cert.Tokens Idealize.ShloMosaic Idealize.ShloMosaic.TcCoe Idealize.SL.Sem

/-- The reference's rows before the layer norm: residuals plus gated projections. -/
def residual (o : FVec Ideal S20480x2048 .bf16) (w : FVec Ideal S2048x1024 .bf16) (x : FVec Ideal S20480x1024 .f32)
    (mods : FVec Ideal S16x6x1024 .f32) : FVec Ideal S20480x1024 .f32 :=
  addf (mulf (broadcastInDim S20480x1024 ![] bcast_S_S20480x1024 (constant S_ .f32 0x3FD744FD#32)) x)
    (mulf (concatenate S20480x1024 0 [⟨S4096x1024, (broadcastInDim S4096x1024 ![1] bcast_S1024_S4096x1024_1 (shapeCast _ (extractStridedSlice S1x1x1024 ![0, 2, 0] mods slices_S16x6x1024_S1x1x1024_0_2_0) shapeCasts_S1x1x1024_S1024))⟩, ⟨S16384x1024, (shapeCast _ (broadcastInDim S8x2048x1024 ![0, 1, 2] bcast_S8x1x1024_S8x2048x1024_0_1_2 (broadcastInDim S8x1x1024 ![0, 2] bcast_S8x1024_S8x1x1024_0_2 (shapeCast _ (extractStridedSlice S8x1x1024 ![1, 2, 0] mods slices_S16x6x1024_S8x1x1024_1_2_0) shapeCasts_S8x1x1024_S8x1024))) shapeCasts_S8x2048x1024_S16384x1024)⟩] concatenates_S4096x1024_S16384x1024_S20480x1024_d0)
      (Host.dotGeneral dot_S20480x2048_S2048x1024_S20480x1024_1_0_0_1_n_n none (extf .f32 o bitsLt_bf16_f32) (extf .f32 w bitsLt_bf16_f32)))

/-- The deviations of the rows from their means. -/
def deviation (z : FVec Ideal S20480x1024 .f32) : FVec Ideal S20480x1024 .f32 :=
  subf z (broadcastInDim S20480x1024 ![0, 1] bcast_S20480x1_S20480x1024_0_1 (Host.divf (broadcastInDim S20480x1 ![0] bcast_S20480_S20480x1_0
    (Host.reduceAdd z (constant S_ .f32 0x00000000#32) reducesTo_S20480x1024_S20480_d1 h_S_)) (broadcastInDim S20480x1 ![] bcast_S_S20480x1 (constant S_ .f32 0x44800000#32))))

/-- The reference's layer norm, from the deviations. -/
def norm (d : FVec Ideal S20480x1024 .f32) (g b : FVec Ideal S1024 .f32) : FVec Ideal S20480x1024 .f32 :=
  addf (mulf (mulf d (broadcastInDim S20480x1024 ![0, 1] bcast_S20480x1_S20480x1024_0_1 (Host.rsqrt (addf (Host.divf (broadcastInDim S20480x1 ![0] bcast_S20480_S20480x1_0
      (Host.reduceAdd (mulf d d) (constant S_ .f32 0x00000000#32) reducesTo_S20480x1024_S20480_d1 h_S_)) (broadcastInDim S20480x1 ![] bcast_S_S20480x1 (constant S_ .f32 0x44800000#32)))
      (broadcastInDim S20480x1 ![] bcast_S_S20480x1 (constant S_ .f32 0x358637BD#32))))))
    (broadcastInDim S20480x1024 ![0, 1] bcast_S1x1024_S20480x1024_0_1 (broadcastInDim S1x1024 ![1] bcast_S1024_S1x1024_1 g)))
    (broadcastInDim S20480x1024 ![0, 1] bcast_S1x1024_S20480x1024_0_1 (broadcastInDim S1x1024 ![1] bcast_S1024_S1x1024_1 b))

/-- The reference's result is these steps in turn. -/
theorem res_eq (m : (ℓ : Loc nD τ sig) → Buf (Elt Ideal) ℓ) (c : Dev nD) :
    res_out0 m c = norm (deviation (residual (m ((c.tc : Thread nD τ).loc main_arg0)) (m ((c.tc : Thread nD τ).loc main_arg1))
      (m ((c.tc : Thread nD τ).loc main_arg2)) (m ((c.tc : Thread nD τ).loc main_arg3)))) (m ((c.tc : Thread nD τ).loc main_arg4)) (m ((c.tc : Thread nD τ).loc main_arg5)) := by
  rfl

/-- The deviation, read at an entry. -/
theorem deviation_at (z : FVec Ideal S20480x1024 .f32) (i : Fin 20480) (l : Fin 1024) :
    deviation z (ix2 i l) = z (ix2 i l) - mean fun k => z (ix2 i k) := by
  unfold mean
  pointwise [deviation]

/-- The norm, read at an entry. -/
theorem norm_at (z : FVec Ideal S20480x1024 .f32) (g b : FVec Ideal S1024 .f32) (i : Fin 20480) (l : Fin 1024) :
    norm (deviation z) g b (ix2 i l) = layerNorm (fun k => z (ix2 i k)) (g (ix1 l)) (b (ix1 l)) l := by
  unfold layerNorm
  pointwise [norm]
  simp only [deviation_at]

/-- The rows before the layer norm, read at an entry. -/
theorem residual_at (o : FVec Ideal S20480x2048 .bf16) (w : FVec Ideal S2048x1024 .bf16) (x : FVec Ideal S20480x1024 .f32)
    (mods : FVec Ideal S16x6x1024 .f32) (i : Fin 20480) (l : Fin 1024) :
    residual o w x mods (ix2 i l) = Ideal.ofBits .f32 0x3FD744FD#32 * x (ix2 i l)
      + mods (ix3 (group i) 2 l) * ∑ e : Fin 2048, o (ix2 i e) * w (ix2 e l) := by
  pointwise [residual]
  congr 2
  split <;> rename_i h <;> (blk_ext [group, groupNum, h] <;> simp)
end Cert.Reference2Ideal.Value
end
-- ==== Proof.ProjClaims.lean ====
module

public import proofs.«01_k».proof.Defs
public import proofs.«01_k».proof.Proof.ProjArray
public import proofs.«01_k».proof.Proof.ProjReference
public import Idealize.ShloMosaic.Adequacy
public import Idealize.ShloMosaic.Init

@[expose] public section

set_option maxRecDepth 16384
noncomputable section
namespace Cert.Proj
open Idealize.ShloMosaic Idealize.SL.Sem Cert.LayerNorm Cert.Tokens
open Cert.Kernel2Ideal.Value (projected)
open Cert.Reference2Ideal.Value (norm deviation residual norm_at residual_at)

/-- THE EQUATION: the kernel's projection with its residual layer norm is the reference's, at every entry. -/
theorem equation {o o' : FVec Ideal Cert.Kernel2Ideal.S20480x2048 .bf16} {w w' : FVec Ideal Cert.Kernel2Ideal.S2048x1024 .bf16}
    {x x' : FVec Ideal Cert.Kernel2Ideal.S20480x1024 .f32} {mods mods' : FVec Ideal Cert.Kernel2Ideal.S16x6x1024 .f32}
    {g g' b b' : FVec Ideal Cert.Kernel2Ideal.S1024 .f32} (h0 : o' = o) (h1 : w' = w) (h2 : x' = x) (h3 : mods' = mods)
    (h4 : g' = g) (h5 : b' = b) :
    norm (deviation (residual o' w' x' mods')) g' b' = fun j => projected o w x mods g b (j 0) (j 1) := by
  subst h0 h1 h2 h3 h4 h5
  funext j
  rw [eq_ix2 j]
  refine (norm_at _ _ _ _ _).trans (layerNorm_congr (fun k => ?_) rfl rfl rfl)
  exact residual_at _ _ _ _ _ _

/-- The reference runs to its end and leaves its arguments and the semaphores as they were. -/
theorem frame_reference : quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

/-- The output projection with its residual layer norm: from arguments that agree, the kernel's result is the reference's. -/
theorem algebraic : algebraic_Kernel2Ideal_Reference2Ideal
    (hKernel2Ideal := Cert.Kernel2Ideal.Gen.facts) (hReference2Ideal := Cert.Reference2Ideal.Gen.facts) := by
  pair_intro
  · run_from Cert.Kernel2Ideal.Value.run_blocks m g
  · run_from Cert.Reference2Ideal.Value.run m' g'
    obtain ⟨h0, h1, h2, h3, h4, h5⟩ := hagree c
    refine ((Cert.Reference2Ideal.Value.res_eq m' c).trans ?_).trans (Cert.Kernel2Ideal.Value.final m c).symm
    exact equation h0 h1 h2 h3 h4 h5

end Cert.Proj
end
-- ==== Proof.Gelu.lean ====
module

public import Idealize.ShloMosaic.PureOps.Ideal.Laws

@[expose] public section

noncomputable section

namespace Cert.Gelu

open Idealize.ShloMosaic

/-- The Gaussian error linear unit in its hyperbolic tangent form. -/
def gelu (z : EReal) : EReal :=
  z * (Ideal.ofBits .f32 0x3F000000#32 * (Ideal.ofBits .f32 0x3F800000#32
    + Ideal.tanh (Ideal.ofBits .f32 0x3F4C422A#32 * (z + Ideal.ofBits .f32 0x3D372713#32 * (z * (z * z))))))

end Cert.Gelu

end
-- ==== Proof.GmlpBlock.lean ====
module

public import proofs.«01_k».proof.Proof.Gen.Kernel3Ideal.Value
public import proofs.«01_k».proof.Proof.Gen.Kernel3Ideal.Frame
public import proofs.«01_k».proof.Proof.LayerNorm
public import proofs.«01_k».proof.Proof.Gelu
public import proofs.«01_k».proof.Proof.Tokens
public import Idealize.ShloMosaic.Lib.Pipeline.ValueKit
public import Idealize.ShloMosaic.Lib.Pointwise

@[expose] public section

set_option maxRecDepth 16384
noncomputable section
namespace Cert.Kernel3Ideal.Value
open Cert.Kernel3Ideal Cert.Kernel3Ideal.Gen Cert.LayerNorm Cert.Gelu Idealize.ShloMosaic Idealize.ShloMosaic.TcCoe Idealize.SL.Sem
open Idealize.ShloMosaic.Pipeline (Dat)

/-- The hidden rows, read at an entry: the smooth rectifier of the modulated row times the first matrix, plus its bias. -/
theorem hidden_at (x : Vec Ideal S256x1024 .f32) (scale shift : Vec Ideal S1x1x1024 .f32) (w : Vec Ideal S1024x2048 .bf16)
    (b : Vec Ideal S1x2048 .f32) (i : Fin 256) (l : Fin 2048) :
    k0_pay2 (F := Ideal) x scale shift w b (ix2 i l)
      = gelu ((∑ k : Fin 1024, (x (ix2 i k) * (Ideal.ofBits .f32 0x3F800000#32 + scale (ix3 0 0 k)) + shift (ix3 0 0 k)) * w (ix2 k l)) + b (ix2 0 l)) := by
  unfold gelu
  pointwise [k0_pay2]

/-- The first half of the hidden rows. -/
theorem first_at (x : Vec Ideal S256x1024 .f32) (scale shift : Vec Ideal S1x1x1024 .f32) (w : Vec Ideal S1024x2048 .bf16)
    (b : Vec Ideal S1x2048 .f32) (i : Fin 256) (l : Fin 1024) :
    k0_pay3 (F := Ideal) x scale shift w b (ix2 i l) = k0_pay2 (F := Ideal) x scale shift w b (ix2 i ⟨l, by omega⟩) := by
  unfold k0_pay3
  pointwise

/-- The second half of the hidden rows. -/
theorem second_at (x : Vec Ideal S256x1024 .f32) (scale shift : Vec Ideal S1x1x1024 .f32) (w : Vec Ideal S1024x2048 .bf16)
    (b : Vec Ideal S1x2048 .f32) (i : Fin 256) (l : Fin 1024) :
    k0_pay4 (F := Ideal) x scale shift w b (ix2 i l) = k0_pay2 (F := Ideal) x scale shift w b (ix2 i ⟨1024 + l, by omega⟩) := by
  unfold k0_pay4
  pointwise

/-- The layer norm of the second half, read at an entry. -/
theorem normed_at (v : Vec Ideal S256x1024 .f32) (g b : Vec Ideal S1x1024 .f32) (i : Fin 256) (l : Fin 1024) :
    k0_pay6 (F := Ideal) v (k0_pay5 (F := Ideal) g) b (ix2 i l)
      = layerNorm (fun k => v (ix2 i k)) (g (ix2 0 l)) (b (ix2 0 l)) l := by
  unfold layerNorm mean
  pointwise [k0_pay6, k0_pay5]

/-- One tile of the gated rows, read at an entry: the first half times the mix of the second half's tokens plus its bias. -/
theorem tile_at (u v : FVec Ideal S256x1024 .f32) (w : FVec Ideal S1x128x128 .bf16) (b : FVec Ideal S1x128x128 .f32) (r e : ℕ)
    (hr : r + 128 ≤ 256) (he : e + 128 ≤ 1024) (hs : S256x1024.Slices ![r, e] S128x128) (i l : Fin 128) :
    shapeCast S128x128 (truncf .bf16 (mulf (extractStridedSlice S128x128 ![r, e] u hs)
      (addf (matmul dot_S128x128_S128x128_S128x128_1_0_0_1_n_n none (shapeCast S128x128 w shapeCasts_S1x128x128_S128x128)
          (truncf .bf16 (extractStridedSlice S128x128 ![r, e] v hs) bitsLt_bf16_f32) (constant S128x128 .f32 0x00000000#32))
        (shapeCast S128x128 b shapeCasts_S1x128x128_S128x128))) bitsLt_bf16_f32) shapeCasts_S128x128_S128x128 (ix2 i l)
      = u (ix2 ⟨r + i, by omega⟩ ⟨e + l, by omega⟩) * ((∑ q : Fin 128, w (ix3 0 i q) * v (ix2 ⟨r + q, by omega⟩ ⟨e + l, by omega⟩))
          + b (ix3 0 i l)) := by
  pointwise

/-- The result's block, read at an entry: the layer norm of residuals plus gated projections. -/
theorem body_at (x : Vec Ideal S256x1024 .f32) (s : Vec Ideal S256x1024 .bf16) (w : Vec Ideal S1024x1024 .bf16)
    (gate : Vec Ideal S1x1x1024 .f32) (g b : Vec Ideal S1x1024 .f32) (i : Fin 256) (l : Fin 1024) :
    k0_pay1 (F := Ideal) x (k0_pay29 (F := Ideal) s w) (FloatOps.ofBits .f32 0x3FD744FD#32) gate g b (ix2 i l)
      = layerNorm (fun k => Ideal.ofBits .f32 0x3FD744FD#32 * x (ix2 i k) + gate (ix3 0 0 k) * ∑ e : Fin 1024, s (ix2 i e) * w (ix2 e k))
          (g (ix2 0 l)) (b (ix2 0 l)) l := by
  unfold layerNorm mean
  pointwise [k0_pay1, k0_pay29]
end Cert.Kernel3Ideal.Value
end
-- ==== Proof.GmlpArray.lean ====
module

public import proofs.«01_k».proof.Proof.GmlpBlock

@[expose] public section

set_option maxRecDepth 16384
noncomputable section
namespace Cert.Kernel3Ideal.Value
open Cert.Kernel3Ideal Cert.Kernel3Ideal.Gen Cert.LayerNorm Cert.Gelu Cert.Tokens Idealize.ShloMosaic Idealize.ShloMosaic.TcCoe Idealize.SL.Sem
open Idealize.ShloMosaic.Pipeline (Dat)
variable (m : (ℓ : Loc nD τ sig) → Buf (Elt Ideal) ℓ)

/-- Where each window stands at a grid point. -/
theorem idx : ∀ t : Fin cfg0.N, win0_0.index t = ![t.val, 0] ∧ win0_1.index t = ![if t.val < 16 then 0 else 1 + (t.val - 16) / 8, 0, 0]
    ∧ win0_2.index t = ![0, 0] ∧ win0_3.index t = ![0, 0] ∧ win0_4.index t = ![0, 0] ∧ win0_5.index t = ![0, 0]
    ∧ win0_6.index t = ![0, 0, 0] ∧ win0_7.index t = ![0, 0, 0] ∧ win0_8.index t = ![0, 0] ∧ win0_9.index t = ![0, 0]
    ∧ win0_10.index t = ![0, 0] ∧ win0_11.index t = ![t.val, 0] :=
  (by decide +kernel : ∀ t : Fin grid0.N, _)

/-- The mixing biases as the region finds them: the argument, the same in all 128 lanes of a group. -/
theorem V_main_v1 (c : Dev nD) : V m c main_v1 = broadcastInDim S8x128x128 ![0, 1, 2] bcast_S8x128x1_S8x128x128_0_1_2
    (broadcastInDim S8x128x1 ![0, 1] bcast_S8x128_S8x128x1_0_1 (m ((c : Thread nD τ).loc main_arg7))) := by
  entry_read
  rfl

/-- The first matrix as the region finds it. -/
theorem V_main_v2 (c : Dev nD) : V m c main_v2 = truncf (F := Ideal) .bf16 (m ((c : Thread nD τ).loc main_arg2)) bitsLt_bf16_f32 := by
  entry_read
  rfl

/-- The first bias as the region finds it: the argument, as one row. -/
theorem V_main_v3 (c : Dev nD) : V m c main_v3 = shapeCast S1x2048 (m ((c : Thread nD τ).loc main_arg3)) shapeCasts_S2048_S1x2048 := by
  entry_read
  rfl

/-- The inner gains as the region finds them. -/
theorem V_main_v4 (c : Dev nD) : V m c main_v4 = shapeCast S1x1024 (m ((c : Thread nD τ).loc main_arg4)) shapeCasts_S1024_S1x1024 := by
  entry_read
  rfl

/-- The inner biases as the region finds them. -/
theorem V_main_v5 (c : Dev nD) : V m c main_v5 = shapeCast S1x1024 (m ((c : Thread nD τ).loc main_arg5)) shapeCasts_S1024_S1x1024 := by
  entry_read
  rfl

/-- The mixing matrices as the region finds them. -/
theorem V_main_v6 (c : Dev nD) : V m c main_v6 = truncf (F := Ideal) .bf16 (m ((c : Thread nD τ).loc main_arg6)) bitsLt_bf16_f32 := by
  entry_read
  rfl

/-- The last matrix as the region finds it. -/
theorem V_main_v7 (c : Dev nD) : V m c main_v7 = truncf (F := Ideal) .bf16 (m ((c : Thread nD τ).loc main_arg8)) bitsLt_bf16_f32 := by
  entry_read
  rfl

/-- The last gains as the region finds them. -/
theorem V_main_v8 (c : Dev nD) : V m c main_v8 = shapeCast S1x1024 (m ((c : Thread nD τ).loc main_arg9)) shapeCasts_S1024_S1x1024 := by
  entry_read
  rfl

/-- The last biases as the region finds them. -/
theorem V_main_v9 (c : Dev nD) : V m c main_v9 = shapeCast S1x1024 (m ((c : Thread nD τ).loc main_arg10)) shapeCasts_S1024_S1x1024 := by
  entry_read
  rfl

/-- The rows' block. -/
theorem row_block (c : Dev nD) (t : Fin cfg0.N) (r : Fin 256) (i : Fin 20480) (hi : (i : ℕ) = t.val * 256 + r) (k : Fin 1024) :
    iblk m c 0 t (ix2 r k) = m ((c : Thread nD τ).loc main_arg0) (ix2 i k) := by
  blk_ext [iblk, V, idx t]

/-- The modulation's block: the rows of the token's own group. -/
theorem mods_block (c : Dev nD) (t : Fin cfg0.N) (r : Fin 256) (i : Fin 20480) (hi : (i : ℕ) = t.val * 256 + r) (s : Fin 6) (k : Fin 1024) :
    iblk m c 1 t (ix3 0 s k) = m ((c : Thread nD τ).loc main_arg1) (ix3 (group i) s k) := by
  have ht : t.val < 80 := lt_of_lt_of_eq t.isLt N_0
  blk_ext [iblk, V, idx t, group, groupNum] <;> (split_ifs <;> omega)

/-- The first matrix's block. -/
theorem matrix_block (c : Dev nD) (t : Fin cfg0.N) (k : Fin 1024) (l : Fin 2048) :
    iblk m c 2 t (ix2 k l) = m ((c : Thread nD τ).loc main_arg2) (ix2 k l) := by
  blk_simp [iblk, idx t]
  rw [V_main_v2]
  pointwise
  blk_ext [idx t]

/-- The first bias's block. -/
theorem bias_block (c : Dev nD) (t : Fin cfg0.N) (l : Fin 2048) :
    iblk m c 3 t (ix2 0 l) = m ((c : Thread nD τ).loc main_arg3) (ix1 l) := by
  blk_simp [iblk, idx t]
  rw [V_main_v3]
  pointwise
  blk_ext [idx t]

/-- The inner gains' block. -/
theorem innerGain_block (c : Dev nD) (t : Fin cfg0.N) (l : Fin 1024) :
    iblk m c 4 t (ix2 0 l) = m ((c : Thread nD τ).loc main_arg4) (ix1 l) := by
  blk_simp [iblk, idx t]
  rw [V_main_v4]
  pointwise
  blk_ext [idx t]

/-- The inner biases' block. -/
theorem innerBias_block (c : Dev nD) (t : Fin cfg0.N) (l : Fin 1024) :
    iblk m c 5 t (ix2 0 l) = m ((c : Thread nD τ).loc main_arg5) (ix1 l) := by
  blk_simp [iblk, idx t]
  rw [V_main_v5]
  pointwise
  blk_ext [idx t]

/-- The mixing matrices' block. -/
theorem mix_block (c : Dev nD) (t : Fin cfg0.N) (g : Fin 8) (p q : Fin 128) :
    iblk m c 6 t (ix3 g p q) = m ((c : Thread nD τ).loc main_arg6) (ix3 g p q) := by
  blk_simp [iblk, idx t]
  rw [V_main_v6]
  pointwise
  blk_ext [idx t]

/-- The mixing biases' block. -/
theorem mixBias_block (c : Dev nD) (t : Fin cfg0.N) (g : Fin 8) (p q : Fin 128) :
    iblk m c 7 t (ix3 g p q) = m ((c : Thread nD τ).loc main_arg7) (ix2 g p) := by
  blk_simp [iblk, idx t]
  rw [V_main_v1]
  pointwise
  blk_ext [idx t]

/-- The last matrix's block. -/
theorem last_block (c : Dev nD) (t : Fin cfg0.N) (k l : Fin 1024) :
    iblk m c 8 t (ix2 k l) = m ((c : Thread nD τ).loc main_arg8) (ix2 k l) := by
  blk_simp [iblk, idx t]
  rw [V_main_v7]
  pointwise
  blk_ext [idx t]

/-- The last gains' block. -/
theorem gain_block (c : Dev nD) (t : Fin cfg0.N) (k : Fin 1024) :
    iblk m c 9 t (ix2 0 k) = m ((c : Thread nD τ).loc main_arg9) (ix1 k) := by
  blk_simp [iblk, idx t]
  rw [V_main_v8]
  pointwise
  blk_ext [idx t]

/-- The last biases' block. -/
theorem lastBias_block (c : Dev nD) (t : Fin cfg0.N) (k : Fin 1024) :
    iblk m c 10 t (ix2 0 k) = m ((c : Thread nD τ).loc main_arg10) (ix1 k) := by
  blk_simp [iblk, idx t]
  rw [V_main_v9]
  pointwise
  blk_ext [idx t]
end Cert.Kernel3Ideal.Value
end
-- ==== Proof.GmlpPoint.lean ====
module

public import proofs.«01_k».proof.Proof.GmlpArray

@[expose] public section

set_option maxRecDepth 16384
noncomputable section
namespace Cert.Kernel3Ideal.Value
open Cert.Kernel3Ideal Cert.Kernel3Ideal.Gen Cert.LayerNorm Cert.Gelu Cert.Tokens Idealize.ShloMosaic Idealize.ShloMosaic.TcCoe Idealize.SL.Sem
open Idealize.ShloMosaic.Pipeline (Dat)
variable (m : (ℓ : Loc nD τ sig) → Buf (Elt Ideal) ℓ)

/-- A hidden row's entry, from the argument arrays. -/
def hidden (x : Vec Ideal S20480x1024 .f32) (mods : Vec Ideal S16x6x1024 .f32) (w : Vec Ideal S1024x2048 .f32)
    (b : Vec Ideal S2048 .f32) (i : Fin 20480) (l : Fin 2048) : EReal :=
  gelu ((∑ k : Fin 1024, (x (ix2 i k) * (Ideal.ofBits .f32 0x3F800000#32 + mods (ix3 (group i) 1 k)) + mods (ix3 (group i) 0 k)) * w (ix2 k l))
    + b (ix1 l))

/-- An entry of the gated rows, from the hidden rows: a token's first half times the mix of its chunk's second halves. -/
def gated (h : Fin 20480 → Fin 2048 → EReal) (vg vb : Vec Ideal S1024 .f32) (w : Vec Ideal S8x128x128 .f32) (b : Vec Ideal S8x128 .f32)
    (i : Fin 20480) (l : Fin 1024) : EReal :=
  h i ⟨l, by omega⟩ * ((∑ q : Fin 128, w (ix3 ⟨l / 128, by omega⟩ ⟨i % 128, by omega⟩ q)
      * layerNorm (fun k => h ⟨i / 128 * 128 + q, by omega⟩ ⟨1024 + k, by omega⟩) (vg (ix1 l)) (vb (ix1 l)) l)
    + b (ix2 ⟨l / 128, by omega⟩ ⟨i % 128, by omega⟩))

/-- THE RESULT, entry by entry, from the gated rows. -/
def mlp (s : Fin 20480 → Fin 1024 → EReal) (x : Vec Ideal S20480x1024 .f32) (mods : Vec Ideal S16x6x1024 .f32)
    (w : Vec Ideal S1024x1024 .f32) (g b : Vec Ideal S1024 .f32) (i : Fin 20480) (l : Fin 1024) : EReal :=
  layerNorm (fun k => Ideal.ofBits .f32 0x3FD744FD#32 * x (ix2 i k) + mods (ix3 (group i) 2 k) * ∑ e : Fin 1024, s i e * w (ix2 e k))
    (g (ix1 l)) (b (ix1 l)) l

/-- The hidden rows of the arguments in memory. -/
abbrev hiddenOf (c : Dev nD) : Fin 20480 → Fin 2048 → EReal :=
  hidden (m ((c : Thread nD τ).loc main_arg0)) (m ((c : Thread nD τ).loc main_arg1)) (m ((c : Thread nD τ).loc main_arg2))
    (m ((c : Thread nD τ).loc main_arg3))

/-- The gated rows of the arguments in memory. -/
abbrev gatedOf (c : Dev nD) : Fin 20480 → Fin 1024 → EReal :=
  gated (hiddenOf m c) (m ((c : Thread nD τ).loc main_arg4)) (m ((c : Thread nD τ).loc main_arg5)) (m ((c : Thread nD τ).loc main_arg6))
    (m ((c : Thread nD τ).loc main_arg7))

/-- One row of the modulation's block. -/
theorem mods_row (c : Dev nD) (t : Fin cfg0.N) (s : Fin 6) (k : Fin 1024)
    (h : ∀ a, (![0, (s : ℕ), 0] : Fin 3 → ℕ) a + (![1, 1, 1024] : Fin 3 → ℕ) a ≤ S1x6x1024.size a) :
    View.ld (iblk m c 1 t) (Rect.unit (s := S1x6x1024) ![0, (s : ℕ), 0] ![1, 1, 1024] h) (ix3 0 0 k) = iblk m c 1 t (ix3 0 s k) := by
  pointwise

/-- The block's first halves of the hidden rows. -/
abbrev firstBlock (c : Dev nD) (t : Fin cfg0.N) : FVec Ideal S256x1024 .f32 :=
  k0_pay3 (F := Ideal) (iblk m c 0 t)
    (View.ld (iblk m c 1 t) (Rect.unit (s := S1x6x1024) ![0, 1, 0] ![1, 1, 1024] inb_S1x6x1024_S1x1x1024_0_1_0))
    (View.ld (iblk m c 1 t) (Rect.unit (s := S1x6x1024) ![0, 0, 0] ![1, 1, 1024] inb_S1x6x1024_S1x1x1024_0_0_0)) (iblk m c 2 t) (iblk m c 3 t)

/-- The block's second halves of the hidden rows. -/
abbrev secondBlock (c : Dev nD) (t : Fin cfg0.N) : FVec Ideal S256x1024 .f32 :=
  k0_pay4 (F := Ideal) (iblk m c 0 t)
    (View.ld (iblk m c 1 t) (Rect.unit (s := S1x6x1024) ![0, 1, 0] ![1, 1, 1024] inb_S1x6x1024_S1x1x1024_0_1_0))
    (View.ld (iblk m c 1 t) (Rect.unit (s := S1x6x1024) ![0, 0, 0] ![1, 1, 1024] inb_S1x6x1024_S1x1x1024_0_0_0)) (iblk m c 2 t) (iblk m c 3 t)

/-- The block's second halves after their layer norm. -/
abbrev normedBlock (c : Dev nD) (t : Fin cfg0.N) : FVec Ideal S256x1024 .f32 :=
  k0_pay6 (F := Ideal) (secondBlock m c t) (k0_pay5 (F := Ideal) (iblk m c 4 t)) (iblk m c 5 t)

/-- A block's hidden row is the token's. -/
theorem hidden_point (c : Dev nD) (t : Fin cfg0.N) (r : Fin 256) (i : Fin 20480) (hi : (i : ℕ) = t.val * 256 + r) (l : Fin 2048) :
    k0_pay2 (F := Ideal) (iblk m c 0 t)
      (View.ld (iblk m c 1 t) (Rect.unit (s := S1x6x1024) ![0, 1, 0] ![1, 1, 1024] inb_S1x6x1024_S1x1x1024_0_1_0))
      (View.ld (iblk m c 1 t) (Rect.unit (s := S1x6x1024) ![0, 0, 0] ![1, 1, 1024] inb_S1x6x1024_S1x1x1024_0_0_0)) (iblk m c 2 t) (iblk m c 3 t) (ix2 r l)
      = hiddenOf m c i l := by
  refine (hidden_at _ _ _ _ _ r l).trans (congrArg gelu (congrArg₂ (· + ·) (Finset.sum_congr rfl fun k _ =>
    congrArg₂ (· * ·) (congrArg₂ (· + ·) (congrArg₂ (· * ·) (row_block m c t r i hi k) (congrArg₂ (· + ·) rfl ?_)) ?_)
      (matrix_block m c t k l)) (bias_block m c t l)))
  · exact (mods_row m c t 1 k _).trans (mods_block m c t r i hi 1 k)
  · exact (mods_row m c t 0 k _).trans (mods_block m c t r i hi 0 k)

/-- A block's first half is the token's. -/
theorem first_point (c : Dev nD) (t : Fin cfg0.N) (r : Fin 256) (i : Fin 20480) (hi : (i : ℕ) = t.val * 256 + r) (l : Fin 1024) :
    firstBlock m c t (ix2 r l) = hiddenOf m c i ⟨l, by omega⟩ :=
  (first_at _ _ _ _ _ r l).trans (hidden_point m c t r i hi _)

/-- A block's normed second half is the token's. -/
theorem normed_point (c : Dev nD) (t : Fin cfg0.N) (r : Fin 256) (i : Fin 20480) (hi : (i : ℕ) = t.val * 256 + r) (l : Fin 1024) :
    normedBlock m c t (ix2 r l) = layerNorm (fun k => hiddenOf m c i ⟨1024 + k, by omega⟩)
      (m ((c : Thread nD τ).loc main_arg4) (ix1 l)) (m ((c : Thread nD τ).loc main_arg5) (ix1 l)) l :=
  (normed_at _ _ _ r l).trans (layerNorm_congr
    (fun k => (second_at _ _ _ _ _ r k).trans (hidden_point m c t r i hi _)) (innerGain_block m c t l) (innerBias_block m c t l) rfl)

/-- One page of the mixing matrices' block. -/
theorem mix_row (c : Dev nD) (t : Fin cfg0.N) (g : Fin 8) (p q : Fin 128)
    (h : ∀ a, (![(g : ℕ), 0, 0] : Fin 3 → ℕ) a + (![1, 128, 128] : Fin 3 → ℕ) a ≤ S8x128x128.size a) :
    View.ld (iblk m c 6 t) (Rect.unit (s := S8x128x128) ![(g : ℕ), 0, 0] ![1, 128, 128] h) (ix3 0 p q) = iblk m c 6 t (ix3 g p q) := by
  pointwise

/-- One page of the mixing biases' block. -/
theorem mixBias_row (c : Dev nD) (t : Fin cfg0.N) (g : Fin 8) (p q : Fin 128)
    (h : ∀ a, (![(g : ℕ), 0, 0] : Fin 3 → ℕ) a + (![1, 128, 128] : Fin 3 → ℕ) a ≤ S8x128x128.size a) :
    View.ld (iblk m c 7 t) (Rect.unit (s := S8x128x128) ![(g : ℕ), 0, 0] ![1, 128, 128] h) (ix3 0 p q) = iblk m c 7 t (ix3 g p q) := by
  pointwise

/-- One tile of the gated rows as the body stores it: chunk `r / 128` of the block, group `g`. -/
theorem tile_point (c : Dev nD) (t : Fin cfg0.N) (s : Fin 256) (i : Fin 20480) (hi : (i : ℕ) = t.val * 256 + s) (l : Fin 1024)
    (r : ℕ) (g : Fin 8) (hr : r + 128 ≤ 256) (hd : r % 128 = 0) (hs : S256x1024.Slices ![r, 128 * (g : ℕ)] S128x128)
    (h6 h7 : ∀ a, (![(g : ℕ), 0, 0] : Fin 3 → ℕ) a + (![1, 128, 128] : Fin 3 → ℕ) a ≤ S8x128x128.size a) (p q : Fin 128)
    (h0 : (s : ℕ) = r + p) (h1 : (l : ℕ) = 128 * (g : ℕ) + q) :
    shapeCast S128x128 (truncf .bf16 (mulf (extractStridedSlice S128x128 ![r, 128 * (g : ℕ)] (firstBlock m c t) hs)
      (addf (matmul (F := Ideal) (φ₁ := .bf16) dot_S128x128_S128x128_S128x128_1_0_0_1_n_n none
          (shapeCast S128x128 (View.ld (iblk m c 6 t) (Rect.unit (s := S8x128x128) ![(g : ℕ), 0, 0] ![1, 128, 128] h6)) shapeCasts_S1x128x128_S128x128)
          (truncf .bf16 (extractStridedSlice S128x128 ![r, 128 * (g : ℕ)] (normedBlock m c t) hs) bitsLt_bf16_f32) (constant S128x128 .f32 0x00000000#32))
        (shapeCast S128x128 (View.ld (iblk m c 7 t) (Rect.unit (s := S8x128x128) ![(g : ℕ), 0, 0] ![1, 128, 128] h7)) shapeCasts_S1x128x128_S128x128)))
        bitsLt_bf16_f32) shapeCasts_S128x128_S128x128 (ix2 p q)
      = gatedOf m c i l := by
  refine (tile_at _ _ _ _ r (128 * (g : ℕ)) hr (by omega) hs p q).trans (congrArg₂ (· * ·) ?_ (congrArg₂ (· + ·)
    (Finset.sum_congr rfl fun k _ => congrArg₂ (· * ·) ?_ ?_) ?_))
  · exact (first_point m c t _ i (hi.trans (congrArg _ h0)) _).trans (congrArg _ (Fin.ext h1.symm))
  · refine (mix_row m c t g p k h6).trans ((mix_block m c t g p k).trans ?_)
    blk_ext
  · refine (normed_point m c t _ ⟨i / 128 * 128 + k, by omega⟩ (by simp only; omega) _).trans ?_
    have hl : (⟨128 * (g : ℕ) + q, by omega⟩ : Fin 1024) = l := Fin.ext h1.symm
    rw [hl]
  · refine (mixBias_row m c t g p q h7).trans ((mixBias_block m c t g p q).trans ?_)
    blk_ext

/-- A block's entry is the result's entry at the place the block has in the array. -/
theorem point (c : Dev nD) (t : Fin cfg0.N) (y : S256x1024.Idx) (i : S20480x1024.Idx)
    (hi0 : (i 0 : ℕ) = t.val * 256 + y 0) (hi1 : (i 1 : ℕ) = y 1) :
   (dats m 0 c).after 11 t y = mlp (gatedOf m c) (m ((c : Thread nD τ).loc main_arg0)) (m ((c : Thread nD τ).loc main_arg1))
      (m ((c : Thread nD τ).loc main_arg8)) (m ((c : Thread nD τ).loc main_arg9)) (m ((c : Thread nD τ).loc main_arg10)) (i 0) (i 1) := by
  rw [after0_11]
  unfold Gen.outsAt0
  frame_out
  rw [eq_ix2 y]
  refine (body_at _ _ _ _ _ _ (y 0) (y 1)).trans (layerNorm_congr (fun k => ?_) ?_ ?_ ?_)
  · refine congrArg₂ (· + ·) (congrArg₂ (· * ·) rfl ?_) (congrArg₂ (· * ·) ?_ (Finset.sum_congr rfl fun e _ => congrArg₂ (· * ·) ?_ ?_))
    · exact row_block m c t (y 0) (i 0) hi0 k
    · exact (mods_row m c t 2 k _).trans (mods_block m c t (y 0) (i 0) hi0 2 k)
    · rw [View.readCov_eq_canon']
      refine (congrArg (View.canon _) (?_ : _ = ix2 (y 0) e)).trans ?_
      · funext a
        refine Fin.ext ?_
        fin_cases a <;> simp [ix2, LoadRect.idx]
      have tile := tile_point m c t (y 0) (i 0) hi0 e
      canon_tiles x h
      all_goals rw [eq_ix2 x]
      case piece0 => exact tile 128 7 (by decide) (by decide) _ _ _ _ _ h0 h1
      case piece1 => exact tile 128 6 (by decide) (by decide) _ _ _ _ _ h0 h1
      case piece2 => exact tile 128 5 (by decide) (by decide) _ _ _ _ _ h0 h1
      case piece3 => exact tile 128 4 (by decide) (by decide) _ _ _ _ _ h0 h1
      case piece4 => exact tile 128 3 (by decide) (by decide) _ _ _ _ _ h0 h1
      case piece5 => exact tile 128 2 (by decide) (by decide) _ _ _ _ _ h0 h1
      case piece6 => exact tile 128 1 (by decide) (by decide) _ _ _ _ _ h0 h1
      case piece7 => exact tile 128 0 (by decide) (by decide) _ _ _ _ _ h0 (h1.trans (Nat.zero_add _).symm)
      case piece8 => exact tile 0 7 (by decide) (by decide) _ _ _ _ _ (h0.trans (Nat.zero_add _).symm) h1
      case piece9 => exact tile 0 6 (by decide) (by decide) _ _ _ _ _ (h0.trans (Nat.zero_add _).symm) h1
      case piece10 => exact tile 0 5 (by decide) (by decide) _ _ _ _ _ (h0.trans (Nat.zero_add _).symm) h1
      case piece11 => exact tile 0 4 (by decide) (by decide) _ _ _ _ _ (h0.trans (Nat.zero_add _).symm) h1
      case piece12 => exact tile 0 3 (by decide) (by decide) _ _ _ _ _ (h0.trans (Nat.zero_add _).symm) h1
      case piece13 => exact tile 0 2 (by decide) (by decide) _ _ _ _ _ (h0.trans (Nat.zero_add _).symm) h1
      case piece14 => exact tile 0 1 (by decide) (by decide) _ _ _ _ _ (h0.trans (Nat.zero_add _).symm) h1
      case piece15 => exact tile 0 0 (by decide) (by decide) _ _ _ _ _ (h0.trans (Nat.zero_add _).symm) (h1.trans (Nat.zero_add _).symm)
    · exact last_block m c t e k
  · exact (gain_block m c t _).trans (congrArg _ (congrArg ix1 (Fin.ext hi1.symm)))
  · exact (lastBias_block m c t _).trans (congrArg _ (congrArg ix1 (Fin.ext hi1.symm)))
  · exact Fin.ext hi1.symm

/-- The output array after the run is the sub-layer of the arguments. -/
theorem final (c : Dev nD) :
    (dats m 0 c).arrAt 11 cfg0.N = fun i : S20480x1024.Idx =>
      mlp (gatedOf m c) (m ((c : Thread nD τ).loc main_arg0)) (m ((c : Thread nD τ).loc main_arg1))
        (m ((c : Thread nD τ).loc main_arg8)) (m ((c : Thread nD τ).loc main_arg9)) (m ((c : Thread nD τ).loc main_arg10)) (i 0) (i 1) := by
  refine (dats m 0 c).arrAt_eq_of_covers 11 _ (by decide +kernel) fun t hf y => ?_
  blk_simp
  refine point m c t y _ ?_ ?_
  all_goals (blk_simp [idx t] <;> try omega)
end Cert.Kernel3Ideal.Value
end
-- ==== Proof.GmlpReference.lean ====
module

public import proofs.«01_k».proof.Proof.Gen.Reference3Ideal.Run
public import proofs.«01_k».proof.Proof.ProjReference
public import proofs.«01_k».proof.Proof.Gelu
public import Idealize.ShloMosaic.Lib.Pipeline.ValueKit
public import Idealize.ShloMosaic.Lib.Pointwise

@[expose] public section

set_option maxRecDepth 16384
noncomputable section
namespace Cert.Reference3Ideal.Value
open Cert.Reference3Ideal Cert.Reference3Ideal.Gen Cert.LayerNorm Cert.Tokens Cert.Gelu Idealize.ShloMosaic Idealize.ShloMosaic.TcCoe Idealize.SL.Sem
open Cert.Reference2Ideal.Value (norm deviation norm_at)

/-- Each token's modulation rows. -/
def modulation (mods : FVec Ideal S16x6x1024 .f32) : FVec Ideal S20480x6x1024 .f32 :=
  concatenate S20480x6x1024 0 [⟨S4096x6x1024, (broadcastInDim S4096x6x1024 ![1, 2] bcast_S6x1024_S4096x6x1024_1_2 (shapeCast _ (extractStridedSlice S1x6x1024 ![0, 0, 0] mods slices_S16x6x1024_S1x6x1024_0_0_0) shapeCasts_S1x6x1024_S6x1024))⟩, ⟨S16384x6x1024, (shapeCast _ (broadcastInDim S8x2048x6x1024 ![0, 1, 2, 3] bcast_S8x1x6x1024_S8x2048x6x1024_0_1_2_3 (broadcastInDim S8x1x6x1024 ![0, 2, 3] bcast_S8x6x1024_S8x1x6x1024_0_2_3 (extractStridedSlice S8x6x1024 ![1, 0, 0] mods slices_S16x6x1024_S8x6x1024_1_0_0))) shapeCasts_S8x2048x6x1024_S16384x6x1024)⟩] concatenates_S4096x6x1024_S16384x6x1024_S20480x6x1024_d0

/-- The modulated rows times the first matrix, plus its bias. -/
def linear (x : FVec Ideal S20480x1024 .f32) (mo : FVec Ideal S20480x6x1024 .f32) (w : FVec Ideal S1024x2048 .f32)
    (b : FVec Ideal S2048 .f32) : FVec Ideal S20480x2048 .f32 :=
  addf (Host.dotGeneral dot_S20480x1024_S1024x2048_S20480x2048_1_0_0_1_n_n none (addf (mulf x (addf (broadcastInDim S20480x1024 ![] bcast_S_S20480x1024 (constant S_ .f32 0x3F800000#32)) (shapeCast _ (extractStridedSlice S20480x1x1024 ![0, 1, 0] mo slices_S20480x6x1024_S20480x1x1024_0_1_0) shapeCasts_S20480x1x1024_S20480x1024))) (shapeCast _ (extractStridedSlice S20480x1x1024 ![0, 0, 0] mo slices_S20480x6x1024_S20480x1x1024_0_0_0) shapeCasts_S20480x1x1024_S20480x1024)) w) (broadcastInDim S20480x2048 ![0, 1] bcast_S1x2048_S20480x2048_0_1 (broadcastInDim S1x2048 ![1] bcast_S2048_S1x2048_1 b))

/-- The hidden rows. -/
def hidden (z : FVec Ideal S20480x2048 .f32) : FVec Ideal S20480x2048 .f32 :=
  mulf z (mulf (broadcastInDim S20480x2048 ![] bcast_S_S20480x2048 (constant S_ .f32 0x3F000000#32)) (addf (broadcastInDim S20480x2048 ![] bcast_S_S20480x2048 (constant S_ .f32 0x3F800000#32)) (Host.tanh (mulf (broadcastInDim S20480x2048 ![] bcast_S_S20480x2048 (constant S_ .f32 0x3F4C422A#32)) (addf z (mulf (broadcastInDim S20480x2048 ![] bcast_S_S20480x2048 (constant S_ .f32 0x3D372713#32)) (mulf (mulf z z) z)))))))

/-- The second half of the hidden rows. -/
def second (z : FVec Ideal S20480x2048 .f32) : FVec Ideal S20480x1024 .f32 :=
  extractStridedSlice S20480x1024 ![0, 1024] z slices_S20480x2048_S20480x1024_0_1024

/-- The tokens of each chunk mixed, plus the bias. -/
def mixed (v : FVec Ideal S20480x1024 .f32) (w : FVec Ideal S8x128x128 .f32) (b : FVec Ideal S8x128 .f32) : FVec Ideal S20480x1024 .f32 :=
  shapeCast _ (addf (transpose S160x128x8x128 [1, 3, 0, 2] (Host.dotGeneral dot_S160x128x8x128_S8x128x128_S8x160x128x128_1_2_03_1_2_0 none (shapeCast _ v shapeCasts_S20480x1024_S160x128x8x128) w) transposes_S8x160x128x128_S160x128x8x128_1_3_0_2) (broadcastInDim S160x128x8x128 ![0, 1, 2, 3] bcast_S1x128x8x1_S160x128x8x128_0_1_2_3 (broadcastInDim S1x128x8x1 ![1, 2] bcast_S128x8_S1x128x8x1_1_2 (transpose S128x8 [1, 0] b transposes_S8x128_S128x8_1_0)))) shapeCasts_S160x128x8x128_S20480x1024

/-- The rows before the last layer norm: residuals plus gated projections. -/
def residual (x : FVec Ideal S20480x1024 .f32) (mo : FVec Ideal S20480x6x1024 .f32) (z : FVec Ideal S20480x2048 .f32)
    (v : FVec Ideal S20480x1024 .f32) (w : FVec Ideal S1024x1024 .f32) : FVec Ideal S20480x1024 .f32 :=
  addf (mulf (broadcastInDim S20480x1024 ![] bcast_S_S20480x1024 (constant S_ .f32 0x3FD744FD#32)) x) (mulf (shapeCast _ (extractStridedSlice S20480x1x1024 ![0, 2, 0] mo slices_S20480x6x1024_S20480x1x1024_0_2_0) shapeCasts_S20480x1x1024_S20480x1024) (Host.dotGeneral dot_S20480x1024_S1024x1024_S20480x1024_1_0_0_1_n_n none (mulf (extractStridedSlice S20480x1024 ![0, 0] z slices_S20480x2048_S20480x1024_0_0) v) w))

/-- The reference's result is these steps in turn. -/
def result (x : FVec Ideal S20480x1024 .f32) (mods : FVec Ideal S16x6x1024 .f32) (w : FVec Ideal S1024x2048 .f32)
    (b : FVec Ideal S2048 .f32) (vg vb : FVec Ideal S1024 .f32) (ws : FVec Ideal S8x128x128 .f32) (bs : FVec Ideal S8x128 .f32)
    (wo : FVec Ideal S1024x1024 .f32) (g lb : FVec Ideal S1024 .f32) : FVec Ideal S20480x1024 .f32 :=
  norm (deviation (residual x (modulation mods) (hidden (linear x (modulation mods) w b))
    (mixed (norm (deviation (second (hidden (linear x (modulation mods) w b)))) vg vb) ws bs) wo)) g lb

/-- The modulation of a token, read at an entry. -/
theorem modulation_at (mods : FVec Ideal S16x6x1024 .f32) (i : Fin 20480) (s : Fin 6) (l : Fin 1024) :
    modulation mods (ix3 i s l) = mods (ix3 (group i) s l) := by
  pointwise [modulation]
  split <;> rename_i h <;> (blk_ext [group, groupNum, h] <;> simp)

/-- The modulated rows times the first matrix, read at an entry. -/
theorem linear_at (x : FVec Ideal S20480x1024 .f32) (mo : FVec Ideal S20480x6x1024 .f32) (w : FVec Ideal S1024x2048 .f32)
    (b : FVec Ideal S2048 .f32) (i : Fin 20480) (l : Fin 2048) :
    linear x mo w b (ix2 i l)
      = (∑ k : Fin 1024, (x (ix2 i k) * (Ideal.ofBits .f32 0x3F800000#32 + mo (ix3 i 1 k)) + mo (ix3 i 0 k)) * w (ix2 k l)) + b (ix1 l) := by
  pointwise [linear]

/-- The hidden rows, read at an entry. -/
theorem hidden_at (z : FVec Ideal S20480x2048 .f32) (i : Fin 20480) (l : Fin 2048) :
    hidden z (ix2 i l) = gelu (z (ix2 i l)) := by
  unfold gelu
  pointwise [hidden]
  rw [mul_comm (z (ix2 i l)) (z (ix2 i l) * z (ix2 i l))]

/-- The second half, read at an entry. -/
theorem second_at (z : FVec Ideal S20480x2048 .f32) (i : Fin 20480) (l : Fin 1024) :
    second z (ix2 i l) = z (ix2 i ⟨1024 + l, by omega⟩) := by
  pointwise [second]

/-- The mixed rows, read at an entry. -/
theorem mixed_at (v : FVec Ideal S20480x1024 .f32) (w : FVec Ideal S8x128x128 .f32) (b : FVec Ideal S8x128 .f32)
    (i : Fin 20480) (l : Fin 1024) :
    mixed v w b (ix2 i l)
      = (∑ q : Fin 128, w (ix3 ⟨l / 128, by omega⟩ ⟨i % 128, by omega⟩ q) * v (ix2 ⟨i / 128 * 128 + q, by omega⟩ l))
        + b (ix2 ⟨l / 128, by omega⟩ ⟨i % 128, by omega⟩) := by
  pointwise [mixed]
  refine congrArg₂ (· + ·) (Finset.sum_congr rfl fun q _ => (mul_comm _ _).trans (congrArg₂ (· * ·) ?_ ?_)) ?_
  all_goals blk_ext

/-- The rows before the last layer norm, read at an entry. -/
theorem residual_at (x : FVec Ideal S20480x1024 .f32) (mo : FVec Ideal S20480x6x1024 .f32) (z : FVec Ideal S20480x2048 .f32)
    (v : FVec Ideal S20480x1024 .f32) (w : FVec Ideal S1024x1024 .f32) (i : Fin 20480) (l : Fin 1024) :
    residual x mo z v w (ix2 i l) = Ideal.ofBits .f32 0x3FD744FD#32 * x (ix2 i l)
      + mo (ix3 i 2 l) * ∑ e : Fin 1024, z (ix2 i ⟨e, by omega⟩) * v (ix2 i e) * w (ix2 e l) := by
  pointwise [residual]
end Cert.Reference3Ideal.Value
end
-- ==== Proof.GmlpClaims.lean ====
module

public import proofs.«01_k».proof.Defs
public import proofs.«01_k».proof.Proof.GmlpPoint
public import proofs.«01_k».proof.Proof.GmlpReference
public import Idealize.ShloMosaic.Adequacy
public import Idealize.ShloMosaic.Init

@[expose] public section

set_option maxRecDepth 16384
noncomputable section
namespace Cert.Gmlp
open Idealize.ShloMosaic Idealize.SL.Sem Cert.LayerNorm Cert.Tokens Cert.Gelu
open Cert.Kernel3Ideal.Value (gated mlp)
open Cert.Reference2Ideal.Value (norm deviation norm_at)
open Cert.Reference3Ideal.Value (result modulation linear second mixed residual modulation_at linear_at second_at mixed_at residual_at)

/-- The reference's hidden rows are the kernel's. -/
theorem hidden_eq (x : FVec Ideal Cert.Kernel3Ideal.S20480x1024 .f32) (mods : FVec Ideal Cert.Kernel3Ideal.S16x6x1024 .f32)
    (w : FVec Ideal Cert.Kernel3Ideal.S1024x2048 .f32) (b : FVec Ideal Cert.Kernel3Ideal.S2048 .f32) (i : Fin 20480) (l : Fin 2048) :
    Cert.Reference3Ideal.Value.hidden (linear x (modulation mods) w b) (ix2 i l) = Cert.Kernel3Ideal.Value.hidden x mods w b i l := by
  refine (Cert.Reference3Ideal.Value.hidden_at _ i l).trans (congrArg gelu ((linear_at _ _ _ _ i l).trans ?_))
  simp only [modulation_at]

/-- THE EQUATION: the kernel's gated sub-layer is the reference's, at every entry. -/
theorem equation {x x' : FVec Ideal Cert.Kernel3Ideal.S20480x1024 .f32} {mods mods' : FVec Ideal Cert.Kernel3Ideal.S16x6x1024 .f32}
    {w w' : FVec Ideal Cert.Kernel3Ideal.S1024x2048 .f32} {b b' : FVec Ideal Cert.Kernel3Ideal.S2048 .f32}
    {vg vg' vb vb' : FVec Ideal Cert.Kernel3Ideal.S1024 .f32} {ws ws' : FVec Ideal Cert.Kernel3Ideal.S8x128x128 .f32}
    {bs bs' : FVec Ideal Cert.Kernel3Ideal.S8x128 .f32} {wo wo' : FVec Ideal Cert.Kernel3Ideal.S1024x1024 .f32}
    {g g' lb lb' : FVec Ideal Cert.Kernel3Ideal.S1024 .f32} (h0 : x' = x) (h1 : mods' = mods) (h2 : w' = w) (h3 : b' = b) (h4 : vg' = vg)
    (h5 : vb' = vb) (h6 : ws' = ws) (h7 : bs' = bs) (h8 : wo' = wo) (h9 : g' = g) (h10 : lb' = lb) :
    result x' mods' w' b' vg' vb' ws' bs' wo' g' lb'
      = fun j => mlp (gated (Cert.Kernel3Ideal.Value.hidden x mods w b) vg vb ws bs) x mods wo g lb (j 0) (j 1) := by
  subst h0 h1 h2 h3 h4 h5 h6 h7 h8 h9 h10
  funext j
  rw [eq_ix2 j]
  refine (norm_at _ _ _ _ _).trans (layerNorm_congr (fun k => ?_) rfl rfl rfl)
  refine (residual_at _ _ _ _ _ _ _).trans (congrArg₂ (· + ·) rfl (congrArg₂ (· * ·) (modulation_at _ _ _ _)
    (Finset.sum_congr rfl fun e _ => congrArg₂ (· * ·) (congrArg₂ (· * ·) (hidden_eq _ _ _ _ _ _) ?_) rfl)))
  refine (mixed_at _ _ _ _ _).trans (congrArg₂ (· + ·) (Finset.sum_congr rfl fun q _ => congrArg₂ (· * ·) rfl ?_) rfl)
  exact (norm_at _ _ _ _ _).trans (layerNorm_congr (fun k => (second_at _ _ _).trans (hidden_eq _ _ _ _ _ _)) rfl rfl rfl)

/-- The reference runs to its end and leaves its arguments and the semaphores as they were. -/
theorem frame_reference : quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

/-- The chunked gated sub-layer: from arguments that agree, the kernel's result is the reference's. -/
theorem algebraic : algebraic_Kernel3Ideal_Reference3Ideal
    (hKernel3Ideal := Cert.Kernel3Ideal.Gen.facts) (hReference3Ideal := Cert.Reference3Ideal.Gen.facts) := by
  pair_intro
  · run_from Cert.Kernel3Ideal.Value.run_blocks m g
  · run_from Cert.Reference3Ideal.Value.run m' g'
    obtain ⟨h0, h1, h2, h3, h4, h5, h6, h7, h8, _, _⟩ := hagree c
    refine Eq.trans (b := result
      (m' ((c.tc : Thread Cert.Reference3Ideal.nD Cert.Reference3Ideal.τ).loc Cert.Reference3Ideal.main_arg0))
      (m' ((c.tc : Thread Cert.Reference3Ideal.nD Cert.Reference3Ideal.τ).loc Cert.Reference3Ideal.main_arg1))
      (m' ((c.tc : Thread Cert.Reference3Ideal.nD Cert.Reference3Ideal.τ).loc Cert.Reference3Ideal.main_arg2))
      (m' ((c.tc : Thread Cert.Reference3Ideal.nD Cert.Reference3Ideal.τ).loc Cert.Reference3Ideal.main_arg3))
      (m' ((c.tc : Thread Cert.Reference3Ideal.nD Cert.Reference3Ideal.τ).loc Cert.Reference3Ideal.main_arg4))
      (m' ((c.tc : Thread Cert.Reference3Ideal.nD Cert.Reference3Ideal.τ).loc Cert.Reference3Ideal.main_arg5))
      (m' ((c.tc : Thread Cert.Reference3Ideal.nD Cert.Reference3Ideal.τ).loc Cert.Reference3Ideal.main_arg6))
      (m' ((c.tc : Thread Cert.Reference3Ideal.nD Cert.Reference3Ideal.τ).loc Cert.Reference3Ideal.main_arg7))
      (m' ((c.tc : Thread Cert.Reference3Ideal.nD Cert.Reference3Ideal.τ).loc Cert.Reference3Ideal.main_arg8))
      (m ((c.tc : Thread Cert.Kernel3Ideal.nD Cert.Kernel3Ideal.τ).loc Cert.Kernel3Ideal.main_arg9))
      (m ((c.tc : Thread Cert.Kernel3Ideal.nD Cert.Kernel3Ideal.τ).loc Cert.Kernel3Ideal.main_arg10))) rfl (Eq.trans ?_ (Cert.Kernel3Ideal.Value.final m c).symm)
    exact equation h0 h1 h2 h3 h4 h5 h6 h7 h8 rfl rfl

end Cert.Gmlp
end
-- ==== Proof.Softmax.lean ====
module

public import Idealize.ShloMosaic.PureOps.Ideal.Laws

@[expose] public section

noncomputable section

namespace Cert.Softmax

open Idealize.ShloMosaic
open scoped BigOperators

/-- An extended real that is a real number. -/
def IsReal (x : EReal) : Prop := ∃ r : ℝ, x = (r : EReal)

/-- Less than infinity in absolute value is being a real number. -/
theorem isReal_of_abs_lt {x : EReal} (h : max x (-x) < ⊤) : IsReal x := by
  induction x using EReal.rec with
  | bot => simp at h
  | top => simp at h
  | coe r => exact ⟨r, rfl⟩

/-- The product of two real numbers is one. -/
theorem IsReal.mul {x y : EReal} : IsReal x → IsReal y → IsReal (x * y) := by
  rintro ⟨a, rfl⟩ ⟨b, rfl⟩
  exact ⟨a * b, by simp⟩

/-- The sum of two real numbers is one. -/
theorem IsReal.add {x y : EReal} : IsReal x → IsReal y → IsReal (x + y) := by
  rintro ⟨a, rfl⟩ ⟨b, rfl⟩
  exact ⟨a + b, by simp⟩

/-- A finite sum of real numbers is one. -/
theorem IsReal.sum {ι : Type} (S : Finset ι) {f : ι → EReal} (h : ∀ i, IsReal (f i)) : IsReal (∑ i ∈ S, f i) := by
  classical
  induction S using Finset.induction_on with
  | empty => exact ⟨0, by simp⟩
  | insert a S ha ih => rw [Finset.sum_insert ha]; exact (h a).add ih

/-- The larger of two real numbers is one of them. -/
theorem IsReal.max {x y : EReal} (hx : IsReal x) (hy : IsReal y) : IsReal (max x y) := by
  rcases max_choice x y with h | h <;> rw [h] <;> assumption

/-- The maximum of finitely many real numbers, at least one, is a real number. -/
theorem IsReal.foldMax {ι : Type} [Fintype ι] [Nonempty ι] {f : ι → EReal} (h : ∀ i, IsReal (f i)) :
    IsReal (Finset.univ.fold Max.max ⊥ f) := by
  obtain ⟨i, -, hi⟩ := Finset.exists_mem_eq_sup (Finset.univ : Finset ι) Finset.univ_nonempty f
  have : Finset.univ.fold Max.max ⊥ f = Finset.univ.sup f := rfl
  rw [this, hi]
  exact h i

/-- The maximum over two stretches of keys is the larger of the maxima over each. -/
theorem foldMax_split (a b : ℕ) (f : Fin (a + b) → EReal) :
    Finset.univ.fold Max.max ⊥ f = Max.max (Finset.univ.fold Max.max ⊥ fun k : Fin a => f (Fin.castAdd b k))
      (Finset.univ.fold Max.max ⊥ fun k : Fin b => f (Fin.natAdd a k)) := by
  change Finset.univ.sup f = Finset.univ.sup (fun k : Fin a => f (Fin.castAdd b k)) ⊔ Finset.univ.sup (fun k : Fin b => f (Fin.natAdd a k))
  apply le_antisymm
  · refine Finset.sup_le fun k _ => ?_
    induction k using Fin.addCases with
    | left k => exact le_sup_of_le_left (Finset.le_sup (f := fun k : Fin a => f (Fin.castAdd b k)) (Finset.mem_univ k))
    | right k => exact le_sup_of_le_right (Finset.le_sup (f := fun k : Fin b => f (Fin.natAdd a k)) (Finset.mem_univ k))
  · refine sup_le (Finset.sup_le fun k _ => ?_) (Finset.sup_le fun k _ => ?_)
    · exact Finset.le_sup (f := f) (Finset.mem_univ _)
    · exact Finset.le_sup (f := f) (Finset.mem_univ _)

/-- A nonnegative real factor goes into a finite sum, whatever the terms. -/
theorem coe_mul_sum {ι : Type} (S : Finset ι) {c : ℝ} (hc : 0 ≤ c) (f : ι → EReal) :
    (c : EReal) * ∑ i ∈ S, f i = ∑ i ∈ S, (c : EReal) * f i := by
  classical
  induction S using Finset.induction_on with
  | empty => simp
  | insert a S ha ih =>
    rw [Finset.sum_insert ha, Finset.sum_insert ha, ← ih]
    exact EReal.left_distrib_of_nonneg_of_ne_top (by exact_mod_cast hc) (EReal.coe_ne_top c) _ _

/-- The exponential of the difference of two real numbers is a positive real number. -/
theorem exp_sub_pos {x y : EReal} (hx : IsReal x) (hy : IsReal y) : ∃ r : ℝ, 0 < r ∧ Ideal.exp (x - y) = (r : EReal) := by
  obtain ⟨a, rfl⟩ := hx
  obtain ⟨b, rfl⟩ := hy
  refine ⟨Real.exp (a - b), Real.exp_pos _, ?_⟩
  rw [← EReal.coe_sub]
  rfl

/-- A finite sum of positive real numbers, at least one, is a positive real number. -/
theorem sum_pos {ι : Type} [Fintype ι] [Nonempty ι] {f : ι → EReal} (h : ∀ i, ∃ r : ℝ, 0 < r ∧ f i = (r : EReal)) :
    ∃ r : ℝ, 0 < r ∧ ∑ i, f i = (r : EReal) := by
  choose g hg he using h
  refine ⟨∑ i, g i, Finset.sum_pos (fun i _ => hg i) Finset.univ_nonempty, ?_⟩
  rw [Finset.sum_congr rfl fun i _ => he i]
  exact (map_sum (⟨⟨((↑) : ℝ → EReal), EReal.coe_zero⟩, EReal.coe_add⟩ : ℝ →+ EReal) g Finset.univ).symm

/-- The pattern of minus infinity is minus infinity. -/
theorem ofBits_neg_inf : Ideal.ofBits .f32 0xFF800000#32 = (⊥ : EReal) := by simp [Ideal.ofBits, Ideal.ieee]

/-- The largest score of two stretches of keys. -/
def top {ι κ : Type} [Fintype ι] [Fintype κ] (s : ι → EReal) (s' : κ → EReal) : EReal :=
  Max.max (Finset.univ.fold Max.max (Ideal.ofBits .f32 0xFF800000#32) s)
    (Finset.univ.fold Max.max (Ideal.ofBits .f32 0xFF800000#32) s')

/-- What one query makes of two stretches of keys with scores `s`, `s'` and values `v`, `v'`: the values weighted by the
    exponentials of the scores less the largest score, divided once at the end by the weights' sum. -/
def attend {ι κ : Type} [Fintype ι] [Fintype κ] (s : ι → EReal) (s' : κ → EReal) (v : ι → EReal) (v' : κ → EReal) : EReal :=
  Ideal.div (∑ i, Ideal.exp (s i - top s s') * v i + ∑ i, Ideal.exp (s' i - top s s') * v' i)
    (∑ i, Ideal.exp (s i - top s s') + ∑ i, Ideal.exp (s' i - top s s'))

/-- `attend` of equal scores and values. -/
theorem attend_congr {ι κ : Type} [Fintype ι] [Fintype κ] {s t v w : ι → EReal} {s' t' v' w' : κ → EReal}
    (h : ∀ i, s i = t i) (h' : ∀ i, s' i = t' i) (hv : ∀ i, v i = w i) (hv' : ∀ i, v' i = w' i) :
    attend s s' v v' = attend t t' w w' := by
  rw [funext h, funext h', funext hv, funext hv']

/-- DIVIDING ONCE OR EVERYWHERE: the weights divided by their sum before they meet the values, or the weighted sum divided
    once at the end, over two stretches of keys with real scores. -/
theorem normalize {ι κ : Type} [Fintype ι] [Nonempty ι] [Fintype κ] [Nonempty κ] (s v : ι → EReal) (s' v' : κ → EReal)
    (M : EReal) (hs : ∀ i, IsReal (s i)) (hs' : ∀ i, IsReal (s' i)) (hM : IsReal M) :
    Ideal.div (∑ i, Ideal.exp (s i - M) * v i + ∑ i, Ideal.exp (s' i - M) * v' i)
        (∑ i, Ideal.exp (s i - M) + ∑ i, Ideal.exp (s' i - M))
      = ∑ i, Ideal.div (Ideal.exp (s i - M)) (∑ i, Ideal.exp (s i - M) + ∑ i, Ideal.exp (s' i - M)) * v i
        + ∑ i, Ideal.div (Ideal.exp (s' i - M)) (∑ i, Ideal.exp (s i - M) + ∑ i, Ideal.exp (s' i - M)) * v' i := by
  obtain ⟨l, hl, el⟩ := sum_pos fun i => exp_sub_pos (hs i) hM
  obtain ⟨l', hl', el'⟩ := sum_pos fun i => exp_sub_pos (hs' i) hM
  have hL : l + l' ≠ 0 := by positivity
  have hc : 0 ≤ 1 / (l + l') := by positivity
  rw [el, el', ← EReal.coe_add]
  simp only [Ideal.div_coe hL]
  rw [mul_comm, EReal.left_distrib_of_nonneg_of_ne_top (by exact_mod_cast hc) (EReal.coe_ne_top _), coe_mul_sum _ hc,
    coe_mul_sum _ hc]
  congr 1 <;> refine Finset.sum_congr rfl fun i _ => ?_ <;> ac_rfl

/-- `attend` with the weights divided before they meet the values, for real scores: the softmax as it is usually written. -/
theorem attend_eq {ι κ : Type} [Fintype ι] [Nonempty ι] [Fintype κ] [Nonempty κ] (s v : ι → EReal) (s' v' : κ → EReal)
    (hs : ∀ i, IsReal (s i)) (hs' : ∀ i, IsReal (s' i)) (M : EReal) (hM : M = top s s') :
    attend s s' v v'
      = ∑ i, v i * Ideal.div (Ideal.exp (s i - M)) (∑ i, Ideal.exp (s i - M) + ∑ i, Ideal.exp (s' i - M))
        + ∑ i, v' i * Ideal.div (Ideal.exp (s' i - M)) (∑ i, Ideal.exp (s i - M) + ∑ i, Ideal.exp (s' i - M)) := by
  subst hM
  have hM : IsReal (top s s') := by
    unfold top
    rw [ofBits_neg_inf]
    exact (IsReal.foldMax hs).max (IsReal.foldMax hs')
  rw [attend, normalize s v s' v' _ hs hs' hM]
  congr 1 <;> exact Finset.sum_congr rfl fun i _ => mul_comm _ _

/-- The difference of two real numbers is one. -/
theorem IsReal.sub {x y : EReal} : IsReal x → IsReal y → IsReal (x - y) := by
  rintro ⟨a, rfl⟩ ⟨b, rfl⟩
  exact ⟨a - b, by simp⟩

/-- The exponential of a real number is one. -/
theorem IsReal.exp {x : EReal} : IsReal x → IsReal (Ideal.exp x) := by
  rintro ⟨a, rfl⟩
  exact ⟨Real.exp a, rfl⟩

/-- A real number divided by a positive real number is one. -/
theorem IsReal.div_pos {x y : EReal} (hx : IsReal x) (hy : ∃ r : ℝ, 0 < r ∧ y = (r : EReal)) : IsReal (Ideal.div x y) := by
  obtain ⟨r, hr, rfl⟩ := hy
  rw [Ideal.div_coe hr.ne']
  exact hx.mul ⟨_, rfl⟩

/-- DISTRIBUTING: a sum against a difference of real weights, the second multiplied by a real number, is the difference of
    the two sums. -/
theorem sum_difference {ι : Type} (S : Finset ι) {v a b : ι → EReal} {r : EReal} (hr : IsReal r) (hv : ∀ i, IsReal (v i))
    (ha : ∀ i, IsReal (a i)) (hb : ∀ i, IsReal (b i)) :
    ∑ i ∈ S, v i * (a i - r * b i) = ∑ i ∈ S, v i * a i - r * ∑ i ∈ S, v i * b i := by
  obtain ⟨r, rfl⟩ := hr
  choose v' hv' using hv
  choose a' ha' using ha
  choose b' hb' using hb
  have up : ∀ f : ι → ℝ, ∑ i ∈ S, ((f i : ℝ) : EReal) = ((∑ i ∈ S, f i : ℝ) : EReal) := fun f =>
    (map_sum (⟨⟨((↑) : ℝ → EReal), EReal.coe_zero⟩, EReal.coe_add⟩ : ℝ →+ EReal) f S).symm
  simp only [hv', ha', hb', ← EReal.coe_mul, ← EReal.coe_sub, up]
  congr 1
  rw [Finset.mul_sum, ← Finset.sum_sub_distrib]
  exact Finset.sum_congr rfl fun i _ => by ring

/-- TWO MAPS: mixing the values by a difference of two softmaxes is the difference of the two mixes, for real scores, values
    and weight. -/
theorem attend_difference {ι κ : Type} [Fintype ι] [Nonempty ι] [Fintype κ] [Nonempty κ] {s t v : ι → EReal} {s' t' v' : κ → EReal}
    {r : EReal} (hr : IsReal r) (hs : ∀ i, IsReal (s i)) (hs' : ∀ i, IsReal (s' i)) (ht : ∀ i, IsReal (t i)) (ht' : ∀ i, IsReal (t' i))
    (hv : ∀ i, IsReal (v i)) (hv' : ∀ i, IsReal (v' i)) {M N : EReal} (hM : M = top s s') (hN : N = top t t') :
    ∑ i, v i * (Ideal.div (Ideal.exp (s i - M)) (∑ i, Ideal.exp (s i - M) + ∑ i, Ideal.exp (s' i - M))
          - r * Ideal.div (Ideal.exp (t i - N)) (∑ i, Ideal.exp (t i - N) + ∑ i, Ideal.exp (t' i - N)))
        + ∑ i, v' i * (Ideal.div (Ideal.exp (s' i - M)) (∑ i, Ideal.exp (s i - M) + ∑ i, Ideal.exp (s' i - M))
          - r * Ideal.div (Ideal.exp (t' i - N)) (∑ i, Ideal.exp (t i - N) + ∑ i, Ideal.exp (t' i - N)))
      = attend s s' v v' - r * attend t t' v v' := by
  rw [attend_eq s v s' v' hs hs' M hM, attend_eq t v t' v' ht ht' N hN]
  have tops : ∀ {s : ι → EReal} {s' : κ → EReal} {M : EReal}, (∀ i, IsReal (s i)) → (∀ i, IsReal (s' i)) → M = top s s' → IsReal M ∧
      ∃ l : ℝ, 0 < l ∧ ∑ i, Ideal.exp (s i - M) + ∑ i, Ideal.exp (s' i - M) = (l : EReal) := by
    intro s s' M hs hs' hM
    have h : IsReal M := by
      rw [hM, top, ofBits_neg_inf]
      exact (IsReal.foldMax hs).max (IsReal.foldMax hs')
    obtain ⟨l, hl, el⟩ := sum_pos fun i => exp_sub_pos (hs i) h
    obtain ⟨l', hl', el'⟩ := sum_pos fun i => exp_sub_pos (hs' i) h
    exact ⟨h, l + l', by positivity, by rw [el, el', EReal.coe_add]⟩
  obtain ⟨hM, hL⟩ := tops hs hs' hM
  obtain ⟨hN, hL'⟩ := tops ht ht' hN
  generalize ∑ i, Ideal.exp (s i - M) + ∑ i, Ideal.exp (s' i - M) = L at hL ⊢
  generalize ∑ i, Ideal.exp (t i - N) + ∑ i, Ideal.exp (t' i - N) = L' at hL' ⊢
  have w : ∀ x, IsReal x → IsReal (Ideal.div (Ideal.exp (x - M)) L) := fun x hx => (hx.sub hM).exp.div_pos hL
  have w' : ∀ x, IsReal x → IsReal (Ideal.div (Ideal.exp (x - N)) L') := fun x hx => (hx.sub hN).exp.div_pos hL'
  rw [sum_difference _ hr hv (fun i => w _ (hs i)) (fun i => w' _ (ht i)),
    sum_difference _ hr hv' (fun i => w _ (hs' i)) (fun i => w' _ (ht' i))]
  obtain ⟨A, hA⟩ := IsReal.sum Finset.univ fun i => (hv i).mul (w _ (hs i))
  obtain ⟨A', hA'⟩ := IsReal.sum Finset.univ fun i => (hv' i).mul (w _ (hs' i))
  obtain ⟨B, hB⟩ := IsReal.sum Finset.univ fun i => (hv i).mul (w' _ (ht i))
  obtain ⟨B', hB'⟩ := IsReal.sum Finset.univ fun i => (hv' i).mul (w' _ (ht' i))
  obtain ⟨r, rfl⟩ := hr
  rw [hA, hA', hB, hB']
  simp only [← EReal.coe_mul, ← EReal.coe_sub, ← EReal.coe_add]
  congr 1
  ring

end Cert.Softmax

end
-- ==== Proof.DiffNorm.lean ====
module

public import proofs.«01_k».proof.Proof.Softmax

@[expose] public section

noncomputable section

namespace Cert.Diff

open Cert.Softmax Idealize.ShloMosaic
open scoped BigOperators

/-- The weight of the second map: the difference of the exponentials of two products of vectors, and a constant. -/
def lambda (u : Fin 4 → Fin 64 → EReal) : EReal :=
  Ideal.exp (∑ e, u 0 e * u 1 e) - Ideal.exp (∑ e, u 2 e * u 3 e) + Ideal.ofBits .f32 0x3EB60549#32

/-- A head's vector divided by its root mean square, times a gain and a constant: lane `d`. -/
def subNorm (o : Fin 128 → EReal) (g : EReal) (d : Fin 128) : EReal :=
  o d * Ideal.rsqrt (Ideal.div (∑ e, o e * o e) (Ideal.ofBits .f32 0x43000000#32) + Ideal.ofBits .f32 0x358637BD#32)
    * g * Ideal.ofBits .f32 0x3F24FD5C#32

/-- `subNorm` of equal vectors and gains. -/
theorem subNorm_congr {o o' : Fin 128 → EReal} {g g' : EReal} {d d' : Fin 128} (h : ∀ e, o e = o' e) (hg : g = g') (hd : d = d') :
    subNorm o g d = subNorm o' g' d' := by
  rw [funext h, hg, hd]

end Cert.Diff

end
-- ==== Proof.DiffBlock.lean ====
module

public import proofs.«01_k».proof.Proof.Gen.Kernel4Ideal.Value
public import proofs.«01_k».proof.Proof.DiffNorm
public import Idealize.ShloMosaic.Lib.Pipeline.ValueKit
public import Idealize.ShloMosaic.Lib.Pointwise

@[expose] public section

set_option maxRecDepth 16384
noncomputable section
namespace Cert.Kernel4Ideal.Value
open Cert.Kernel4Ideal Cert.Kernel4Ideal.Gen Cert.Softmax Cert.Diff Idealize.ShloMosaic Idealize.ShloMosaic.TcCoe Idealize.SL.Sem
open Idealize.ShloMosaic.Pipeline (Dat)

/-- The difference of a head's two maps, as the body computes it from its loads. -/
def maps (lam : FVec Ideal S1x1 .f32) (k v : Vec Ideal S2048x128 .bf16) (kc vc : Vec Ideal S1x256x128 .bf16)
    (q q' : Vec Ideal S256x128 .bf16) : FVec Ideal S256x128 .f32 :=
  k0_pay11 lam k v (k0_pay3 kc) (k0_pay4 vc) (k0_pay6 kc q) (k0_pay7 k kc q) (k0_pay9 k kc q) (k0_pay10 k kc q) q'

/-- What the body stores for a head. -/
def head (lam : FVec Ideal S1x1 .f32) (k v : Vec Ideal S2048x128 .bf16) (kc vc : Vec Ideal S1x256x128 .bf16)
    (q q' : Vec Ideal S256x128 .bf16) (g : Vec Ideal S1x128 .f32) : FVec Ideal S256x128 .bf16 :=
  k0_pay14 (maps lam k v kc vc q q')
    (k0_pay12 lam k v (k0_pay3 kc) (k0_pay4 vc) (k0_pay6 kc q) (k0_pay7 k kc q) (k0_pay9 k kc q) (k0_pay10 k kc q) q')
    (k0_pay13 (F := Ideal)) g

/-- The weight of the second map, of the body's vectors. -/
theorem lambda_at (u : Vec Ideal S4x64 .f32) : k0_pay2 (F := Ideal) u (ix2 0 0) = lambda fun r e => u (ix2 r e) := by
  unfold lambda
  pointwise [k0_pay2]

/-- The two maps' difference, read at an entry: row `i` of either half's queries attends to both stretches of keys. -/
theorem maps_at (lam : FVec Ideal S1x1 .f32) (k v : Vec Ideal S2048x128 .bf16) (kc vc : Vec Ideal S1x256x128 .bf16)
    (q q' : Vec Ideal S256x128 .bf16) (i : Fin 256) (d : Fin 128) :
    maps lam k v kc vc q q' (ix2 i d)
      = attend (fun κ : Fin 2048 => ∑ e : Fin 128, q (ix2 i e) * k (ix2 κ e))
          (fun κ : Fin 256 => ∑ e : Fin 128, q (ix2 i e) * kc (ix3 0 κ e)) (fun κ => v (ix2 κ d)) (fun κ => vc (ix3 0 κ d))
        - lam (ix2 0 0) * attend (fun κ : Fin 2048 => ∑ e : Fin 128, q' (ix2 i e) * k (ix2 κ e))
          (fun κ : Fin 256 => ∑ e : Fin 128, q' (ix2 i e) * kc (ix3 0 κ e)) (fun κ => v (ix2 κ d)) (fun κ => vc (ix3 0 κ d)) := by
  unfold attend top
  pointwise [maps, k0_pay11, k0_pay3, k0_pay4, k0_pay5, k0_pay6, k0_pay7, k0_pay8, k0_pay9, k0_pay10]

/-- What the body stores for a head, from the two maps' difference. -/
theorem head_at (lam : FVec Ideal S1x1 .f32) (k v : Vec Ideal S2048x128 .bf16) (kc vc : Vec Ideal S1x256x128 .bf16)
    (q q' : Vec Ideal S256x128 .bf16) (g : Vec Ideal S1x128 .f32) (i : Fin 256) (d : Fin 128) :
    head lam k v kc vc q q' g (ix2 i d) = subNorm (fun e => maps lam k v kc vc q q' (ix2 i e)) (g (ix2 0 d)) d := by
  have h12 : k0_pay12 lam k v (k0_pay3 kc) (k0_pay4 vc) (k0_pay6 kc q) (k0_pay7 k kc q) (k0_pay9 k kc q) (k0_pay10 k kc q) q'
      (ix2 i 0) = ∑ e : Fin 128, maps lam k v kc vc q q' (ix2 i e) * maps lam k v kc vc q q' (ix2 i e) := by
    show k0_pay12 _ _ _ _ _ _ _ _ _ _ _ = ∑ e : Fin 128, k0_pay11 _ _ _ _ _ _ _ _ _ _ _ * k0_pay11 _ _ _ _ _ _ _ _ _ _ _
    generalize k0_pay3 kc = a3
    generalize k0_pay4 vc = a4
    generalize k0_pay6 kc q = a6
    generalize k0_pay7 k kc q = a7
    generalize k0_pay9 k kc q = a9
    generalize k0_pay10 k kc q = a10
    unfold k0_pay12
    generalize k0_pay11 lam k v a3 a4 a6 a7 a9 a10 q' = o
    pointwise
  unfold head subNorm
  rw [← h12]
  generalize k0_pay12 lam k v (k0_pay3 kc) (k0_pay4 vc) (k0_pay6 kc q) (k0_pay7 k kc q) (k0_pay9 k kc q) (k0_pay10 k kc q) q' = s
  generalize maps lam k v kc vc q q' = o
  pointwise [k0_pay14, k0_pay13]

end Cert.Kernel4Ideal.Value
end
-- ==== Proof.DiffTiles.lean ====
module

public import proofs.«01_k».proof.Proof.DiffBlock

@[expose] public section

set_option maxRecDepth 16384
noncomputable section
namespace Cert.Kernel4Ideal.Value
open Cert.Kernel4Ideal Cert.Kernel4Ideal.Gen Cert.Softmax Cert.Diff Idealize.ShloMosaic Idealize.ShloMosaic.TcCoe Idealize.SL.Sem
open Idealize.ShloMosaic.Pipeline (Dat)

/-- Map `j` of head `h` of a block, from the input blocks: row `i`, value lane `d`. -/
def blockMap (x2 : Vec Ideal S256x2048 .bf16) (x3 x4 : Vec Ideal S2048x1024 .bf16) (x5 x6 : Vec Ideal S1x256x1024 .bf16)
    (i : Fin 256) (h : Fin 8) (j : Fin 2) (d : Fin 128) : EReal :=
  attend (fun κ : Fin 2048 => ∑ e : Fin 128, x2 (ix2 i (⟨h * 256 + j * 128 + e, by omega⟩ : Fin 2048)) * x3 (ix2 κ (⟨h * 128 + e, by omega⟩ : Fin 1024)))
    (fun κ : Fin 256 => ∑ e : Fin 128, x2 (ix2 i (⟨h * 256 + j * 128 + e, by omega⟩ : Fin 2048)) * x5 (ix3 0 κ (⟨h * 128 + e, by omega⟩ : Fin 1024)))
    (fun κ => x4 (ix2 κ (⟨h * 128 + d, by omega⟩ : Fin 1024))) (fun κ => x6 (ix3 0 κ (⟨h * 128 + d, by omega⟩ : Fin 1024)))

/-- A block of the output as one function of the input blocks: lane `l` belongs to head `l / 128`. -/
def blockOut (x0 : Vec Ideal S4x64 .f32) (x1 : Vec Ideal S1x128 .f32) (x2 : Vec Ideal S256x2048 .bf16) (x3 x4 : Vec Ideal S2048x1024 .bf16)
    (x5 x6 : Vec Ideal S1x256x1024 .bf16) (i : Fin 256) (l : Fin 1024) : EReal :=
  subNorm (fun e => blockMap x2 x3 x4 x5 x6 i (⟨l / 128, by omega⟩ : Fin 8) 0 e
      - lambda (fun r e => x0 (ix2 r e)) * blockMap x2 x3 x4 x5 x6 i (⟨l / 128, by omega⟩ : Fin 8) 1 e)
    (x1 (ix2 0 (⟨l % 128, by omega⟩ : Fin 128))) (⟨l % 128, by omega⟩ : Fin 128)

/-- A head whose operands are the lanes of head `h` stores `blockOut` there. -/
theorem tile (x0 : Vec Ideal S4x64 .f32) (x1 : Vec Ideal S1x128 .f32) (x2 : Vec Ideal S256x2048 .bf16) (x3 x4 : Vec Ideal S2048x1024 .bf16)
    (x5 x6 : Vec Ideal S1x256x1024 .bf16) (u : Vec Ideal S4x64 .f32) (k v : Vec Ideal S2048x128 .bf16) (kc vc : Vec Ideal S1x256x128 .bf16)
    (q q' : Vec Ideal S256x128 .bf16) (g : Vec Ideal S1x128 .f32) (i : Fin 256) (d : Fin 128) (y : S256x1024.Idx) (h : Fin 8)
    (h0 : (y 0 : ℕ) = i) (h1 : (y 1 : ℕ) = h * 128 + d)
    (hu : ∀ (r : Fin 4) (e : Fin 64), u (ix2 r e) = x0 (ix2 r e))
    (hq : ∀ (i : Fin 256) (e : Fin 128), q (ix2 i e) = x2 (ix2 i (⟨h * 256 + e, by omega⟩ : Fin 2048)))
    (hq' : ∀ (i : Fin 256) (e : Fin 128), q' (ix2 i e) = x2 (ix2 i (⟨h * 256 + 128 + e, by omega⟩ : Fin 2048)))
    (hk : ∀ (κ : Fin 2048) (e : Fin 128), k (ix2 κ e) = x3 (ix2 κ (⟨h * 128 + e, by omega⟩ : Fin 1024)))
    (hv : ∀ (κ : Fin 2048) (e : Fin 128), v (ix2 κ e) = x4 (ix2 κ (⟨h * 128 + e, by omega⟩ : Fin 1024)))
    (hkc : ∀ (κ : Fin 256) (e : Fin 128), kc (ix3 0 κ e) = x5 (ix3 0 κ (⟨h * 128 + e, by omega⟩ : Fin 1024)))
    (hvc : ∀ (κ : Fin 256) (e : Fin 128), vc (ix3 0 κ e) = x6 (ix3 0 κ (⟨h * 128 + e, by omega⟩ : Fin 1024)))
    (hg : ∀ e : Fin 128, g (ix2 0 e) = x1 (ix2 0 e)) :
    head (k0_pay2 u) k v kc vc q q' g (ix2 i d) = blockOut x0 x1 x2 x3 x4 x5 x6 (y 0) (y 1) := by
  have e0 : (y 0 : Fin 256) = i := Fin.ext h0
  have e1 : (⟨(y 1 : ℕ) / 128, by have := (y 1).isLt; simp at this; omega⟩ : Fin 8) = h := Fin.ext (by simp only; omega)
  have e2 : (⟨(y 1 : ℕ) % 128, by omega⟩ : Fin 128) = d := Fin.ext (by simp only; omega)
  refine (head_at _ k v kc vc q q' g i d).trans ?_
  unfold blockOut
  rw [e1, e2, e0, hg]
  refine subNorm_congr (fun e => ?_) rfl rfl
  rw [maps_at, lambda_at]
  unfold blockMap
  simp only [hu, hq, hq', hk, hv, hkc, hvc, Fin.val_zero, Fin.val_one, Nat.zero_mul, Nat.one_mul, Nat.add_zero]

/-- An entry of an array that is another one is that one's. -/
theorem entry_of_eq {f g : FVec Ideal S256x128 .bf16} {x : S256x128.Idx} {z : EReal} (h : f = g) (hz : g x = z) : f x = z :=
  (congrFun h x).trans hz

set_option maxHeartbeats 4000000 in
/-- The eight stores of the body, one per head, make the block `blockOut`. -/
theorem out0_7_eq (x0 : Vec Ideal S4x64 .f32) (x1 : Vec Ideal S1x128 .f32) (x2 : Vec Ideal S256x2048 .bf16) (x3 x4 : Vec Ideal S2048x1024 .bf16)
    (x5 x6 : Vec Ideal S1x256x1024 .bf16) (y : S256x1024.Idx) :
    out0_7 x0 x1 x2 x3 x4 x5 x6 y = blockOut x0 x1 x2 x3 x4 x5 x6 (y 0) (y 1) := by
  unfold out0_7
  canon_tiles x h
  case' piece0 => refine entry_of_eq (g := head (k0_pay2 (View.ld x0 r0_0)) (View.ld x3 r0_37) (View.ld x4 r0_37) (View.ld x5 r0_38) (View.ld x6 r0_38) (View.ld x2 r0_39) (View.ld x2 r0_40) (View.ld x1 r0_5)) (by rfl) ((congrArg _ (eq_ix2 x)).trans (tile x0 x1 x2 x3 x4 x5 x6 _ _ _ _ _ _ _ _ (x 0) (x 1) y 7 ?_ ?_ ?_ ?_ ?_ ?_ ?_ ?_ ?_ ?_))
  case' piece1 => refine entry_of_eq (g := head (k0_pay2 (View.ld x0 r0_0)) (View.ld x3 r0_32) (View.ld x4 r0_32) (View.ld x5 r0_33) (View.ld x6 r0_33) (View.ld x2 r0_34) (View.ld x2 r0_35) (View.ld x1 r0_5)) (by rfl) ((congrArg _ (eq_ix2 x)).trans (tile x0 x1 x2 x3 x4 x5 x6 _ _ _ _ _ _ _ _ (x 0) (x 1) y 6 ?_ ?_ ?_ ?_ ?_ ?_ ?_ ?_ ?_ ?_))
  case' piece2 => refine entry_of_eq (g := head (k0_pay2 (View.ld x0 r0_0)) (View.ld x3 r0_27) (View.ld x4 r0_27) (View.ld x5 r0_28) (View.ld x6 r0_28) (View.ld x2 r0_29) (View.ld x2 r0_30) (View.ld x1 r0_5)) (by rfl) ((congrArg _ (eq_ix2 x)).trans (tile x0 x1 x2 x3 x4 x5 x6 _ _ _ _ _ _ _ _ (x 0) (x 1) y 5 ?_ ?_ ?_ ?_ ?_ ?_ ?_ ?_ ?_ ?_))
  case' piece3 => refine entry_of_eq (g := head (k0_pay2 (View.ld x0 r0_0)) (View.ld x3 r0_22) (View.ld x4 r0_22) (View.ld x5 r0_23) (View.ld x6 r0_23) (View.ld x2 r0_24) (View.ld x2 r0_25) (View.ld x1 r0_5)) (by rfl) ((congrArg _ (eq_ix2 x)).trans (tile x0 x1 x2 x3 x4 x5 x6 _ _ _ _ _ _ _ _ (x 0) (x 1) y 4 ?_ ?_ ?_ ?_ ?_ ?_ ?_ ?_ ?_ ?_))
  case' piece4 => refine entry_of_eq (g := head (k0_pay2 (View.ld x0 r0_0)) (View.ld x3 r0_17) (View.ld x4 r0_17) (View.ld x5 r0_18) (View.ld x6 r0_18) (View.ld x2 r0_19) (View.ld x2 r0_20) (View.ld x1 r0_5)) (by rfl) ((congrArg _ (eq_ix2 x)).trans (tile x0 x1 x2 x3 x4 x5 x6 _ _ _ _ _ _ _ _ (x 0) (x 1) y 3 ?_ ?_ ?_ ?_ ?_ ?_ ?_ ?_ ?_ ?_))
  case' piece5 => refine entry_of_eq (g := head (k0_pay2 (View.ld x0 r0_0)) (View.ld x3 r0_12) (View.ld x4 r0_12) (View.ld x5 r0_13) (View.ld x6 r0_13) (View.ld x2 r0_14) (View.ld x2 r0_15) (View.ld x1 r0_5)) (by rfl) ((congrArg _ (eq_ix2 x)).trans (tile x0 x1 x2 x3 x4 x5 x6 _ _ _ _ _ _ _ _ (x 0) (x 1) y 2 ?_ ?_ ?_ ?_ ?_ ?_ ?_ ?_ ?_ ?_))
  case' piece6 => refine entry_of_eq (g := head (k0_pay2 (View.ld x0 r0_0)) (View.ld x3 r0_7) (View.ld x4 r0_7) (View.ld x5 r0_8) (View.ld x6 r0_8) (View.ld x2 r0_9) (View.ld x2 r0_10) (View.ld x1 r0_5)) (by rfl) ((congrArg _ (eq_ix2 x)).trans (tile x0 x1 x2 x3 x4 x5 x6 _ _ _ _ _ _ _ _ (x 0) (x 1) y 1 ?_ ?_ ?_ ?_ ?_ ?_ ?_ ?_ ?_ ?_))
  case' piece7 => refine entry_of_eq (g := head (k0_pay2 (View.ld x0 r0_0)) (View.ld x3 r0_1) (View.ld x4 r0_1) (View.ld x5 r0_2) (View.ld x6 r0_2) (View.ld x2 r0_3) (View.ld x2 r0_4) (View.ld x1 r0_5)) (by rfl) ((congrArg _ (eq_ix2 x)).trans (tile x0 x1 x2 x3 x4 x5 x6 _ _ _ _ _ _ _ _ (x 0) (x 1) y 0 ?_ ?_ ?_ ?_ ?_ ?_ ?_ ?_ ?_ ?_))
  all_goals (intros; first | assumption | omega | (pointwise; done) | (pointwise; blk_ext))
end Cert.Kernel4Ideal.Value
end
-- ==== Proof.DiffArray.lean ====
module

public import proofs.«01_k».proof.Proof.Gen.Kernel4Ideal.Frame
public import proofs.«01_k».proof.Proof.DiffTiles

@[expose] public section

set_option maxRecDepth 16384
noncomputable section
namespace Cert.Kernel4Ideal.Value
open Cert.Kernel4Ideal Cert.Kernel4Ideal.Gen Cert.Softmax Cert.Diff Idealize.ShloMosaic Idealize.ShloMosaic.TcCoe Idealize.SL.Sem
open Idealize.ShloMosaic.Pipeline (Dat)
variable (m : (ℓ : Loc nD τ sig) → Buf (Elt Ideal) ℓ)

/-- Where each window stands at a grid point. -/
theorem idx : ∀ t : Fin cfg0.N, win0_0.index t = ![0, 0] ∧ win0_1.index t = ![0, 0] ∧ win0_2.index t = ![16 + t.val, 0]
    ∧ win0_3.index t = ![2 + t.val / 8, 0] ∧ win0_4.index t = ![2 + t.val / 8, 0]
    ∧ win0_5.index t = ![t.val / 8, 0, 0] ∧ win0_6.index t = ![t.val / 8, 0, 0] ∧ win0_7.index t = ![t.val, 0] :=
  (by decide +kernel : ∀ t : Fin grid0.N, _)

/-- The gain's row, as the region finds it: the argument. -/
theorem V_main_v0 (c : Dev nD) :
    V m c main_v0 = shapeCast S1x128 (m ((c : Thread nD τ).loc main_arg1)) shapeCasts_S128_S1x128 := by
  entry_read
  rfl

/-- The gain a block sees. -/
theorem gain_at (c : Dev nD) (t : Fin cfg0.N) (d : Fin 128) :
    iblk m c 1 t (ix2 0 d) = m ((c : Thread nD τ).loc main_arg1) (ix1 d) := by
  blk_simp [iblk, idx t]
  rw [V_main_v0]
  pointwise
  blk_ext [idx t]

/-- Map `j` of head `h`, from the argument arrays: row `i` is token `i % 2048` of batch `i / 2048`, whose queries and own keys
    and values stand 4096 rows further down; value lane `d`. -/
def map (q : Vec Ideal S20480x2048 .bf16) (k v : Vec Ideal S20480x1024 .bf16) (kc vc : Vec Ideal S8x256x1024 .bf16)
    (i : Fin 16384) (h : Fin 8) (j : Fin 2) (d : Fin 128) : EReal :=
  attend (fun κ : Fin 2048 => ∑ e : Fin 128, q (ix2 (⟨4096 + i, by omega⟩ : Fin 20480) (⟨h * 256 + j * 128 + e, by omega⟩ : Fin 2048))
        * k (ix2 (⟨4096 + (i / 2048 * 2048 + κ), by omega⟩ : Fin 20480) (⟨h * 128 + e, by omega⟩ : Fin 1024)))
    (fun κ : Fin 256 => ∑ e : Fin 128, q (ix2 (⟨4096 + i, by omega⟩ : Fin 20480) (⟨h * 256 + j * 128 + e, by omega⟩ : Fin 2048))
        * kc (ix3 (⟨i / 2048, by omega⟩ : Fin 8) κ (⟨h * 128 + e, by omega⟩ : Fin 1024)))
    (fun κ => v (ix2 (⟨4096 + (i / 2048 * 2048 + κ), by omega⟩ : Fin 20480) (⟨h * 128 + d, by omega⟩ : Fin 1024)))
    (fun κ => vc (ix3 (⟨i / 2048, by omega⟩ : Fin 8) κ (⟨h * 128 + d, by omega⟩ : Fin 1024)))

/-- THE RESULT, entry by entry, from the argument arrays: lane `l` belongs to head `l / 128`. -/
def attention (u : Vec Ideal S4x64 .f32) (g : Vec Ideal S128 .f32) (q : Vec Ideal S20480x2048 .bf16) (k v : Vec Ideal S20480x1024 .bf16)
    (kc vc : Vec Ideal S8x256x1024 .bf16) (i : Fin 16384) (l : Fin 1024) : EReal :=
  subNorm (fun e => map q k v kc vc i (⟨l / 128, by omega⟩ : Fin 8) 0 e
      - lambda (fun r e => u (ix2 r e)) * map q k v kc vc i (⟨l / 128, by omega⟩ : Fin 8) 1 e)
    (g (ix1 (⟨l % 128, by omega⟩ : Fin 128))) (⟨l % 128, by omega⟩ : Fin 128)

/-- A map of a block is the array's at the place the block has. -/
theorem map_eq (c : Dev nD) (t : Fin cfg0.N) (i : Fin 256) (r : Fin 16384) (h0 : (r : ℕ) = t.val * 256 + i) (h : Fin 8) (j : Fin 2)
    (d : Fin 128) :
    blockMap (iblk m c 2 t) (iblk m c 3 t) (iblk m c 4 t) (iblk m c 5 t) (iblk m c 6 t) i h j d
      = map (m ((c : Thread nD τ).loc main_arg2)) (m ((c : Thread nD τ).loc main_arg3)) (m ((c : Thread nD τ).loc main_arg4))
          (m ((c : Thread nD τ).loc main_arg5)) (m ((c : Thread nD τ).loc main_arg6)) r h j d := by
  have ht : t.val < 64 := lt_of_lt_of_eq t.isLt N_0
  refine attend_congr (fun κ => Finset.sum_congr rfl fun e _ => congrArg₂ (· * ·) ?_ ?_)
    (fun κ => Finset.sum_congr rfl fun e _ => congrArg₂ (· * ·) ?_ ?_) (fun κ => ?_) (fun κ => ?_)
  all_goals blk_ext [iblk, V, idx t]

/-- A block's entry is the result's entry at the place the block has in the array. -/
theorem point (c : Dev nD) (t : Fin cfg0.N) (i : Fin 256) (l : Fin 1024) (r : Fin 16384) (s : Fin 1024)
    (h0 : (r : ℕ) = t.val * 256 + i) (h1 : s = l) :
    blockOut (iblk m c 0 t) (iblk m c 1 t) (iblk m c 2 t) (iblk m c 3 t) (iblk m c 4 t) (iblk m c 5 t) (iblk m c 6 t) i l
      = attention (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) r s := by
  subst h1
  have hu : ∀ (a : Fin 4) (e : Fin 64), iblk m c 0 t (ix2 a e) = m ((c : Thread nD τ).loc main_arg0) (ix2 a e) := fun a e => by
    blk_ext [iblk, V, idx t]
  unfold blockOut attention
  simp only [map_eq m c t i r h0, gain_at, hu]

/-- The output array after the run is the differential attention of the arguments. -/
theorem final (c : Dev nD) :
    (dats m 0 c).arrAt 7 cfg0.N = fun i : S16384x1024.Idx =>
    attention (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (i 0) (i 1) := by
  refine (dats m 0 c).arrAt_eq_of_covers 7 _ (by decide +kernel) fun t hf y => ?_
  blk_simp
  rw [after0_7]
  refine (out0_7_eq _ _ _ _ _ _ _ _).trans (point m c t _ _ _ _ ?_ (Fin.ext ?_))
  all_goals (blk_simp [idx t] <;> try omega)
end Cert.Kernel4Ideal.Value
end
-- ==== Proof.GqaReference.lean ====
module

public import proofs.«01_k».proof.Proof.Gen.ReferenceIdeal.Run
public import proofs.«01_k».proof.Proof.Softmax
public import Idealize.ShloMosaic.Lib.Pipeline.ValueKit
public import Idealize.ShloMosaic.Lib.Pointwise

@[expose] public section

set_option maxRecDepth 16384
noncomputable section
namespace Cert.ReferenceIdeal.Value
open Cert.ReferenceIdeal Cert.ReferenceIdeal.Gen Cert.Softmax Idealize.ShloMosaic Idealize.ShloMosaic.TcCoe Idealize.SL.Sem

/-- The reference's scores, of a query row with every key of its batch. -/
def scores (q : FVec Ideal S20480x2048 .bf16) (k : FVec Ideal S20480x256 .bf16) (kc : FVec Ideal S8x256x256 .bf16) :
    FVec Ideal S8x2x8x2048x2304 .f32 :=
  transpose S8x2x8x2048x2304 [0, 1, 4, 3, 2] (Host.dotGeneral dot_S8x2304x2x128_S8x2048x2x8x128_S8x2x2304x2048x8_3_4_1_13_02_02 none
    (concatenate S8x2304x2x128 1 [⟨S8x2048x2x128, (shapeCast _ (extractStridedSlice S16384x256 ![4096, 0] (extf .f32 k bitsLt_bf16_f32) slices_S20480x256_S16384x256_4096_0) shapeCasts_S16384x256_S8x2048x2x128)⟩, ⟨S8x256x2x128, (shapeCast _ (extf .f32 kc bitsLt_bf16_f32) shapeCasts_S8x256x256_S8x256x2x128)⟩] concatenates_S8x2048x2x128_S8x256x2x128_S8x2304x2x128_d1)
    (shapeCast _ (extractStridedSlice S16384x2048 ![4096, 0] (extf .f32 q bitsLt_bf16_f32) slices_S20480x2048_S16384x2048_4096_0) shapeCasts_S16384x2048_S8x2048x2x8x128))
    transposes_S8x2x2304x2048x8_S8x2x8x2048x2304_0_1_4_3_2

/-- The largest score of each row. -/
def rowMax (s : FVec Ideal S8x2x8x2048x2304 .f32) : FVec Ideal S8x2x8x2048 .f32 :=
  maximumf (broadcastInDim S8x2x8x2048 ![] bcast_S_S8x2x8x2048 (constant S_ .f32 0xFF800000#32))
    (Host.reduce FloatOps.maximumf s (constant S_ .f32 0xFF800000#32) reducesTo_S8x2x8x2048x2304_S8x2x8x2048_d4 h_S_)

/-- The exponentials of the scores less the row's largest. -/
def expo (s : FVec Ideal S8x2x8x2048x2304 .f32) : FVec Ideal S8x2x8x2048x2304 .f32 :=
  Host.exp (subf s (broadcastInDim S8x2x8x2048x2304 ![0, 1, 2, 3, 4] bcast_S8x2x8x2048x1_S8x2x8x2048x2304_0_1_2_3_4
    (broadcastInDim S8x2x8x2048x1 ![0, 1, 2, 3] bcast_S8x2x8x2048_S8x2x8x2048x1_0_1_2_3 (rowMax s))))

/-- The exponentials divided by their row's sum: the softmax. -/
def weights (p : FVec Ideal S8x2x8x2048x2304 .f32) : FVec Ideal S8x2x8x2048x2304 .f32 :=
  Host.divf p (broadcastInDim S8x2x8x2048x2304 ![0, 1, 2, 3, 4] bcast_S8x2x8x2048x1_S8x2x8x2048x2304_0_1_2_3_4
    (broadcastInDim S8x2x8x2048x1 ![0, 1, 2, 3] bcast_S8x2x8x2048_S8x2x8x2048x1_0_1_2_3
      (Host.reduceAdd p (constant S_ .f32 0x00000000#32) reducesTo_S8x2x8x2048x2304_S8x2x8x2048_d4 h_S_)))

/-- The values mixed by the weights, laid out in rows of tokens. -/
def mix (v : FVec Ideal S20480x256 .bf16) (vc : FVec Ideal S8x256x256 .bf16) (w : FVec Ideal S8x2x8x2048x2304 .f32) :
    FVec Ideal S16384x2048 .bf16 :=
  truncf .bf16 (shapeCast _ (transpose S8x2048x2x8x128 [0, 4, 1, 3, 2] (Host.dotGeneral dot_S8x2304x2x128_S8x2x8x2048x2304_S8x2x128x8x2048_1_4_3_23_02_01 none
    (concatenate S8x2304x2x128 1 [⟨S8x2048x2x128, (shapeCast _ (extractStridedSlice S16384x256 ![4096, 0] (extf .f32 v bitsLt_bf16_f32) slices_S20480x256_S16384x256_4096_0) shapeCasts_S16384x256_S8x2048x2x128)⟩, ⟨S8x256x2x128, (shapeCast _ (extf .f32 vc bitsLt_bf16_f32) shapeCasts_S8x256x256_S8x256x2x128)⟩] concatenates_S8x2048x2x128_S8x256x2x128_S8x2304x2x128_d1)
    (extf .f32 (truncf .bf16 w bitsLt_bf16_f32) bitsLt_bf16_f32)) transposes_S8x2x128x8x2048_S8x2048x2x8x128_0_4_1_3_2) shapeCasts_S8x2048x2x8x128_S16384x2048) bitsLt_bf16_f32

/-- The reference's result is these steps in turn. -/
theorem res_eq (m : (ℓ : Loc nD τ sig) → Buf (Elt Ideal) ℓ) (c : Dev nD) :
    res_out0 m c = mix (m ((c.tc : Thread nD τ).loc main_arg2)) (m ((c.tc : Thread nD τ).loc main_arg4))
      (weights (expo (scores (m ((c.tc : Thread nD τ).loc main_arg0)) (m ((c.tc : Thread nD τ).loc main_arg1)) (m ((c.tc : Thread nD τ).loc main_arg3))))) := by
  rfl

/-- A score with one of the batch's own keys. -/
theorem scores_own (q : FVec Ideal S20480x2048 .bf16) (k : FVec Ideal S20480x256 .bf16) (kc : FVec Ideal S8x256x256 .bf16)
    (b : Fin 8) (g : Fin 2) (r : Fin 8) (i : Fin 2048) (κ : Fin 2304) (h : (κ : ℕ) < 2048) :
    scores q k kc (ix5 b g r i κ) = ∑ e : Fin 128, q (ix2 (⟨4096 + (b * 2048 + i), by omega⟩ : Fin 20480) (⟨g * 1024 + r * 128 + e, by omega⟩ : Fin 2048))
      * k (ix2 (⟨4096 + (b * 2048 + κ), by omega⟩ : Fin 20480) (⟨g * 128 + e, by omega⟩ : Fin 256)) := by
  pointwise [scores]
  refine Finset.sum_congr rfl fun e _ => ?_
  rw [dif_pos h, mul_comm]

/-- A score with one of the batch's context keys. -/
theorem scores_ctx (q : FVec Ideal S20480x2048 .bf16) (k : FVec Ideal S20480x256 .bf16) (kc : FVec Ideal S8x256x256 .bf16)
    (b : Fin 8) (g : Fin 2) (r : Fin 8) (i : Fin 2048) (κ : Fin 2304) (h : ¬ (κ : ℕ) < 2048) :
    scores q k kc (ix5 b g r i κ) = ∑ e : Fin 128, q (ix2 (⟨4096 + (b * 2048 + i), by omega⟩ : Fin 20480) (⟨g * 1024 + r * 128 + e, by omega⟩ : Fin 2048))
      * kc (ix3 b (⟨κ - 2048, by omega⟩ : Fin 256) (⟨g * 128 + e, by omega⟩ : Fin 256)) := by
  pointwise [scores]
  refine Finset.sum_congr rfl fun e _ => ?_
  rw [dif_neg h, mul_comm]

/-- The host's maximum over axes, at the extended reals, is the fold of `max` over the entries above the index. -/
theorem hostMax_eq {s t u : Shape} {axes : List (Fin s.rank)} (x : FVec Ideal s .f32) (init : FVec Ideal u .f32)
    (h : s.ReducesTo axes t) (hu : 0 < u.numel) (j : t.Idx) :
    Host.reduce FloatOps.maximumf x init h hu j
      = (Finset.univ.filter fun i => h.drop i = j).fold (max : EReal → EReal → EReal) (init (Shape.Idx.first hu)) x :=
  Host.reduce_eq_fold (max : EReal → EReal → EReal) x init h hu j

/-- The larger of two arrays, at an index. -/
theorem max_apply {s : Shape} (a b : FVec Ideal s .f32) (j : s.Idx) :
    maximumf a b j = (max : EReal → EReal → EReal) (a j) (b j) := rfl

/-- A fold of `max` over the entries above an index of a rank-5 array reduced along its last axis runs along that axis. -/
theorem foldLast_at {n0 n1 n2 n3 n4 : ℕ} (h : (⟨5, ![n0, n1, n2, n3, n4]⟩ : Shape).ReducesTo [4] ⟨4, ![n0, n1, n2, n3]⟩)
    (z : EReal) (x : (⟨5, ![n0, n1, n2, n3, n4]⟩ : Shape).Idx → EReal) (b : Fin n0) (g : Fin n1) (r : Fin n2) (i : Fin n3) :
    (Finset.univ.filter fun j => h.drop j = ix4 b g r i).fold max z x = Finset.univ.fold max z fun k : Fin n4 => x (ix5 b g r i k) :=
  Shape.ReducesTo.fold_fiber_r5_a4 h (ix4 b g r i) max z x

/-- Minus infinity at every entry. -/
theorem lowest_at (j : S8x2x8x2048.Idx) :
    broadcastInDim S8x2x8x2048 ![] bcast_S_S8x2x8x2048 (constant (F := Ideal) S_ .f32 0xFF800000#32) j
      = Ideal.ofBits .f32 0xFF800000#32 := rfl

/-- The largest score of a row. -/
theorem rowMax_at (s : FVec Ideal S8x2x8x2048x2304 .f32) (b : Fin 8) (g : Fin 2) (r : Fin 8) (i : Fin 2048) :
    rowMax s (ix4 b g r i) = Finset.univ.fold (max : EReal → EReal → EReal) ⊥ fun k : Fin 2304 => s (ix5 b g r i k) := by
  unfold rowMax
  rw [max_apply, lowest_at, hostMax_eq, ofBits_neg_inf, max_eq_right bot_le]
  refine (foldLast_at reducesTo_S8x2x8x2048x2304_S8x2x8x2048_d4 _ s b g r i).trans ?_
  exact congrArg (fun z : EReal => Finset.univ.fold (max : EReal → EReal → EReal) z fun k : Fin 2304 => s (ix5 b g r i k)) ofBits_neg_inf

/-- An exponential, read at an entry. -/
theorem expo_at (s : FVec Ideal S8x2x8x2048x2304 .f32) (b : Fin 8) (g : Fin 2) (r : Fin 8) (i : Fin 2048) (κ : Fin 2304) :
    expo s (ix5 b g r i κ) = Ideal.exp (s (ix5 b g r i κ) - rowMax s (ix4 b g r i)) := by
  pointwise [expo]

/-- A weight, read at an entry: the row's sum in its two stretches of keys. -/
theorem weights_at (p : FVec Ideal S8x2x8x2048x2304 .f32) (b : Fin 8) (g : Fin 2) (r : Fin 8) (i : Fin 2048) (κ : Fin 2304) :
    weights p (ix5 b g r i κ) = Ideal.div (p (ix5 b g r i κ))
      (∑ k : Fin 2048, p (ix5 b g r i (Fin.castAdd 256 k)) + ∑ k : Fin 256, p (ix5 b g r i (Fin.natAdd 2048 k))) := by
  pointwise [weights]
  exact congrArg (Ideal.div _) (Fin.sum_univ_add (a := 2048) (b := 256) fun k => p (ix5 b g r i k))

/-- The result, read at an entry, from the weights. -/
theorem mix_at (v : FVec Ideal S20480x256 .bf16) (vc : FVec Ideal S8x256x256 .bf16) (w : FVec Ideal S8x2x8x2048x2304 .f32)
    (i : Fin 16384) (l : Fin 2048) :
    mix v vc w (ix2 i l)
      = ∑ k : Fin 2048, v (ix2 (⟨4096 + (i / 2048 * 2048 + k), by omega⟩ : Fin 20480) (⟨l / 1024 * 128 + l % 128, by omega⟩ : Fin 256))
          * w (ix5 (⟨i / 2048, by omega⟩ : Fin 8) (⟨l / 1024, by omega⟩ : Fin 2) (⟨l / 128 % 8, by omega⟩ : Fin 8) (⟨i % 2048, by omega⟩ : Fin 2048) (Fin.castAdd 256 k))
        + ∑ k : Fin 256, vc (ix3 (⟨i / 2048, by omega⟩ : Fin 8) k (⟨l / 1024 * 128 + l % 128, by omega⟩ : Fin 256))
          * w (ix5 (⟨i / 2048, by omega⟩ : Fin 8) (⟨l / 1024, by omega⟩ : Fin 2) (⟨l / 128 % 8, by omega⟩ : Fin 8) (⟨i % 2048, by omega⟩ : Fin 2048) (Fin.natAdd 2048 k)) := by
  pointwise [mix]
  rfl

end Cert.ReferenceIdeal.Value
end
-- ==== Proof.DiffReference.lean ====
module

public import proofs.«01_k».proof.Proof.Gen.Reference4Ideal.Run
public import proofs.«01_k».proof.Proof.DiffNorm
public import proofs.«01_k».proof.Proof.GqaReference
public import Idealize.ShloMosaic.Lib.Pipeline.ValueKit
public import Idealize.ShloMosaic.Lib.Pointwise

@[expose] public section

set_option maxRecDepth 16384
noncomputable section
namespace Cert.Reference4Ideal.Value
open Cert.Reference4Ideal Cert.Reference4Ideal.Gen Cert.Softmax Cert.Diff Idealize.ShloMosaic Idealize.ShloMosaic.TcCoe Idealize.SL.Sem
open Cert.ReferenceIdeal.Value (hostMax_eq max_apply foldLast_at)

/-- The keys or the values of a batch: its own tokens' and then the context's. -/
def together (k : FVec Ideal S20480x1024 .bf16) (kc : FVec Ideal S8x256x1024 .bf16) : FVec Ideal S8x2304x8x128 .f32 :=
  concatenate S8x2304x8x128 1 [⟨S8x2048x8x128, (shapeCast _ (extractStridedSlice S16384x1024 ![4096, 0] (extf .f32 k bitsLt_bf16_f32) slices_S20480x1024_S16384x1024_4096_0) shapeCasts_S16384x1024_S8x2048x8x128)⟩, ⟨S8x256x8x128, (shapeCast _ (extf .f32 kc bitsLt_bf16_f32) shapeCasts_S8x256x1024_S8x256x8x128)⟩] concatenates_S8x2048x8x128_S8x256x8x128_S8x2304x8x128_d1

/-- The reference's scores, of a query row's two halves with every key of its batch. -/
def scores (q : FVec Ideal S20480x2048 .bf16) (k : FVec Ideal S8x2304x8x128 .f32) : FVec Ideal S8x8x2x2048x2304 .f32 :=
  transpose S8x8x2x2048x2304 [0, 1, 4, 3, 2] (Host.dotGeneral dot_S8x2304x8x128_S8x2048x8x2x128_S8x8x2304x2048x2_3_4_1_13_02_02 none k
    (shapeCast _ (extractStridedSlice S16384x2048 ![4096, 0] (extf .f32 q bitsLt_bf16_f32) slices_S20480x2048_S16384x2048_4096_0) shapeCasts_S16384x2048_S8x2048x8x2x128))
    transposes_S8x8x2304x2048x2_S8x8x2x2048x2304_0_1_4_3_2

/-- The largest score of each row. -/
def rowMax (s : FVec Ideal S8x8x2x2048x2304 .f32) : FVec Ideal S8x8x2x2048 .f32 :=
  maximumf (broadcastInDim S8x8x2x2048 ![] bcast_S_S8x8x2x2048 (constant S_ .f32 0xFF800000#32))
    (Host.reduce FloatOps.maximumf s (constant S_ .f32 0xFF800000#32) reducesTo_S8x8x2x2048x2304_S8x8x2x2048_d4 h_S_)

/-- A number for each row, along the row. -/
def along (r : FVec Ideal S8x8x2x2048 .f32) : FVec Ideal S8x8x2x2048x2304 .f32 :=
  broadcastInDim S8x8x2x2048x2304 ![0, 1, 2, 3, 4] bcast_S8x8x2x2048x1_S8x8x2x2048x2304_0_1_2_3_4
    (broadcastInDim S8x8x2x2048x1 ![0, 1, 2, 3] bcast_S8x8x2x2048_S8x8x2x2048x1_0_1_2_3 r)

/-- The exponentials of the scores less the row's largest. -/
def expo (s : FVec Ideal S8x8x2x2048x2304 .f32) : FVec Ideal S8x8x2x2048x2304 .f32 := Host.exp (subf s (along (rowMax s)))

/-- The exponentials divided by their row's sum: the softmax of each of the two maps. -/
def weights (p : FVec Ideal S8x8x2x2048x2304 .f32) : FVec Ideal S8x8x2x2048x2304 .f32 :=
  Host.divf p (along (Host.reduceAdd p (constant S_ .f32 0x00000000#32) reducesTo_S8x8x2x2048x2304_S8x8x2x2048_d4 h_S_))

/-- The weight of the second map. -/
def second (u : FVec Ideal S4x64 .f32) : FVec Ideal S_ .f32 :=
  addf (subf (Host.exp (Host.reduceAdd (mulf (shapeCast _ (extractStridedSlice S1x64 ![0, 0] u slices_S4x64_S1x64_0_0) shapeCasts_S1x64_S64) (shapeCast _ (extractStridedSlice S1x64 ![1, 0] u slices_S4x64_S1x64_1_0) shapeCasts_S1x64_S64)) (constant S_ .f32 0x00000000#32) reducesTo_S64_S_d0 h_S_))
    (Host.exp (Host.reduceAdd (mulf (shapeCast _ (extractStridedSlice S1x64 ![2, 0] u slices_S4x64_S1x64_2_0) shapeCasts_S1x64_S64) (shapeCast _ (extractStridedSlice S1x64 ![3, 0] u slices_S4x64_S1x64_3_0) shapeCasts_S1x64_S64)) (constant S_ .f32 0x00000000#32) reducesTo_S64_S_d0 h_S_)))
    (constant S_ .f32 0x3EB60549#32)

/-- The first map less the weighted second. -/
def difference (r : FVec Ideal S_ .f32) (w : FVec Ideal S8x8x2x2048x2304 .f32) : FVec Ideal S8x8x2048x2304 .f32 :=
  subf (shapeCast _ (extractStridedSlice S8x8x1x2048x2304 ![0, 0, 0, 0, 0] w slices_S8x8x2x2048x2304_S8x8x1x2048x2304_0_0_0_0_0) shapeCasts_S8x8x1x2048x2304_S8x8x2048x2304)
    (mulf (broadcastInDim S8x8x2048x2304 ![] bcast_S_S8x8x2048x2304 r)
      (shapeCast _ (extractStridedSlice S8x8x1x2048x2304 ![0, 0, 1, 0, 0] w slices_S8x8x2x2048x2304_S8x8x1x2048x2304_0_0_1_0_0) shapeCasts_S8x8x1x2048x2304_S8x8x2048x2304))

/-- The values mixed by a map. -/
def mix (v : FVec Ideal S8x2304x8x128 .f32) (a : FVec Ideal S8x8x2048x2304 .f32) : FVec Ideal S8x2048x8x128 .f32 :=
  transpose S8x2048x8x128 [0, 3, 1, 2] (Host.dotGeneral dot_S8x2304x8x128_S8x8x2048x2304_S8x8x128x2048_1_3_3_2_02_01 none v a) transposes_S8x8x128x2048_S8x2048x8x128_0_3_1_2

/-- Each head's vector divided by its root mean square, times the gain and a constant, laid out in rows of tokens. -/
def normed (g : FVec Ideal S128 .f32) (o : FVec Ideal S8x2048x8x128 .f32) : FVec Ideal S16384x1024 .bf16 :=
  truncf .bf16 (shapeCast _ (mulf (mulf (mulf o
    (broadcastInDim S8x2048x8x128 ![0, 1, 2, 3] bcast_S8x2048x8x1_S8x2048x8x128_0_1_2_3 (Host.rsqrt (addf (Host.divf
      (broadcastInDim S8x2048x8x1 ![0, 1, 2] bcast_S8x2048x8_S8x2048x8x1_0_1_2 (Host.reduceAdd (mulf o o) (constant S_ .f32 0x00000000#32) reducesTo_S8x2048x8x128_S8x2048x8_d3 h_S_))
      (broadcastInDim S8x2048x8x1 ![] bcast_S_S8x2048x8x1 (constant S_ .f32 0x43000000#32)))
      (broadcastInDim S8x2048x8x1 ![] bcast_S_S8x2048x8x1 (constant S_ .f32 0x358637BD#32))))))
    (broadcastInDim S8x2048x8x128 ![0, 1, 2, 3] bcast_S1x1x1x128_S8x2048x8x128_0_1_2_3 (broadcastInDim S1x1x1x128 ![3] bcast_S128_S1x1x1x128_3 g)))
    (broadcastInDim S8x2048x8x128 ![] bcast_S_S8x2048x8x128 (constant S_ .f32 0x3F24FD5C#32))) shapeCasts_S8x2048x8x128_S16384x1024) bitsLt_bf16_f32

/-- The reference's steps in turn. -/
def result (u : FVec Ideal S4x64 .f32) (g : FVec Ideal S128 .f32) (q : FVec Ideal S20480x2048 .bf16) (k v : FVec Ideal S20480x1024 .bf16)
    (kc vc : FVec Ideal S8x256x1024 .bf16) : FVec Ideal S16384x1024 .bf16 :=
  normed g (mix (together v vc) (difference (second u) (weights (expo (scores q (together k kc))))))

/-- The reference's result is these steps. -/
theorem res_eq (m : (ℓ : Loc nD τ sig) → Buf (Elt Ideal) ℓ) (c : Dev nD) :
    res_out0 m c = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) := by
  rfl

/-- A key of the batch's own tokens. -/
theorem together_own (k : FVec Ideal S20480x1024 .bf16) (kc : FVec Ideal S8x256x1024 .bf16) (b : Fin 8) (κ : Fin 2048) (h : Fin 8) (e : Fin 128) :
    together k kc (ix4 b (Fin.castAdd 256 κ) h e) = k (ix2 (⟨4096 + (b * 2048 + κ), by omega⟩ : Fin 20480) (⟨h * 128 + e, by omega⟩ : Fin 1024)) := by
  pointwise [together]
  rw [dif_pos (by simp)]
  rfl

/-- A key of the batch's context. -/
theorem together_ctx (k : FVec Ideal S20480x1024 .bf16) (kc : FVec Ideal S8x256x1024 .bf16) (b : Fin 8) (κ : Fin 256) (h : Fin 8) (e : Fin 128) :
    together k kc (ix4 b (Fin.natAdd 2048 κ) h e) = kc (ix3 b κ (⟨h * 128 + e, by omega⟩ : Fin 1024)) := by
  pointwise [together]
  rw [dif_neg (by simp)]
  blk_ext
  simp

/-- A score, read at an entry. -/
theorem scores_at (q : FVec Ideal S20480x2048 .bf16) (k : FVec Ideal S8x2304x8x128 .f32)
    (b h : Fin 8) (j : Fin 2) (i : Fin 2048) (κ : Fin 2304) :
    scores q k (ix5 b h j i κ) = ∑ e : Fin 128, k (ix4 b κ h e)
      * q (ix2 (⟨4096 + (b * 2048 + i), by omega⟩ : Fin 20480) (⟨h * 256 + j * 128 + e, by omega⟩ : Fin 2048)) := by
  pointwise [scores]

/-- Minus infinity at every entry. -/
theorem lowest_at (j : S8x8x2x2048.Idx) :
    broadcastInDim S8x8x2x2048 ![] bcast_S_S8x8x2x2048 (constant (F := Ideal) S_ .f32 0xFF800000#32) j
      = Ideal.ofBits .f32 0xFF800000#32 := rfl

/-- The largest score of a row. -/
theorem rowMax_at (s : FVec Ideal S8x8x2x2048x2304 .f32) (b : Fin 8) (g : Fin 8) (r : Fin 2) (i : Fin 2048) :
    rowMax s (ix4 b g r i) = Finset.univ.fold (max : EReal → EReal → EReal) ⊥ fun k : Fin 2304 => s (ix5 b g r i k) := by
  unfold rowMax
  rw [max_apply, lowest_at, hostMax_eq, ofBits_neg_inf, max_eq_right bot_le]
  refine (foldLast_at reducesTo_S8x8x2x2048x2304_S8x8x2x2048_d4 _ s b g r i).trans ?_
  exact congrArg (fun z : EReal => Finset.univ.fold (max : EReal → EReal → EReal) z fun k : Fin 2304 => s (ix5 b g r i k)) ofBits_neg_inf

/-- An exponential, read at an entry. -/
theorem expo_at (s : FVec Ideal S8x8x2x2048x2304 .f32) (b : Fin 8) (g : Fin 8) (r : Fin 2) (i : Fin 2048) (κ : Fin 2304) :
    expo s (ix5 b g r i κ) = Ideal.exp (s (ix5 b g r i κ) - rowMax s (ix4 b g r i)) := by
  pointwise [expo, along]

/-- A weight, read at an entry: the row's sum in its two stretches of keys. -/
theorem weights_at (p : FVec Ideal S8x8x2x2048x2304 .f32) (b : Fin 8) (g : Fin 8) (r : Fin 2) (i : Fin 2048) (κ : Fin 2304) :
    weights p (ix5 b g r i κ) = Ideal.div (p (ix5 b g r i κ))
      (∑ k : Fin 2048, p (ix5 b g r i (Fin.castAdd 256 k)) + ∑ k : Fin 256, p (ix5 b g r i (Fin.natAdd 2048 k))) := by
  pointwise [weights, along]
  exact congrArg (Ideal.div _) (Fin.sum_univ_add (a := 2048) (b := 256) fun k => p (ix5 b g r i k))

/-- The weight of the second map. -/
theorem second_at (u : FVec Ideal S4x64 .f32) : second u ix0 = lambda fun r e => u (ix2 r e) := by
  unfold lambda
  pointwise [second]

/-- The first map less the weighted second, read at an entry. -/
theorem difference_at (r : FVec Ideal S_ .f32) (w : FVec Ideal S8x8x2x2048x2304 .f32) (b h : Fin 8) (i : Fin 2048) (κ : Fin 2304) :
    difference r w (ix4 b h i κ) = w (ix5 b h 0 i κ) - r ix0 * w (ix5 b h 1 i κ) := by
  pointwise [difference]

/-- The mixed values, read at an entry: the two stretches of keys. -/
theorem mix_at (v : FVec Ideal S8x2304x8x128 .f32) (a : FVec Ideal S8x8x2048x2304 .f32) (b : Fin 8) (i : Fin 2048) (h : Fin 8) (d : Fin 128) :
    mix v a (ix4 b i h d)
      = ∑ k : Fin 2048, v (ix4 b (Fin.castAdd 256 k) h d) * a (ix4 b h i (Fin.castAdd 256 k))
        + ∑ k : Fin 256, v (ix4 b (Fin.natAdd 2048 k) h d) * a (ix4 b h i (Fin.natAdd 2048 k)) := by
  pointwise [mix]
  exact Fin.sum_univ_add (a := 2048) (b := 256) fun k => v (ix4 b k h d) * a (ix4 b h i k)

/-- The normalized vectors, read at an entry. -/
theorem normed_at (g : FVec Ideal S128 .f32) (o : FVec Ideal S8x2048x8x128 .f32) (i : Fin 16384) (l : Fin 1024) :
    normed g o (ix2 i l) = subNorm (fun e => o (ix4 (⟨i / 2048, by omega⟩ : Fin 8) (⟨i % 2048, by omega⟩ : Fin 2048) (⟨l / 128, by omega⟩ : Fin 8) e))
      (g (ix1 (⟨l % 128, by omega⟩ : Fin 128))) (⟨l % 128, by omega⟩ : Fin 128) := by
  unfold subNorm
  pointwise [normed]

end Cert.Reference4Ideal.Value
end
-- ==== Proof.GqaBlock.lean ====
module

public import proofs.«01_k».proof.Proof.Gen.KernelIdeal.Value
public import proofs.«01_k».proof.Proof.Softmax
public import Idealize.ShloMosaic.Lib.Pipeline.ValueKit
public import Idealize.ShloMosaic.Lib.Pointwise

@[expose] public section

set_option maxRecDepth 16384
noncomputable section
namespace Cert.KernelIdeal.Value
open Cert.KernelIdeal Cert.KernelIdeal.Gen Cert.Softmax Idealize.ShloMosaic Idealize.ShloMosaic.TcCoe Idealize.SL.Sem
open Idealize.ShloMosaic.Pipeline (Dat)

/-- One head of the kernel's body, read at an entry: row `i` of the queries attends to both stretches of keys. -/
theorem head_at (k v : Vec Ideal S2048x128 .bf16) (kc vc : Vec Ideal S1x256x128 .bf16) (q : Vec Ideal S256x128 .bf16)
    (i : Fin 256) (d : Fin 128) :
    k0_pay2 (F := Ideal) k v kc vc q (ix2 i d)
      = attend (fun κ : Fin 2048 => ∑ e : Fin 128, q (ix2 i e) * k (ix2 κ e))
          (fun κ : Fin 256 => ∑ e : Fin 128, q (ix2 i e) * kc (ix3 0 κ e))
          (fun κ => v (ix2 κ d)) (fun κ => vc (ix3 0 κ d)) := by
  unfold attend top
  pointwise [k0_pay2]

/-- A block of the output as one function of the input blocks: lane `l` belongs to head `l / 128`, whose keys and values are
    the lanes of group `l / 1024`. -/
def blockOut (x0 : Vec Ideal S256x2048 .bf16) (x1 x2 : Vec Ideal S2048x256 .bf16) (x3 x4 : Vec Ideal S1x256x256 .bf16)
    (i : Fin 256) (l : Fin 2048) : EReal :=
  attend (fun κ : Fin 2048 => ∑ e : Fin 128, x0 (ix2 i (⟨l / 128 * 128 + e, by omega⟩ : Fin 2048)) * x1 (ix2 κ (⟨l / 1024 * 128 + e, by omega⟩ : Fin 256)))
    (fun κ : Fin 256 => ∑ e : Fin 128, x0 (ix2 i (⟨l / 128 * 128 + e, by omega⟩ : Fin 2048)) * x3 (ix3 0 κ (⟨l / 1024 * 128 + e, by omega⟩ : Fin 256)))
    (fun κ => x2 (ix2 κ (⟨l / 1024 * 128 + l % 128, by omega⟩ : Fin 256)))
    (fun κ => x4 (ix3 0 κ (⟨l / 1024 * 128 + l % 128, by omega⟩ : Fin 256)))

/-- A head whose operands are the lanes of head `l / 128` stores `blockOut` there. -/
theorem tile (x0 : Vec Ideal S256x2048 .bf16) (x1 x2 : Vec Ideal S2048x256 .bf16) (x3 x4 : Vec Ideal S1x256x256 .bf16)
    (k v : Vec Ideal S2048x128 .bf16) (kc vc : Vec Ideal S1x256x128 .bf16) (q : Vec Ideal S256x128 .bf16)
    (x : S256x128.Idx) (y : S256x2048.Idx)
    (hq : ∀ e : Fin 128, q (ix2 (x 0) e) = x0 (ix2 (y 0) (⟨y 1 / 128 * 128 + e, by have := (y 1).isLt; simp at this; omega⟩ : Fin 2048)))
    (hk : ∀ (κ : Fin 2048) (e : Fin 128), k (ix2 κ e) = x1 (ix2 κ (⟨y 1 / 1024 * 128 + e, by have := (y 1).isLt; simp at this; omega⟩ : Fin 256)))
    (hv : ∀ (κ : Fin 2048), v (ix2 κ (x 1)) = x2 (ix2 κ (⟨y 1 / 1024 * 128 + y 1 % 128, by have := (y 1).isLt; simp at this; omega⟩ : Fin 256)))
    (hkc : ∀ (κ : Fin 256) (e : Fin 128), kc (ix3 0 κ e) = x3 (ix3 0 κ (⟨y 1 / 1024 * 128 + e, by have := (y 1).isLt; simp at this; omega⟩ : Fin 256)))
    (hvc : ∀ (κ : Fin 256), vc (ix3 0 κ (x 1)) = x4 (ix3 0 κ (⟨y 1 / 1024 * 128 + y 1 % 128, by have := (y 1).isLt; simp at this; omega⟩ : Fin 256))) :
    k0_pay2 (F := Ideal) k v kc vc q x = blockOut x0 x1 x2 x3 x4 (y 0) (y 1) := by
  rw [eq_ix2 x]
  refine (head_at k v kc vc q (x 0) (x 1)).trans ?_
  simp only [blockOut, hq, hk, hv, hkc, hvc]

/-- An entry of an array that is another one is that one's. -/
theorem entry_of_eq {f g : FVec Ideal S256x128 .bf16} {x : S256x128.Idx} {z : EReal} (h : f = g) (hz : g x = z) : f x = z :=
  (congrFun h x).trans hz

/-- A head of the first group, on its lanes of the input blocks. -/
abbrev lo (x1 x2 : Vec Ideal S2048x256 .bf16) (x3 x4 : Vec Ideal S1x256x256 .bf16) (q : Vec Ideal S256x128 .bf16) : FVec Ideal S256x128 .bf16 :=
  k0_pay2 (F := Ideal) (View.ld x1 r0_0) (View.ld x2 r0_0) (View.ld x3 r0_1) (View.ld x4 r0_1) q

/-- A head of the second group, on its lanes of the input blocks. -/
abbrev hi (x1 x2 : Vec Ideal S2048x256 .bf16) (x3 x4 : Vec Ideal S1x256x256 .bf16) (q : Vec Ideal S256x128 .bf16) : FVec Ideal S256x128 .bf16 :=
  k0_pay2 (F := Ideal) (View.ld x1 r0_10) (View.ld x2 r0_10) (View.ld x3 r0_11) (View.ld x4 r0_11) q

set_option maxHeartbeats 4000000 in
/-- The sixteen stores of the body, one per head, make the block `blockOut`. -/
theorem out0_5_eq (x0 : Vec Ideal S256x2048 .bf16) (x1 x2 : Vec Ideal S2048x256 .bf16) (x3 x4 : Vec Ideal S1x256x256 .bf16)
    (y : S256x2048.Idx) : out0_5 x0 x1 x2 x3 x4 y = blockOut x0 x1 x2 x3 x4 (y 0) (y 1) := by
  unfold out0_5
  canon_tiles x h
  case' piece0 => refine entry_of_eq (g := hi x1 x2 x3 x4 (View.ld x0 r0_19)) (by rfl) (tile x0 x1 x2 x3 x4 _ _ _ _ _ x y ?_ ?_ ?_ ?_ ?_)
  case' piece1 => refine entry_of_eq (g := hi x1 x2 x3 x4 (View.ld x0 r0_18)) (by rfl) (tile x0 x1 x2 x3 x4 _ _ _ _ _ x y ?_ ?_ ?_ ?_ ?_)
  case' piece2 => refine entry_of_eq (g := hi x1 x2 x3 x4 (View.ld x0 r0_17)) (by rfl) (tile x0 x1 x2 x3 x4 _ _ _ _ _ x y ?_ ?_ ?_ ?_ ?_)
  case' piece3 => refine entry_of_eq (g := hi x1 x2 x3 x4 (View.ld x0 r0_16)) (by rfl) (tile x0 x1 x2 x3 x4 _ _ _ _ _ x y ?_ ?_ ?_ ?_ ?_)
  case' piece4 => refine entry_of_eq (g := hi x1 x2 x3 x4 (View.ld x0 r0_15)) (by rfl) (tile x0 x1 x2 x3 x4 _ _ _ _ _ x y ?_ ?_ ?_ ?_ ?_)
  case' piece5 => refine entry_of_eq (g := hi x1 x2 x3 x4 (View.ld x0 r0_14)) (by rfl) (tile x0 x1 x2 x3 x4 _ _ _ _ _ x y ?_ ?_ ?_ ?_ ?_)
  case' piece6 => refine entry_of_eq (g := hi x1 x2 x3 x4 (View.ld x0 r0_13)) (by rfl) (tile x0 x1 x2 x3 x4 _ _ _ _ _ x y ?_ ?_ ?_ ?_ ?_)
  case' piece7 => refine entry_of_eq (g := hi x1 x2 x3 x4 (View.ld x0 r0_12)) (by rfl) (tile x0 x1 x2 x3 x4 _ _ _ _ _ x y ?_ ?_ ?_ ?_ ?_)
  case' piece8 => refine entry_of_eq (g := lo x1 x2 x3 x4 (View.ld x0 r0_9)) (by rfl) (tile x0 x1 x2 x3 x4 _ _ _ _ _ x y ?_ ?_ ?_ ?_ ?_)
  case' piece9 => refine entry_of_eq (g := lo x1 x2 x3 x4 (View.ld x0 r0_8)) (by rfl) (tile x0 x1 x2 x3 x4 _ _ _ _ _ x y ?_ ?_ ?_ ?_ ?_)
  case' piece10 => refine entry_of_eq (g := lo x1 x2 x3 x4 (View.ld x0 r0_7)) (by rfl) (tile x0 x1 x2 x3 x4 _ _ _ _ _ x y ?_ ?_ ?_ ?_ ?_)
  case' piece11 => refine entry_of_eq (g := lo x1 x2 x3 x4 (View.ld x0 r0_6)) (by rfl) (tile x0 x1 x2 x3 x4 _ _ _ _ _ x y ?_ ?_ ?_ ?_ ?_)
  case' piece12 => refine entry_of_eq (g := lo x1 x2 x3 x4 (View.ld x0 r0_5)) (by rfl) (tile x0 x1 x2 x3 x4 _ _ _ _ _ x y ?_ ?_ ?_ ?_ ?_)
  case' piece13 => refine entry_of_eq (g := lo x1 x2 x3 x4 (View.ld x0 r0_4)) (by rfl) (tile x0 x1 x2 x3 x4 _ _ _ _ _ x y ?_ ?_ ?_ ?_ ?_)
  case' piece14 => refine entry_of_eq (g := lo x1 x2 x3 x4 (View.ld x0 r0_3)) (by rfl) (tile x0 x1 x2 x3 x4 _ _ _ _ _ x y ?_ ?_ ?_ ?_ ?_)
  case' piece15 => refine entry_of_eq (g := lo x1 x2 x3 x4 (View.ld x0 r0_2)) (by rfl) (tile x0 x1 x2 x3 x4 _ _ _ _ _ x y ?_ ?_ ?_ ?_ ?_)
  all_goals (intros; pointwise; blk_ext)
end Cert.KernelIdeal.Value
end
-- ==== Proof.GqaArray.lean ====
module

public import proofs.«01_k».proof.Proof.Gen.KernelIdeal.Frame
public import proofs.«01_k».proof.Proof.GqaBlock
public import Idealize.ShloMosaic.Lib.Pipeline.ValueKit
public import Idealize.ShloMosaic.Lib.Pointwise

@[expose] public section

set_option maxRecDepth 16384
noncomputable section
namespace Cert.KernelIdeal.Value
open Cert.KernelIdeal Cert.KernelIdeal.Gen Cert.Softmax Idealize.ShloMosaic Idealize.ShloMosaic.TcCoe Idealize.SL.Sem
open Idealize.ShloMosaic.Pipeline (Dat)
variable (m : (ℓ : Loc nD τ sig) → Buf (Elt Ideal) ℓ)

/-- Where each window stands at a grid point. -/
theorem idx : ∀ t : Fin cfg0.N, win0_0.index t = ![16 + t.val, 0] ∧ win0_1.index t = ![2 + t.val / 8, 0]
    ∧ win0_2.index t = ![2 + t.val / 8, 0] ∧ win0_3.index t = ![t.val / 8, 0, 0] ∧ win0_4.index t = ![t.val / 8, 0, 0]
    ∧ win0_5.index t = ![t.val, 0] :=
  (by decide +kernel : ∀ t : Fin grid0.N, _)

/-- THE RESULT, entry by entry, from the argument arrays: row `i` is token `i % 2048` of batch `i / 2048`, whose queries and
    own keys and values stand 4096 rows further down; lane `l` belongs to head `l / 128` and to key group `l / 1024`. -/
def attention (q : Vec Ideal S20480x2048 .bf16) (k v : Vec Ideal S20480x256 .bf16) (kc vc : Vec Ideal S8x256x256 .bf16)
    (i : Fin 16384) (l : Fin 2048) : EReal :=
  attend (fun κ : Fin 2048 => ∑ e : Fin 128, q (ix2 (⟨4096 + i, by omega⟩ : Fin 20480) (⟨l / 128 * 128 + e, by omega⟩ : Fin 2048))
        * k (ix2 (⟨4096 + (i / 2048 * 2048 + κ), by omega⟩ : Fin 20480) (⟨l / 1024 * 128 + e, by omega⟩ : Fin 256)))
    (fun κ : Fin 256 => ∑ e : Fin 128, q (ix2 (⟨4096 + i, by omega⟩ : Fin 20480) (⟨l / 128 * 128 + e, by omega⟩ : Fin 2048))
        * kc (ix3 (⟨i / 2048, by omega⟩ : Fin 8) κ (⟨l / 1024 * 128 + e, by omega⟩ : Fin 256)))
    (fun κ => v (ix2 (⟨4096 + (i / 2048 * 2048 + κ), by omega⟩ : Fin 20480) (⟨l / 1024 * 128 + l % 128, by omega⟩ : Fin 256)))
    (fun κ => vc (ix3 (⟨i / 2048, by omega⟩ : Fin 8) κ (⟨l / 1024 * 128 + l % 128, by omega⟩ : Fin 256)))

/-- A block's entry is the result's entry at the place the block has in the array. -/
theorem point (c : Dev nD) (t : Fin cfg0.N) (y : S256x2048.Idx) (i : S16384x2048.Idx)
    (h0 : (i 0 : ℕ) = t.val * 256 + y 0) (h1 : (i 1 : ℕ) = y 1) :
    blockOut (iblk m c 0 t) (iblk m c 1 t) (iblk m c 2 t) (iblk m c 3 t) (iblk m c 4 t) (y 0) (y 1)
      = attention (m ((c : Thread nD τ).loc main_arg0)) (m ((c : Thread nD τ).loc main_arg1)) (m ((c : Thread nD τ).loc main_arg2))
          (m ((c : Thread nD τ).loc main_arg3)) (m ((c : Thread nD τ).loc main_arg4)) (i 0) (i 1) := by
  have ht : t.val < 64 := lt_of_lt_of_eq t.isLt N_0
  refine attend_congr (fun κ => Finset.sum_congr rfl fun e _ => congrArg₂ (· * ·) ?_ ?_)
    (fun κ => Finset.sum_congr rfl fun e _ => congrArg₂ (· * ·) ?_ ?_) (fun κ => ?_) (fun κ => ?_)
  all_goals blk_ext [iblk, V, idx t]

/-- The output array after the run is the attention of the arguments. -/
theorem final (c : Dev nD) :
    (dats m 0 c).arrAt 5 cfg0.N = fun i : S16384x2048.Idx =>
    attention (m ((c : Thread nD τ).loc main_arg0)) (m ((c : Thread nD τ).loc main_arg1)) (m ((c : Thread nD τ).loc main_arg2))
      (m ((c : Thread nD τ).loc main_arg3)) (m ((c : Thread nD τ).loc main_arg4)) (i 0) (i 1) := by
  refine (dats m 0 c).arrAt_eq_of_covers 5 _ (by decide +kernel) fun t hf y => ?_
  blk_simp
  rw [after0_5]
  refine (out0_5_eq _ _ _ _ _ _).trans (point m c t y _ ?_ ?_)
  all_goals (blk_simp [idx t] <;> try omega)
end Cert.KernelIdeal.Value
end
-- ==== Proof.GqaEquation.lean ====
module

public import proofs.«01_k».proof.Proof.GqaArray
public import proofs.«01_k».proof.Proof.GqaReference
public import proofs.«01_k».proof.Defs

@[expose] public section

set_option maxRecDepth 16384

noncomputable section

namespace Cert.Gqa

open Cert.KernelIdeal.Value Cert.ReferenceIdeal.Value Cert.Softmax Idealize.ShloMosaic

/-- THE EQUATION: for real queries and keys, the kernel's attention is the reference's, at every entry. -/
theorem equation (q : FVec Ideal Cert.KernelIdeal.S20480x2048 .bf16) (k v : FVec Ideal Cert.KernelIdeal.S20480x256 .bf16)
    (kc vc : FVec Ideal Cert.KernelIdeal.S8x256x256 .bf16)
    (hq : ∀ j, IsReal (q j)) (hk : ∀ j, IsReal (k j)) (hkc : ∀ j, IsReal (kc j)) (i : Fin 16384) (l : Fin 2048) :
    mix v vc (weights (expo (scores q k kc))) (ix2 i l) = attention q k v kc vc i l := by
  have own : ∀ κ : Fin 2048, scores q k kc (ix5 (⟨i / 2048, by omega⟩ : Fin 8) (⟨l / 1024, by omega⟩ : Fin 2)
      (⟨l / 128 % 8, by omega⟩ : Fin 8) (⟨i % 2048, by omega⟩ : Fin 2048) (Fin.castAdd 256 κ))
      = ∑ e : Fin 128, q (ix2 (⟨4096 + i, by omega⟩ : Fin 20480) (⟨l / 128 * 128 + e, by omega⟩ : Fin 2048))
        * k (ix2 (⟨4096 + (i / 2048 * 2048 + κ), by omega⟩ : Fin 20480) (⟨l / 1024 * 128 + e, by omega⟩ : Fin 256)) := fun κ => by
    rw [scores_own _ _ _ _ _ _ _ _ (by simp)]
    refine Finset.sum_congr rfl fun e _ => congrArg₂ (· * ·) ?_ ?_ <;> (blk_ext <;> simp)
  have ctx : ∀ κ : Fin 256, scores q k kc (ix5 (⟨i / 2048, by omega⟩ : Fin 8) (⟨l / 1024, by omega⟩ : Fin 2)
      (⟨l / 128 % 8, by omega⟩ : Fin 8) (⟨i % 2048, by omega⟩ : Fin 2048) (Fin.natAdd 2048 κ))
      = ∑ e : Fin 128, q (ix2 (⟨4096 + i, by omega⟩ : Fin 20480) (⟨l / 128 * 128 + e, by omega⟩ : Fin 2048))
        * kc (ix3 (⟨i / 2048, by omega⟩ : Fin 8) κ (⟨l / 1024 * 128 + e, by omega⟩ : Fin 256)) := fun κ => by
    rw [scores_ctx _ _ _ _ _ _ _ _ (by simp)]
    refine Finset.sum_congr rfl fun e _ => congrArg₂ (· * ·) ?_ ?_ <;> (blk_ext <;> simp)
  rw [mix_at]
  simp only [weights_at, expo_at, rowMax_at]
  rw [foldMax_split 2048 256]
  simp only [own, ctx]
  refine (attend_eq _ _ _ _ (fun κ => IsReal.sum _ fun e => (hq _).mul (hk _)) (fun κ => IsReal.sum _ fun e => (hq _).mul (hkc _)) _ ?_).symm
  unfold top
  rw [ofBits_neg_inf]

/-- The equation of whole arrays, of arguments that agree. -/
theorem equation' {q q' : FVec Ideal Cert.KernelIdeal.S20480x2048 .bf16} {k k' v v' : FVec Ideal Cert.KernelIdeal.S20480x256 .bf16}
    {kc kc' vc vc' : FVec Ideal Cert.KernelIdeal.S8x256x256 .bf16} (h0 : q = q') (h1 : k = k') (h2 : v = v') (h3 : kc = kc')
    (h4 : vc = vc') (hq : ∀ j, IsReal (q j)) (hk : ∀ j, IsReal (k j)) (hkc : ∀ j, IsReal (kc j)) :
    mix v' vc' (weights (expo (scores q' k' kc'))) = fun j => attention q k v kc vc (j 0) (j 1) := by
  subst h0 h1 h2 h3 h4
  funext j
  rw [eq_ix2 j]
  exact equation q k v kc vc hq hk hkc _ _

/-- The pattern of infinity is infinity. -/
theorem ofBits_inf : Ideal.ofBits .f32 0x7F800000#32 = (⊤ : EReal) := by simp [Ideal.ofBits, Ideal.ieee]

/-- An entry whose absolute value the comparison finds below infinity is a real number. -/
theorem isReal_of_cmp {x : EReal} (h : Ideal.cmp .olt (max x (-x)) (Ideal.ofBits .f32 0x7F800000#32) = 1#1) : IsReal x := by
  rw [ofBits_inf] at h
  refine isReal_of_abs_lt ?_
  by_contra hn
  simp [Ideal.cmp, hn] at h

end Cert.Gqa

end
-- ==== Proof.DiffClaims.lean ====
module

public import proofs.«01_k».proof.Defs
public import proofs.«01_k».proof.Proof.DiffArray
public import proofs.«01_k».proof.Proof.DiffReference
public import proofs.«01_k».proof.Proof.GqaEquation
public import Idealize.ShloMosaic.Adequacy
public import Idealize.ShloMosaic.Init

@[expose] public section

set_option maxRecDepth 16384
noncomputable section
namespace Cert.Diff
open Idealize.ShloMosaic Idealize.SL.Sem Cert.Softmax
open Cert.Kernel4Ideal.Value (map attention)
open Cert.Reference4Ideal.Value (together scores rowMax expo weights second difference mix normed result scores_at rowMax_at expo_at
  weights_at second_at difference_at mix_at normed_at together_own together_ctx)
open Cert.Gqa (isReal_of_cmp)

/-- The weight of the second map is real when its vectors are. -/
theorem isReal_lambda {u : Fin 4 → Fin 64 → EReal} (hu : ∀ r e, IsReal (u r e)) : IsReal (lambda u) := by
  have h : ∀ r s, IsReal (Ideal.exp (∑ e, u r e * u s e)) := fun r s => (IsReal.sum _ fun e => (hu r e).mul (hu s e)).exp
  have real : IsReal (Ideal.ofBits .f32 0x3EB60549#32) := by
    simp only [Ideal.ofBits, Ideal.ieee]
    simp
    exact IsReal.mul ⟨_, rfl⟩ ⟨_, rfl⟩
  exact ((h 0 1).sub (h 2 3)).add real

/-- The equation at an entry: for real queries, keys, values and vectors of the second map's weight, the reference's differential
    attention is the kernel's. -/
theorem entry (u : FVec Ideal Cert.Kernel4Ideal.S4x64 .f32) (g : FVec Ideal Cert.Kernel4Ideal.S128 .f32)
    (q : FVec Ideal Cert.Kernel4Ideal.S20480x2048 .bf16) (k v : FVec Ideal Cert.Kernel4Ideal.S20480x1024 .bf16)
    (kc vc : FVec Ideal Cert.Kernel4Ideal.S8x256x1024 .bf16) (hu : ∀ j, IsReal (u j)) (hq : ∀ j, IsReal (q j)) (hk : ∀ j, IsReal (k j))
    (hv : ∀ j, IsReal (v j)) (hkc : ∀ j, IsReal (kc j)) (hvc : ∀ j, IsReal (vc j)) (i : Fin 16384) (l : Fin 1024) :
    result u g q k v kc vc (ix2 i l) = attention u g q k v kc vc i l := by
  refine (normed_at _ _ i l).trans (subNorm_congr (fun d => ?_) rfl rfl)
  rw [mix_at]
  have own : ∀ (r : Fin 2) (κ : Fin 2048), scores q (together k kc) (ix5 (⟨i / 2048, by omega⟩ : Fin 8) (⟨l / 128, by omega⟩ : Fin 8)
      r (⟨i % 2048, by omega⟩ : Fin 2048) (Fin.castAdd 256 κ))
      = ∑ e : Fin 128, q (ix2 (⟨4096 + i, by omega⟩ : Fin 20480) (⟨l / 128 * 256 + r * 128 + e, by omega⟩ : Fin 2048))
        * k (ix2 (⟨4096 + (i / 2048 * 2048 + κ), by omega⟩ : Fin 20480) (⟨l / 128 * 128 + e, by omega⟩ : Fin 1024)) := fun r κ => by
    rw [scores_at]
    refine Finset.sum_congr rfl fun e _ => ?_
    rw [together_own, mul_comm]
    refine congrArg₂ (· * ·) ?_ ?_ <;> blk_ext
  have ctx : ∀ (r : Fin 2) (κ : Fin 256), scores q (together k kc) (ix5 (⟨i / 2048, by omega⟩ : Fin 8) (⟨l / 128, by omega⟩ : Fin 8)
      r (⟨i % 2048, by omega⟩ : Fin 2048) (Fin.natAdd 2048 κ))
      = ∑ e : Fin 128, q (ix2 (⟨4096 + i, by omega⟩ : Fin 20480) (⟨l / 128 * 256 + r * 128 + e, by omega⟩ : Fin 2048))
        * kc (ix3 (⟨i / 2048, by omega⟩ : Fin 8) κ (⟨l / 128 * 128 + e, by omega⟩ : Fin 1024)) := fun r κ => by
    rw [scores_at]
    refine Finset.sum_congr rfl fun e _ => ?_
    rw [together_ctx, mul_comm]
    refine congrArg₂ (· * ·) ?_ ?_ <;> blk_ext
  simp only [difference_at, second_at, weights_at, expo_at, rowMax_at, together_own, together_ctx]
  rw [foldMax_split 2048 256, foldMax_split 2048 256]
  simp only [own, ctx]
  have tops : ∀ (s : Fin 2048 → EReal) (s' : Fin 256 → EReal),
      Max.max (Finset.univ.fold Max.max ⊥ s) (Finset.univ.fold Max.max ⊥ s') = top s s' := fun s s' => by
    unfold top
    rw [ofBits_neg_inf]
  exact attend_difference (isReal_lambda fun r e => hu _) (fun κ => IsReal.sum _ fun e => (hq _).mul (hk _))
    (fun κ => IsReal.sum _ fun e => (hq _).mul (hkc _)) (fun κ => IsReal.sum _ fun e => (hq _).mul (hk _))
    (fun κ => IsReal.sum _ fun e => (hq _).mul (hkc _)) (fun κ => hv _) (fun κ => hvc _) (tops _ _) (tops _ _)

/-- THE EQUATION: for real queries, keys, values and vectors of the second map's weight, the kernel's differential attention is
    the reference's, at every entry. -/
theorem equation {u u' : FVec Ideal Cert.Kernel4Ideal.S4x64 .f32} {g g' : FVec Ideal Cert.Kernel4Ideal.S128 .f32}
    {q q' : FVec Ideal Cert.Kernel4Ideal.S20480x2048 .bf16} {k k' v v' : FVec Ideal Cert.Kernel4Ideal.S20480x1024 .bf16}
    {kc kc' vc vc' : FVec Ideal Cert.Kernel4Ideal.S8x256x1024 .bf16} (h0 : u' = u) (h1 : g' = g) (h2 : q' = q) (h3 : k' = k)
    (h4 : v' = v) (h5 : kc' = kc) (h6 : vc' = vc) (hu : ∀ j, IsReal (u j)) (hq : ∀ j, IsReal (q j)) (hk : ∀ j, IsReal (k j))
    (hv : ∀ j, IsReal (v j)) (hkc : ∀ j, IsReal (kc j)) (hvc : ∀ j, IsReal (vc j)) :
    result u' g' q' k' v' kc' vc' = fun j => attention u g q k v kc vc (j 0) (j 1) := by
  subst h0 h1 h2 h3 h4 h5 h6
  funext j
  rw [eq_ix2 j]
  exact entry _ _ _ _ _ _ _ hu hq hk hv hkc hvc (j 0) (j 1)

/-- The side conditions of the precondition's operations. -/
theorem pre_facts : Cert.Pre_finite_maps.Facts := ⟨by decide, by decide, by decide, by decide, by decide⟩

/-- The reference runs to its end and leaves its arguments and the semaphores as they were. -/
theorem frame_reference : quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

/-- The same under the precondition. -/
theorem frame_reference_pre [Cert.Pre_finite_maps.Facts] :
    quiescent_Reference4Ideal_pre_finite_maps (hReference4Ideal := Cert.Reference4Ideal.Gen.facts) := fun m ρ _ =>
  frame_reference m ρ trivial

/-- The differential attention of the latent tokens: from arguments that agree, and whose queries, keys, values and weight
    vectors hold no infinity, the kernel's result is the reference's. -/
theorem algebraic [Cert.Pre_finite_maps.Facts] : algebraic_Kernel4Ideal_Reference4Ideal_pre_finite_maps
    (hKernel4Ideal := Cert.Kernel4Ideal.Gen.facts) (hReference4Ideal := Cert.Reference4Ideal.Gen.facts) := by
  pair_intro
  · run_from Cert.Kernel4Ideal.Value.run_blocks m g
  · run_from Cert.Reference4Ideal.Value.run m' g'
    obtain ⟨h0, h1, h2, h3, h4, h5, h6⟩ := hagree c
    refine ((Cert.Reference4Ideal.Value.res_eq m' c).trans ?_).trans (Cert.Kernel4Ideal.Value.final m c).symm
    exact equation h0 h1 h2 h3 h4 h5 h6 (fun j => isReal_of_cmp (congrFun (hpre c).1 j)) (fun j => isReal_of_cmp (congrFun (hpre c).2.1 j))
      (fun j => isReal_of_cmp (congrFun (hpre c).2.2.1 j)) (fun j => isReal_of_cmp (congrFun (hpre c).2.2.2.1 j))
      (fun j => isReal_of_cmp (congrFun (hpre c).2.2.2.2.1 j)) (fun j => isReal_of_cmp (congrFun (hpre c).2.2.2.2.2 j))

end Cert.Diff
end
-- ==== Proof.HalfProjBlock.lean ====
module

public import proofs.«01_k».proof.Proof.Gen.Kernel5Ideal.Value
public import proofs.«01_k».proof.Proof.Gen.Kernel5Ideal.Frame
public import proofs.«01_k».proof.Proof.LayerNorm
public import proofs.«01_k».proof.Proof.Tokens
public import Idealize.ShloMosaic.Lib.Pipeline.ValueKit
public import Idealize.ShloMosaic.Lib.Pointwise

@[expose] public section

set_option maxRecDepth 16384
noncomputable section
namespace Cert.Kernel5Ideal.Value
open Cert.Kernel5Ideal Cert.Kernel5Ideal.Gen Cert.LayerNorm Idealize.ShloMosaic Idealize.ShloMosaic.TcCoe Idealize.SL.Sem
open Idealize.ShloMosaic.Pipeline (Dat)

/-- The body, read at an entry: the layer norm of the row of residuals plus gated projections. -/
theorem body_at (o : Vec Ideal S512x1024 .bf16) (w : Vec Ideal S1024x1024 .bf16) (x : Vec Ideal S512x1024 .f32)
    (gate : Vec Ideal S1x1x1024 .f32) (g b : Vec Ideal S1x1024 .f32) (i : Fin 512) (l : Fin 1024) :
    k0_pay1 (F := Ideal) o w x gate g b (ix2 i l)
      = layerNorm (fun k => Ideal.ofBits .f32 0x3FD744FD#32 * x (ix2 i k) + gate (ix3 0 0 k) * ∑ e : Fin 1024, o (ix2 i e) * w (ix2 e k))
          (g (ix2 0 l)) (b (ix2 0 l)) l := by
  unfold layerNorm mean
  pointwise [k0_pay1]
end Cert.Kernel5Ideal.Value
end
-- ==== Proof.HalfProjArray.lean ====
module

public import proofs.«01_k».proof.Proof.HalfProjBlock

@[expose] public section

set_option maxRecDepth 16384
noncomputable section
namespace Cert.Kernel5Ideal.Value
open Cert.Kernel5Ideal Cert.Kernel5Ideal.Gen Cert.LayerNorm Cert.Tokens Idealize.ShloMosaic Idealize.ShloMosaic.TcCoe Idealize.SL.Sem
open Idealize.ShloMosaic.Pipeline (Dat)
variable (m : (ℓ : Loc nD τ sig) → Buf (Elt Ideal) ℓ)

/-- Where each window stands at a grid point. -/
theorem idx : ∀ t : Fin cfg0.N, win0_0.index t = ![t.val, 0] ∧ win0_1.index t = ![0, 0] ∧ win0_2.index t = ![t.val, 0]
    ∧ win0_3.index t = ![if t.val < 8 then 0 else 1 + (t.val - 8) / 4, 0, 0] ∧ win0_4.index t = ![0, 0] ∧ win0_5.index t = ![0, 0]
    ∧ win0_6.index t = ![t.val, 0] :=
  (by decide +kernel : ∀ t : Fin grid0.N, _)

/-- The gains as the region finds them: the argument, as one row. -/
theorem V_main_v0 (c : Dev nD) : V m c main_v0 = shapeCast S1x1024 (m ((c : Thread nD τ).loc main_arg4)) shapeCasts_S1024_S1x1024 := by
  entry_read
  rfl

/-- The biases as the region finds them: the argument, as one row. -/
theorem V_main_v1 (c : Dev nD) : V m c main_v1 = shapeCast S1x1024 (m ((c : Thread nD τ).loc main_arg5)) shapeCasts_S1024_S1x1024 := by
  entry_read
  rfl

/-- The gains' block. -/
theorem gain_block (c : Dev nD) (t : Fin cfg0.N) (k : Fin 1024) :
    iblk m c 4 t (ix2 0 k) = m ((c : Thread nD τ).loc main_arg4) (ix1 k) := by
  blk_simp [iblk, idx t]
  rw [V_main_v0]
  pointwise
  blk_ext [idx t]

/-- The biases' block. -/
theorem bias_block (c : Dev nD) (t : Fin cfg0.N) (k : Fin 1024) :
    iblk m c 5 t (ix2 0 k) = m ((c : Thread nD τ).loc main_arg5) (ix1 k) := by
  blk_simp [iblk, idx t]
  rw [V_main_v1]
  pointwise
  blk_ext [idx t]

/-- THE RESULT, entry by entry, from the argument arrays. -/
def projected (o : Vec Ideal S20480x1024 .bf16) (w : Vec Ideal S1024x1024 .bf16) (x : Vec Ideal S20480x1024 .f32)
    (mods : Vec Ideal S16x6x1024 .f32) (g b : Vec Ideal S1024 .f32) (i : Fin 20480) (l : Fin 1024) : EReal :=
  layerNorm (fun k => Ideal.ofBits .f32 0x3FD744FD#32 * x (ix2 i k)
      + mods (ix3 (group i) 2 k) * ∑ e : Fin 1024, o (ix2 i e) * w (ix2 e k)) (g (ix1 l)) (b (ix1 l)) l

/-- A block's entry is the result's entry at the place the block has in the array. -/
theorem point (c : Dev nD) (t : Fin cfg0.N) (y : S512x1024.Idx) (i : S20480x1024.Idx)
    (h0 : (i 0 : ℕ) = t.val * 512 + y 0) (h1 : (i 1 : ℕ) = y 1) :
    out0_6 (iblk m c 0 t) (iblk m c 1 t) (iblk m c 2 t) (iblk m c 3 t) (iblk m c 4 t) (iblk m c 5 t) y
      = projected (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (i 0) (i 1) := by
  have ht : t.val < 40 := lt_of_lt_of_eq t.isLt N_0
  have hy : y 1 = i 1 := Fin.ext h1.symm
  unfold out0_6
  canon_tiles x h
  rw [eq_ix2 x]
  refine (body_at _ _ _ _ _ _ (x 0) (x 1)).trans (layerNorm_congr (fun k => ?_) ?_ ?_ ?_)
  · refine congrArg₂ (· + ·) (congrArg₂ (· * ·) rfl ?_) (congrArg₂ (· * ·) ?_ (Finset.sum_congr rfl fun e _ => congrArg₂ (· * ·) ?_ ?_))
    all_goals (pointwise; blk_ext [iblk, V, idx t, group, groupNum] <;> (split_ifs <;> omega))
  · pointwise
    exact (gain_block m c t _).trans (congrArg _ (congrArg ix1 (Fin.ext (by omega))))
  · pointwise
    exact (bias_block m c t _).trans (congrArg _ (congrArg ix1 (Fin.ext (by omega))))
  · exact Fin.ext (by omega)

/-- The output array after the run is the projection of the arguments. -/
theorem final (c : Dev nD) :
    (dats m 0 c).arrAt 6 cfg0.N = fun i : S20480x1024.Idx =>
      projected (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (i 0) (i 1) := by
  refine (dats m 0 c).arrAt_eq_of_covers 6 _ (by decide +kernel) fun t hf y => ?_
  blk_simp
  rw [after0_6]
  refine point m c t y _ ?_ ?_
  all_goals (blk_simp [idx t] <;> try omega)
end Cert.Kernel5Ideal.Value
end
-- ==== Proof.HalfProjReference.lean ====
module

public import proofs.«01_k».proof.Proof.Gen.Reference5Ideal.Run
public import proofs.«01_k».proof.Proof.LayerNorm
public import proofs.«01_k».proof.Proof.Tokens
public import Idealize.ShloMosaic.Lib.Pipeline.ValueKit
public import Idealize.ShloMosaic.Lib.Pointwise

@[expose] public section

set_option maxRecDepth 16384
noncomputable section
namespace Cert.Reference5Ideal.Value
open Cert.Reference5Ideal Cert.Reference5Ideal.Gen Cert.LayerNorm Cert.Tokens Idealize.ShloMosaic Idealize.ShloMosaic.TcCoe Idealize.SL.Sem

/-- The reference's rows before the layer norm: residuals plus gated projections. -/
def residual (o : FVec Ideal S20480x1024 .bf16) (w : FVec Ideal S1024x1024 .bf16) (x : FVec Ideal S20480x1024 .f32)
    (mods : FVec Ideal S16x6x1024 .f32) : FVec Ideal S20480x1024 .f32 :=
  addf (mulf (broadcastInDim S20480x1024 ![] bcast_S_S20480x1024 (constant S_ .f32 0x3FD744FD#32)) x)
    (mulf (concatenate S20480x1024 0 [⟨S4096x1024, (broadcastInDim S4096x1024 ![1] bcast_S1024_S4096x1024_1 (shapeCast _ (extractStridedSlice S1x1x1024 ![0, 2, 0] mods slices_S16x6x1024_S1x1x1024_0_2_0) shapeCasts_S1x1x1024_S1024))⟩, ⟨S16384x1024, (shapeCast _ (broadcastInDim S8x2048x1024 ![0, 1, 2] bcast_S8x1x1024_S8x2048x1024_0_1_2 (broadcastInDim S8x1x1024 ![0, 2] bcast_S8x1024_S8x1x1024_0_2 (shapeCast _ (extractStridedSlice S8x1x1024 ![1, 2, 0] mods slices_S16x6x1024_S8x1x1024_1_2_0) shapeCasts_S8x1x1024_S8x1024))) shapeCasts_S8x2048x1024_S16384x1024)⟩] concatenates_S4096x1024_S16384x1024_S20480x1024_d0)
      (Host.dotGeneral dot_S20480x1024_S1024x1024_S20480x1024_1_0_0_1_n_n none (extf .f32 o bitsLt_bf16_f32) (extf .f32 w bitsLt_bf16_f32)))

/-- The deviations of the rows from their means. -/
def deviation (z : FVec Ideal S20480x1024 .f32) : FVec Ideal S20480x1024 .f32 :=
  subf z (broadcastInDim S20480x1024 ![0, 1] bcast_S20480x1_S20480x1024_0_1 (Host.divf (broadcastInDim S20480x1 ![0] bcast_S20480_S20480x1_0
    (Host.reduceAdd z (constant S_ .f32 0x00000000#32) reducesTo_S20480x1024_S20480_d1 h_S_)) (broadcastInDim S20480x1 ![] bcast_S_S20480x1 (constant S_ .f32 0x44800000#32))))

/-- The reference's layer norm, from the deviations. -/
def norm (d : FVec Ideal S20480x1024 .f32) (g b : FVec Ideal S1024 .f32) : FVec Ideal S20480x1024 .f32 :=
  addf (mulf (mulf d (broadcastInDim S20480x1024 ![0, 1] bcast_S20480x1_S20480x1024_0_1 (Host.rsqrt (addf (Host.divf (broadcastInDim S20480x1 ![0] bcast_S20480_S20480x1_0
      (Host.reduceAdd (mulf d d) (constant S_ .f32 0x00000000#32) reducesTo_S20480x1024_S20480_d1 h_S_)) (broadcastInDim S20480x1 ![] bcast_S_S20480x1 (constant S_ .f32 0x44800000#32)))
      (broadcastInDim S20480x1 ![] bcast_S_S20480x1 (constant S_ .f32 0x358637BD#32))))))
    (broadcastInDim S20480x1024 ![0, 1] bcast_S1x1024_S20480x1024_0_1 (broadcastInDim S1x1024 ![1] bcast_S1024_S1x1024_1 g)))
    (broadcastInDim S20480x1024 ![0, 1] bcast_S1x1024_S20480x1024_0_1 (broadcastInDim S1x1024 ![1] bcast_S1024_S1x1024_1 b))

/-- The reference's result is these steps in turn. -/
theorem res_eq (m : (ℓ : Loc nD τ sig) → Buf (Elt Ideal) ℓ) (c : Dev nD) :
    res_out0 m c = norm (deviation (residual (m ((c.tc : Thread nD τ).loc main_arg0)) (m ((c.tc : Thread nD τ).loc main_arg1))
      (m ((c.tc : Thread nD τ).loc main_arg2)) (m ((c.tc : Thread nD τ).loc main_arg3)))) (m ((c.tc : Thread nD τ).loc main_arg4)) (m ((c.tc : Thread nD τ).loc main_arg5)) := by
  rfl

/-- The deviation, read at an entry. -/
theorem deviation_at (z : FVec Ideal S20480x1024 .f32) (i : Fin 20480) (l : Fin 1024) :
    deviation z (ix2 i l) = z (ix2 i l) - mean fun k => z (ix2 i k) := by
  unfold mean
  pointwise [deviation]

/-- The norm, read at an entry. -/
theorem norm_at (z : FVec Ideal S20480x1024 .f32) (g b : FVec Ideal S1024 .f32) (i : Fin 20480) (l : Fin 1024) :
    norm (deviation z) g b (ix2 i l) = layerNorm (fun k => z (ix2 i k)) (g (ix1 l)) (b (ix1 l)) l := by
  unfold layerNorm
  pointwise [norm]
  simp only [deviation_at]

/-- The rows before the layer norm, read at an entry. -/
theorem residual_at (o : FVec Ideal S20480x1024 .bf16) (w : FVec Ideal S1024x1024 .bf16) (x : FVec Ideal S20480x1024 .f32)
    (mods : FVec Ideal S16x6x1024 .f32) (i : Fin 20480) (l : Fin 1024) :
    residual o w x mods (ix2 i l) = Ideal.ofBits .f32 0x3FD744FD#32 * x (ix2 i l)
      + mods (ix3 (group i) 2 l) * ∑ e : Fin 1024, o (ix2 i e) * w (ix2 e l) := by
  pointwise [residual]
  congr 2
  split <;> rename_i h <;> (blk_ext [group, groupNum, h] <;> simp)
end Cert.Reference5Ideal.Value
end
-- ==== Proof.HalfProjClaims.lean ====
module

public import proofs.«01_k».proof.Defs
public import proofs.«01_k».proof.Proof.HalfProjArray
public import proofs.«01_k».proof.Proof.HalfProjReference
public import Idealize.ShloMosaic.Adequacy
public import Idealize.ShloMosaic.Init

@[expose] public section

set_option maxRecDepth 16384
noncomputable section
namespace Cert.HalfProj
open Idealize.ShloMosaic Idealize.SL.Sem Cert.LayerNorm Cert.Tokens
open Cert.Kernel5Ideal.Value (projected)
open Cert.Reference5Ideal.Value (norm deviation residual norm_at residual_at)

/-- THE EQUATION: the kernel's projection of the differential heads with its residual layer norm is the reference's, at every entry. -/
theorem equation {o o' : FVec Ideal Cert.Kernel5Ideal.S20480x1024 .bf16} {w w' : FVec Ideal Cert.Kernel5Ideal.S1024x1024 .bf16}
    {x x' : FVec Ideal Cert.Kernel5Ideal.S20480x1024 .f32} {mods mods' : FVec Ideal Cert.Kernel5Ideal.S16x6x1024 .f32}
    {g g' b b' : FVec Ideal Cert.Kernel5Ideal.S1024 .f32} (h0 : o' = o) (h1 : w' = w) (h2 : x' = x) (h3 : mods' = mods)
    (h4 : g' = g) (h5 : b' = b) :
    norm (deviation (residual o' w' x' mods')) g' b' = fun j => projected o w x mods g b (j 0) (j 1) := by
  subst h0 h1 h2 h3 h4 h5
  funext j
  rw [eq_ix2 j]
  refine (norm_at _ _ _ _ _).trans (layerNorm_congr (fun k => ?_) rfl rfl rfl)
  exact residual_at _ _ _ _ _ _

/-- The reference runs to its end and leaves its arguments and the semaphores as they were. -/
theorem frame_reference : quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

/-- The differential layers' output projection with its residual layer norm: from arguments that agree, the kernel's result is the reference's. -/
theorem algebraic : algebraic_Kernel5Ideal_Reference5Ideal
    (hKernel5Ideal := Cert.Kernel5Ideal.Gen.facts) (hReference5Ideal := Cert.Reference5Ideal.Gen.facts) := by
  pair_intro
  · run_from Cert.Kernel5Ideal.Value.run_blocks m g
  · run_from Cert.Reference5Ideal.Value.run m' g'
    obtain ⟨h0, h1, h2, h3, h4, h5⟩ := hagree c
    refine ((Cert.Reference5Ideal.Value.res_eq m' c).trans ?_).trans (Cert.Kernel5Ideal.Value.final m c).symm
    exact equation h0 h1 h2 h3 h4 h5

end Cert.HalfProj
end
-- ==== Proof.Rope.lean ====
module

public import Idealize.ShloMosaic.PureOps.Ideal.Laws

@[expose] public section

noncomputable section

namespace Cert.Rope

/-- The other lane of a lane's pair: pairs are an even lane and the odd one after it. -/
def mateNum (l : ℕ) : ℕ := if l % 2 = 0 then l + 1 else l - 1

/-- It stays inside an even number of lanes. -/
theorem mateNum_lt {l n : ℕ} (hn : n % 2 = 0) (h : l < n) : mateNum l < n := by
  unfold mateNum; split <;> omega

/-- The other lane of a pair, among an even number of lanes. -/
def mate {n : ℕ} (hn : n % 2 = 0) (l : Fin n) : Fin n := ⟨mateNum l, mateNum_lt hn l.isLt⟩

/-- One lane of a pair turned by an angle: `a` is the lane's own value, `b` the other's, `c` and `s` the cosine and the
    sine. -/
def turn (l : ℕ) (a b c s : EReal) : EReal := if l % 2 = 0 then a * c - b * s else b * s + a * c

/-- Adding the other lane's value times a signed sine is the turn: the sign is minus on even lanes. -/
theorem turn_eq {l : ℕ} {g : EReal} (hg : g = if l % 2 = 0 then -1 else 1) (a b c s : EReal) :
    a * c + b * (s * g) = turn l a b c s := by
  subst hg
  unfold turn
  split
  · rw [mul_neg, mul_one, mul_neg, ← sub_eq_add_neg]
  · rw [mul_one, add_comm]

/-- The turn looks only at the lane's parity. -/
theorem turn_shift (l : ℕ) (a b c s : EReal) : turn (2048 + l) a b c s = turn l a b c s := by
  unfold turn
  rw [show (2048 + l) % 2 = l % 2 by omega]

/-- With the cosine one and the sine zero nothing turns. -/
theorem still (a b : EReal) : a * 1 + b * 0 = a := by rw [mul_one, mul_zero, add_zero]

/-- The pair of a lane within its head: the lane's place in the head of 64, halved. -/
def freq (l : ℕ) : Fin 32 := ⟨l % 64 / 2, by omega⟩

/-- The place of a latent token in its sequence. -/
def place (i : ℕ) : Fin 2048 := ⟨(i - 4096) % 2048, by omega⟩

end Cert.Rope
end
-- ==== Proof.DqkvBlock.lean ====
module

public import proofs.«01_k».proof.Proof.Gen.Kernel6Ideal.Value
public import proofs.«01_k».proof.Proof.Gen.Kernel6Ideal.Frame
public import proofs.«01_k».proof.Proof.Rope
public import proofs.«01_k».proof.Proof.Tokens
public import Idealize.ShloMosaic.Lib.Pipeline.ValueKit
public import Idealize.ShloMosaic.Lib.Pointwise

@[expose] public section

set_option maxRecDepth 16384
noncomputable section
namespace Cert.Kernel6Ideal.Value
open Cert.Kernel6Ideal Cert.Kernel6Ideal.Gen Cert.Rope Idealize.ShloMosaic Idealize.ShloMosaic.TcCoe Idealize.SL.Sem
open Idealize.ShloMosaic.Pipeline (Dat)

/-- The product of the block, read at an entry: the modulated row times a column of the matrix. -/
theorem product_at (x : Vec Ideal S256x1024 .f32) (sc sh : Vec Ideal S1x1x1024 .f32) (w : Vec Ideal S1024x4096 .bf16)
    (i : Fin 256) (l : Fin 4096) :
    k0_pay10 (F := Ideal) x sc sh w (ix2 i l)
      = ∑ e : Fin 1024, (x (ix2 i e) * (Ideal.ofBits .f32 0x3F800000#32 + sc (ix3 0 0 e)) + sh (ix3 0 0 e)) * w (ix2 e l) := by
  pointwise [k0_pay10]

/-- The body's test of a lane's lowest bit is true on the even lanes. -/
theorem even_bit : ∀ d : Fin 128, IntOp.cmpi .eq (IntOp.andi (BitVec.ofNat 32 (d : ℕ)) 1#32) 0#32 = if (d : ℕ) % 2 = 0 then 1#1 else 0#1 := by
  decide +kernel

/-- A group of 128 lanes of the product turned by the tables' block. -/
def turned (v cs sn : FVec Ideal S256x128 .f32) : FVec Ideal S256x128 .f32 :=
  addf (mulf v cs) (mulf (select (cmpi .eq (andi (iota .tc S256x128 32 [1] iota_S256x128_d1_w32) (broadcast S256x128 1#32)) (broadcast S256x128 0#32))
    (dynamicRotate 1 127#32 none v rotates_S256x128_d1) (dynamicRotate 1 1#32 none v rotates_S256x128_d1)) sn)

/-- The turned group, read at an entry: the lane's own value by the first table and its mate's by the second. -/
theorem turned_at (v cs sn : FVec Ideal S256x128 .f32) (i : Fin 256) (d : Fin 128) :
    turned v cs sn (ix2 i d) = v (ix2 i d) * cs (ix2 i d) + v (ix2 i (mate (by decide) d)) * sn (ix2 i d) := by
  pointwise [turned]
  rw [even_bit d]
  congr 2
  by_cases h : (d : ℕ) % 2 = 0
  · simp only [h, if_true, Scalar.select]
    exact congrArg v (congrArg (ix2 i) (Fin.ext (by simp only [mate, mateNum, h, if_true]; omega)))
  · simp only [h, if_false, Scalar.select]
    exact congrArg v (congrArg (ix2 i) (Fin.ext (by simp only [mate, mateNum, h, if_false]; omega)))

/-- A group of 128 lanes fits in the product's rows. -/
theorem group_fits (k : Fin 32) : S256x4096.Slices ![0, 128 * (k : ℕ)] S256x128 := by
  revert k
  decide +kernel

/-- Group `k` of 128 lanes of the product. -/
def lanes (y : FVec Ideal S256x4096 .f32) (k : Fin 32) : FVec Ideal S256x128 .f32 :=
  extractStridedSlice S256x128 ![0, 128 * (k : ℕ)] y (group_fits k)

/-- A group's entry is the product's at that lane. -/
theorem lanes_at (y : FVec Ideal S256x4096 .f32) (k : Fin 32) (i : Fin 256) (d : Fin 128) (l : Fin 4096) (h : (l : ℕ) = 128 * k + d) :
    lanes y k (ix2 i d) = y (ix2 i l) := by
  pointwise [lanes]
  blk_ext

/-- A group turned by the tables' block, read at an entry. -/
theorem turned_lanes_at (y : FVec Ideal S256x4096 .f32) (cs sn : FVec Ideal S256x128 .f32) (k : Fin 32) (i : Fin 256) (d : Fin 128)
    (l : Fin 4096) (h : (l : ℕ) = 128 * k + d) :
    turned (lanes y k) cs sn (ix2 i d) = y (ix2 i l) * cs (ix2 i d) + y (ix2 i (mate (by decide) l)) * sn (ix2 i d) := by
  rw [turned_at, lanes_at y k i d l h, lanes_at y k i (mate (by decide) d) (mate (by decide) l)]
  simp only [mate, mateNum]
  split <;> split <;> omega

/-- A group turned and scaled: what a group of queries stores. -/
def query (y : FVec Ideal S256x4096 .f32) (cs sn : FVec Ideal S256x128 .f32) (k : Fin 32) : FVec Ideal S256x128 .bf16 :=
  truncf .bf16 (mulf (turned (lanes y k) cs sn) (broadcast S256x128 (Scalar.ofBits .f32 0x3E000000#32))) bitsLt_bf16_f32

/-- The queries' block of the output as one function of the product and the tables' blocks. -/
def queryBlock (y : FVec Ideal S256x4096 .f32) (cs sn : FVec Ideal S256x128 .f32) (i : Fin 256) (l : Fin 2048) : EReal :=
  (y (ix2 i (⟨l, by omega⟩ : Fin 4096)) * cs (ix2 i (⟨l % 128, by omega⟩ : Fin 128))
    + y (ix2 i (mate (by decide) (⟨l, by omega⟩ : Fin 4096))) * sn (ix2 i (⟨l % 128, by omega⟩ : Fin 128))) * Ideal.ofBits .f32 0x3E000000#32

/-- The keys' block of the output, turned, as one function of the product and the tables' blocks. -/
def keyBlock (y : FVec Ideal S256x4096 .f32) (cs sn : FVec Ideal S256x128 .f32) (i : Fin 256) (l : Fin 1024) : EReal :=
  y (ix2 i (⟨2048 + l, by omega⟩ : Fin 4096)) * cs (ix2 i (⟨l % 128, by omega⟩ : Fin 128))
    + y (ix2 i (mate (by decide) (⟨2048 + l, by omega⟩ : Fin 4096))) * sn (ix2 i (⟨l % 128, by omega⟩ : Fin 128))

/-- A group of queries stores `queryBlock` in its lanes. -/
theorem query_tile (y : FVec Ideal S256x4096 .f32) (cs sn : FVec Ideal S256x128 .f32) (k : Fin 32) (i : Fin 256) (d : Fin 128)
    (j : S256x2048.Idx) (h0 : (j 0 : ℕ) = i) (h1 : (j 1 : ℕ) = 128 * k + d) :
    query y cs sn k (ix2 i d) = queryBlock y cs sn (j 0) (j 1) := by
  have e0 : (j 0 : Fin 256) = i := Fin.ext h0
  have e2 : (⟨(j 1 : ℕ) % 128, by omega⟩ : Fin 128) = d := Fin.ext (by simp only; omega)
  unfold queryBlock
  rw [e0, e2]
  refine congrArg (· * _) (turned_lanes_at y cs sn k i d _ ?_)
  exact h1

/-- A group of keys stores `keyBlock` in its lanes. -/
theorem key_tile (y : FVec Ideal S256x4096 .f32) (cs sn : FVec Ideal S256x128 .f32) (k : Fin 32) (i : Fin 256) (d : Fin 128)
    (j : S256x1024.Idx) (h0 : (j 0 : ℕ) = i) (h1 : 2048 + (j 1 : ℕ) = 128 * k + d) :
    truncf (F := Ideal) .bf16 (turned (lanes y k) cs sn) bitsLt_bf16_f32 (ix2 i d) = keyBlock y cs sn (j 0) (j 1) := by
  have e0 : (j 0 : Fin 256) = i := Fin.ext h0
  have e2 : (⟨(j 1 : ℕ) % 128, by omega⟩ : Fin 128) = d := Fin.ext (by simp only; omega)
  unfold keyBlock
  rw [e0, e2]
  exact turned_lanes_at y cs sn k i d _ h1

/-- The product's 1024 lanes from `b` on. -/
def laneBlock (b : ℕ) (hb : b ≤ 3072) (y : FVec Ideal S256x4096 .f32) (i : Fin 256) (l : Fin 1024) : EReal :=
  y (ix2 i (⟨b + l, by omega⟩ : Fin 4096))

/-- A group of lanes stored as it is holds the product's lanes. -/
theorem plain_tile (y : FVec Ideal S256x4096 .f32) (k : Fin 32) (b : ℕ) (hb : b ≤ 3072) (i : Fin 256) (d : Fin 128) (j : S256x1024.Idx)
    (h0 : (j 0 : ℕ) = i) (h1 : b + (j 1 : ℕ) = 128 * k + d) :
    lanes y k (ix2 i d) = laneBlock b hb y (j 0) (j 1) := by
  have e0 : (j 0 : Fin 256) = i := Fin.ext h0
  unfold laneBlock
  rw [e0]
  refine lanes_at y k i d _ ?_
  exact h1

/-- An entry of an array that is another one is that one's. -/
theorem entry_of_eq {f g : S256x128.Idx → EReal} {x : S256x128.Idx} {z : EReal} (h : f = g) (hz : g (ix2 (x 0) (x 1)) = z) : f x = z :=
  (congrFun h x).trans ((congrArg g (eq_ix2 x)).trans hz)
end Cert.Kernel6Ideal.Value
end
-- ==== Proof.DqkvTiles.lean ====
module

public import proofs.«01_k».proof.Proof.DqkvBlock

@[expose] public section

set_option maxRecDepth 16384
noncomputable section
namespace Cert.Kernel6Ideal.Value
open Cert.Kernel6Ideal Cert.Kernel6Ideal.Gen Cert.Rope Idealize.ShloMosaic Idealize.ShloMosaic.TcCoe Idealize.SL.Sem
open Idealize.ShloMosaic.Pipeline (Dat)

variable (g : grid0.Coords) (x0 : Vec Ideal S256x1024 .f32) (x1 : Vec Ideal S1x6x1024 .f32) (x2 : Vec Ideal S1024x4096 .bf16)
  (x3 : Vec Ideal S128x128 .bf16) (x4 : Vec Ideal S1x2048 .f32) (x5 : Vec Ideal S1x1024 .f32) (x6 x7 : Vec Ideal S256x128 .f32)

set_option maxHeartbeats 4000000 in
/-- The sixteen stores of the queries make their block. -/
theorem out0_8_eq (y : S256x2048.Idx) :
    out0_8 g x0 x1 x2 x3 x4 x5 x6 x7 y = queryBlock (k0_pay69 g x0 x1 x2 x3 x4 x5 x6 x7) (k0_pay70 g x0 x1 x2 x3 x4 x5 x6 x7)
      (k0_pay71 g x0 x1 x2 x3 x4 x5 x6 x7) (y 0) (y 1) := by
  unfold out0_8
  canon_tiles x h
  case' piece0 => refine entry_of_eq (g := query _ _ _ 15) (by rfl) (query_tile _ _ _ 15 (x 0) (x 1) y ?_ ?_)
  case' piece1 => refine entry_of_eq (g := query _ _ _ 14) (by rfl) (query_tile _ _ _ 14 (x 0) (x 1) y ?_ ?_)
  case' piece2 => refine entry_of_eq (g := query _ _ _ 13) (by rfl) (query_tile _ _ _ 13 (x 0) (x 1) y ?_ ?_)
  case' piece3 => refine entry_of_eq (g := query _ _ _ 12) (by rfl) (query_tile _ _ _ 12 (x 0) (x 1) y ?_ ?_)
  case' piece4 => refine entry_of_eq (g := query _ _ _ 11) (by rfl) (query_tile _ _ _ 11 (x 0) (x 1) y ?_ ?_)
  case' piece5 => refine entry_of_eq (g := query _ _ _ 10) (by rfl) (query_tile _ _ _ 10 (x 0) (x 1) y ?_ ?_)
  case' piece6 => refine entry_of_eq (g := query _ _ _ 9) (by rfl) (query_tile _ _ _ 9 (x 0) (x 1) y ?_ ?_)
  case' piece7 => refine entry_of_eq (g := query _ _ _ 8) (by rfl) (query_tile _ _ _ 8 (x 0) (x 1) y ?_ ?_)
  case' piece8 => refine entry_of_eq (g := query _ _ _ 7) (by rfl) (query_tile _ _ _ 7 (x 0) (x 1) y ?_ ?_)
  case' piece9 => refine entry_of_eq (g := query _ _ _ 6) (by rfl) (query_tile _ _ _ 6 (x 0) (x 1) y ?_ ?_)
  case' piece10 => refine entry_of_eq (g := query _ _ _ 5) (by rfl) (query_tile _ _ _ 5 (x 0) (x 1) y ?_ ?_)
  case' piece11 => refine entry_of_eq (g := query _ _ _ 4) (by rfl) (query_tile _ _ _ 4 (x 0) (x 1) y ?_ ?_)
  case' piece12 => refine entry_of_eq (g := query _ _ _ 3) (by rfl) (query_tile _ _ _ 3 (x 0) (x 1) y ?_ ?_)
  case' piece13 => refine entry_of_eq (g := query _ _ _ 2) (by rfl) (query_tile _ _ _ 2 (x 0) (x 1) y ?_ ?_)
  case' piece14 => refine entry_of_eq (g := query _ _ _ 1) (by rfl) (query_tile _ _ _ 1 (x 0) (x 1) y ?_ ?_)
  case' piece15 => refine entry_of_eq (g := query _ _ _ 0) (by rfl) (query_tile _ _ _ 0 (x 0) (x 1) y ?_ ?_)
  all_goals omega

set_option maxHeartbeats 4000000 in
/-- The eight stores of the turned keys make their block. -/
theorem out0_9_eq (y : S256x1024.Idx) :
    out0_9 g x0 x1 x2 x3 x4 x5 x6 x7 y = keyBlock (k0_pay69 g x0 x1 x2 x3 x4 x5 x6 x7) (k0_pay70 g x0 x1 x2 x3 x4 x5 x6 x7)
      (k0_pay71 g x0 x1 x2 x3 x4 x5 x6 x7) (y 0) (y 1) := by
  unfold out0_9
  canon_tiles x h
  case' piece0 => refine entry_of_eq (g := truncf .bf16 (turned (lanes _ 23) _ _) bitsLt_bf16_f32) (by rfl) (key_tile _ _ _ 23 (x 0) (x 1) y ?_ ?_)
  case' piece1 => refine entry_of_eq (g := truncf .bf16 (turned (lanes _ 22) _ _) bitsLt_bf16_f32) (by rfl) (key_tile _ _ _ 22 (x 0) (x 1) y ?_ ?_)
  case' piece2 => refine entry_of_eq (g := truncf .bf16 (turned (lanes _ 21) _ _) bitsLt_bf16_f32) (by rfl) (key_tile _ _ _ 21 (x 0) (x 1) y ?_ ?_)
  case' piece3 => refine entry_of_eq (g := truncf .bf16 (turned (lanes _ 20) _ _) bitsLt_bf16_f32) (by rfl) (key_tile _ _ _ 20 (x 0) (x 1) y ?_ ?_)
  case' piece4 => refine entry_of_eq (g := truncf .bf16 (turned (lanes _ 19) _ _) bitsLt_bf16_f32) (by rfl) (key_tile _ _ _ 19 (x 0) (x 1) y ?_ ?_)
  case' piece5 => refine entry_of_eq (g := truncf .bf16 (turned (lanes _ 18) _ _) bitsLt_bf16_f32) (by rfl) (key_tile _ _ _ 18 (x 0) (x 1) y ?_ ?_)
  case' piece6 => refine entry_of_eq (g := truncf .bf16 (turned (lanes _ 17) _ _) bitsLt_bf16_f32) (by rfl) (key_tile _ _ _ 17 (x 0) (x 1) y ?_ ?_)
  case' piece7 => refine entry_of_eq (g := truncf .bf16 (turned (lanes _ 16) _ _) bitsLt_bf16_f32) (by rfl) (key_tile _ _ _ 16 (x 0) (x 1) y ?_ ?_)
  all_goals omega

set_option maxHeartbeats 4000000 in
/-- The eight stores of the values in bfloat16 make their block: lanes of the product. -/
theorem out0_10_eq (y : S256x1024.Idx) :
    out0_10 g x0 x1 x2 x3 x4 x5 x6 x7 y
      = laneBlock 3072 (by omega) (k0_pay69 g x0 x1 x2 x3 x4 x5 x6 x7) (y 0) (y 1) := by
  unfold out0_10
  canon_tiles x h
  case' piece0 => refine entry_of_eq (g := lanes (k0_pay69 g x0 x1 x2 x3 x4 x5 x6 x7) 31) (by rfl) (plain_tile _ 31 3072 (by omega) (x 0) (x 1) y ?_ ?_)
  case' piece1 => refine entry_of_eq (g := lanes (k0_pay69 g x0 x1 x2 x3 x4 x5 x6 x7) 30) (by rfl) (plain_tile _ 30 3072 (by omega) (x 0) (x 1) y ?_ ?_)
  case' piece2 => refine entry_of_eq (g := lanes (k0_pay69 g x0 x1 x2 x3 x4 x5 x6 x7) 29) (by rfl) (plain_tile _ 29 3072 (by omega) (x 0) (x 1) y ?_ ?_)
  case' piece3 => refine entry_of_eq (g := lanes (k0_pay69 g x0 x1 x2 x3 x4 x5 x6 x7) 28) (by rfl) (plain_tile _ 28 3072 (by omega) (x 0) (x 1) y ?_ ?_)
  case' piece4 => refine entry_of_eq (g := lanes (k0_pay69 g x0 x1 x2 x3 x4 x5 x6 x7) 27) (by rfl) (plain_tile _ 27 3072 (by omega) (x 0) (x 1) y ?_ ?_)
  case' piece5 => refine entry_of_eq (g := lanes (k0_pay69 g x0 x1 x2 x3 x4 x5 x6 x7) 26) (by rfl) (plain_tile _ 26 3072 (by omega) (x 0) (x 1) y ?_ ?_)
  case' piece6 => refine entry_of_eq (g := lanes (k0_pay69 g x0 x1 x2 x3 x4 x5 x6 x7) 25) (by rfl) (plain_tile _ 25 3072 (by omega) (x 0) (x 1) y ?_ ?_)
  case' piece7 => refine entry_of_eq (g := lanes (k0_pay69 g x0 x1 x2 x3 x4 x5 x6 x7) 24) (by rfl) (plain_tile _ 24 3072 (by omega) (x 0) (x 1) y ?_ ?_)
  all_goals omega

set_option maxHeartbeats 4000000 in
/-- The eight stores of the keys before they are turned make their block: lanes of the product. -/
theorem out0_11_eq (y : S256x1024.Idx) :
    out0_11 g x0 x1 x2 x3 x4 x5 x6 x7 y
      = laneBlock 2048 (by omega) (k0_pay69 g x0 x1 x2 x3 x4 x5 x6 x7) (y 0) (y 1) := by
  unfold out0_11
  canon_tiles x h
  case' piece0 => refine entry_of_eq (g := lanes (k0_pay69 g x0 x1 x2 x3 x4 x5 x6 x7) 23) (by rfl) (plain_tile _ 23 2048 (by omega) (x 0) (x 1) y ?_ ?_)
  case' piece1 => refine entry_of_eq (g := lanes (k0_pay69 g x0 x1 x2 x3 x4 x5 x6 x7) 22) (by rfl) (plain_tile _ 22 2048 (by omega) (x 0) (x 1) y ?_ ?_)
  case' piece2 => refine entry_of_eq (g := lanes (k0_pay69 g x0 x1 x2 x3 x4 x5 x6 x7) 21) (by rfl) (plain_tile _ 21 2048 (by omega) (x 0) (x 1) y ?_ ?_)
  case' piece3 => refine entry_of_eq (g := lanes (k0_pay69 g x0 x1 x2 x3 x4 x5 x6 x7) 20) (by rfl) (plain_tile _ 20 2048 (by omega) (x 0) (x 1) y ?_ ?_)
  case' piece4 => refine entry_of_eq (g := lanes (k0_pay69 g x0 x1 x2 x3 x4 x5 x6 x7) 19) (by rfl) (plain_tile _ 19 2048 (by omega) (x 0) (x 1) y ?_ ?_)
  case' piece5 => refine entry_of_eq (g := lanes (k0_pay69 g x0 x1 x2 x3 x4 x5 x6 x7) 18) (by rfl) (plain_tile _ 18 2048 (by omega) (x 0) (x 1) y ?_ ?_)
  case' piece6 => refine entry_of_eq (g := lanes (k0_pay69 g x0 x1 x2 x3 x4 x5 x6 x7) 17) (by rfl) (plain_tile _ 17 2048 (by omega) (x 0) (x 1) y ?_ ?_)
  case' piece7 => refine entry_of_eq (g := lanes (k0_pay69 g x0 x1 x2 x3 x4 x5 x6 x7) 16) (by rfl) (plain_tile _ 16 2048 (by omega) (x 0) (x 1) y ?_ ?_)
  all_goals omega

set_option maxHeartbeats 4000000 in
/-- The eight stores of the values make their block: lanes of the product. -/
theorem out0_12_eq (y : S256x1024.Idx) :
    out0_12 g x0 x1 x2 x3 x4 x5 x6 x7 y
      = laneBlock 3072 (by omega) (k0_pay69 g x0 x1 x2 x3 x4 x5 x6 x7) (y 0) (y 1) := by
  unfold out0_12
  canon_tiles x h
  case' piece0 => refine entry_of_eq (g := lanes (k0_pay69 g x0 x1 x2 x3 x4 x5 x6 x7) 31) (by rfl) (plain_tile _ 31 3072 (by omega) (x 0) (x 1) y ?_ ?_)
  case' piece1 => refine entry_of_eq (g := lanes (k0_pay69 g x0 x1 x2 x3 x4 x5 x6 x7) 30) (by rfl) (plain_tile _ 30 3072 (by omega) (x 0) (x 1) y ?_ ?_)
  case' piece2 => refine entry_of_eq (g := lanes (k0_pay69 g x0 x1 x2 x3 x4 x5 x6 x7) 29) (by rfl) (plain_tile _ 29 3072 (by omega) (x 0) (x 1) y ?_ ?_)
  case' piece3 => refine entry_of_eq (g := lanes (k0_pay69 g x0 x1 x2 x3 x4 x5 x6 x7) 28) (by rfl) (plain_tile _ 28 3072 (by omega) (x 0) (x 1) y ?_ ?_)
  case' piece4 => refine entry_of_eq (g := lanes (k0_pay69 g x0 x1 x2 x3 x4 x5 x6 x7) 27) (by rfl) (plain_tile _ 27 3072 (by omega) (x 0) (x 1) y ?_ ?_)
  case' piece5 => refine entry_of_eq (g := lanes (k0_pay69 g x0 x1 x2 x3 x4 x5 x6 x7) 26) (by rfl) (plain_tile _ 26 3072 (by omega) (x 0) (x 1) y ?_ ?_)
  case' piece6 => refine entry_of_eq (g := lanes (k0_pay69 g x0 x1 x2 x3 x4 x5 x6 x7) 25) (by rfl) (plain_tile _ 25 3072 (by omega) (x 0) (x 1) y ?_ ?_)
  case' piece7 => refine entry_of_eq (g := lanes (k0_pay69 g x0 x1 x2 x3 x4 x5 x6 x7) 24) (by rfl) (plain_tile _ 24 3072 (by omega) (x 0) (x 1) y ?_ ?_)
  all_goals omega
end Cert.Kernel6Ideal.Value
end
-- ==== Proof.DqkvTables.lean ====
module

public import proofs.«01_k».proof.Proof.DqkvTiles

@[expose] public section

set_option maxRecDepth 16384
noncomputable section
namespace Cert.Kernel6Ideal.Value
open Cert.Kernel6Ideal Cert.Kernel6Ideal.Gen Cert.Rope Idealize.ShloMosaic Idealize.ShloMosaic.TcCoe Idealize.SL.Sem
open Idealize.ShloMosaic.Pipeline (Dat)
variable (m : (ℓ : Loc nD τ sig) → Buf (Elt Ideal) ℓ)

/-- The latent tokens' rows on the grid, as floats. -/
def gridRow : FVec Ideal S2048 .f32 :=
  sitofp .f32 (shapeCast S2048 (broadcastInDim S32x64 ![0] bcast_S32_S32x64_0 (iotaInDim S32 32 0)) shapeCasts_S32x64_S2048)

/-- The latent tokens' columns on the grid, as floats. -/
def gridCol : FVec Ideal S2048 .f32 :=
  sitofp .f32 (shapeCast S2048 (broadcastInDim S32x64 ![0, 1] bcast_S1x64_S32x64_0_1 (shapeCast S1x64 (iotaInDim S64 32 0) shapeCasts_S64_S1x64)) shapeCasts_S32x64_S2048)

/-- The sixteen rates of rotation. -/
def rate : FVec Ideal S16 .f32 :=
  Host.powf (broadcastInDim S16 ![] bcast_S_S16 (constant S_ .f32 0x461C4000#32)) (Host.divf (Host.negf (sitofp .f32 (iotaInDim S16 32 0)))
    (broadcastInDim S16 ![] bcast_S_S16 (constant S_ .f32 0x41800000#32)))

/-- The angles: each token's row times the rates, then its column times the rates. -/
def angle : FVec Ideal S2048x32 .f32 :=
  concatenate S2048x32 1
    [⟨S2048x16, mulf (broadcastInDim S2048x16 ![0, 1] bcast_S2048x1_S2048x16_0_1 (broadcastInDim S2048x1 ![0] bcast_S2048_S2048x1_0 gridRow))
        (broadcastInDim S2048x16 ![0, 1] bcast_S1x16_S2048x16_0_1 (broadcastInDim S1x16 ![1] bcast_S16_S1x16_1 rate))⟩,
     ⟨S2048x16, mulf (broadcastInDim S2048x16 ![0, 1] bcast_S2048x1_S2048x16_0_1 (broadcastInDim S2048x1 ![0] bcast_S2048_S2048x1_0 gridCol))
        (broadcastInDim S2048x16 ![0, 1] bcast_S1x16_S2048x16_0_1 (broadcastInDim S1x16 ![1] bcast_S16_S1x16_1 rate))⟩]
    concatenates_S2048x16_S2048x16_S2048x32_d1

/-- A table of the tokens' frequencies spread over the lanes of a head: each entry on the two lanes of its pair. -/
def paired (a : FVec Ideal S2048x32 .f32) : FVec Ideal S2048x64 .f32 :=
  shapeCast S2048x64 (broadcastInDim S2048x32x2 ![0, 1] bcast_S2048x32_S2048x32x2_0_1 a) shapeCasts_S2048x32x2_S2048x64

/-- The signs of the lanes of a head: minus on the even ones. -/
def signs : FVec Ideal S64 .f32 :=
  shapeCast S64 (broadcastInDim S32x2 ![0, 1] bcast_S1x2_S32x2_0_1 (shapeCast S1x2 (fun i => FloatOps.ofBits .f32 (lit0 (S2.rowMajor i)) : FVec Ideal S2 .f32) shapeCasts_S2_S1x2)) shapeCasts_S32x2_S64

/-- A head's table repeated over the two heads of 128 lanes. -/
def repeated (a : FVec Ideal S2048x64 .f32) : FVec Ideal S2048x128 .f32 :=
  shapeCast S2048x128 (broadcastInDim S1x2048x2x64 ![0, 1, 2, 3] bcast_S1x2048x1x64_S1x2048x2x64_0_1_2_3 (shapeCast S1x2048x1x64 a shapeCasts_S2048x64_S1x2048x1x64)) shapeCasts_S1x2048x2x64_S2048x128

/-- The table of cosines as the region finds it. -/
theorem V_main_v37 (c : Dev nD) : V m c main_v37 = repeated (paired (Host.cos angle)) := by
  entry_read
  rfl

/-- The table of signed sines as the region finds it. -/
theorem V_main_v43 (c : Dev nD) : V m c main_v43 = repeated (mulf (paired (Host.sin angle))
    (broadcastInDim S2048x64 ![0, 1] bcast_S1x64_S2048x64_0_1 (broadcastInDim S1x64 ![1] bcast_S64_S1x64_1 signs))) := by
  entry_read
  rfl

/-- A repeated table, read at an entry. -/
theorem repeated_at (a : FVec Ideal S2048x64 .f32) (s : Fin 2048) (d : Fin 128) :
    repeated a (ix2 s d) = a (ix2 s (⟨d % 64, by omega⟩ : Fin 64)) := by
  pointwise [repeated]
  blk_ext

/-- A spread table, read at an entry. -/
theorem paired_at (a : FVec Ideal S2048x32 .f32) (s : Fin 2048) (e : Fin 64) :
    paired a (ix2 s e) = a (ix2 s (⟨e / 2, by omega⟩ : Fin 32)) := by
  pointwise [paired]
  blk_ext

/-- The pattern of the negative sign is minus one. -/
theorem minus_pattern : Ideal.ofBits .f32 0xBF800000#32 = -1 := by
  rw [show (-1 : EReal) = ((-(1 : ℝ) : ℝ) : EReal) by rw [EReal.coe_neg, EReal.coe_one]]
  simp [Ideal.ofBits, Ideal.ieee, -EReal.coe_mul, -EReal.coe_neg]
  norm_num

/-- The constant's two entries: minus one, then one. -/
theorem sign_pattern (b : Fin 2) :
    Ideal.ofBits .f32 (lit0 (S2.rowMajor (ix1 b))) = if (b : ℕ) = 0 then -1 else 1 := by
  match b with
  | ⟨0, _⟩ => exact minus_pattern
  | ⟨1, _⟩ => exact Ideal.ofBits_one_f32

/-- A sign, read at a lane. -/
theorem signs_at (e : Fin 64) : signs (ix1 e) = if (e : ℕ) % 2 = 0 then -1 else 1 := by
  pointwise [signs]
  exact sign_pattern _

/-- The cosines, read at an entry. -/
theorem cosines_at (c : Dev nD) (s : Fin 2048) (d : Fin 128) :
    V m c main_v37 (ix2 s d) = Host.cos angle (ix2 s (freq d)) := by
  rw [V_main_v37, repeated_at, paired_at]
  rfl

/-- The signed sines, read at an entry. -/
theorem sines_at (c : Dev nD) (s : Fin 2048) (d : Fin 128) :
    V m c main_v43 (ix2 s d) = Host.sin angle (ix2 s (freq d)) * (if (d : ℕ) % 2 = 0 then -1 else 1) := by
  rw [V_main_v43, repeated_at]
  pointwise [paired_at, signs_at]
  rw [Nat.mod_mod_of_dvd _ (by decide : 2 ∣ 64)]
  rfl
end Cert.Kernel6Ideal.Value
end
-- ==== Proof.DqkvArray.lean ====
module

public import proofs.«01_k».proof.Proof.DqkvTables

@[expose] public section

set_option maxRecDepth 16384
noncomputable section
namespace Cert.Kernel6Ideal.Value
open Cert.Kernel6Ideal Cert.Kernel6Ideal.Gen Cert.Rope Cert.Tokens Idealize.ShloMosaic Idealize.ShloMosaic.TcCoe Idealize.SL.Sem
open Idealize.ShloMosaic.Pipeline (Dat)
variable (m : (ℓ : Loc nD τ sig) → Buf (Elt Ideal) ℓ)

/-- Where each window that is read or written stands at a grid point. -/
theorem idx : ∀ t : Fin cfg0.N, win0_0.index t = ![t.val, 0]
    ∧ win0_1.index t = ![if t.val < 16 then 0 else 1 + (t.val - 16) / 8, 0, 0] ∧ win0_2.index t = ![0, 0]
    ∧ win0_6.index t = ![if t.val < 16 then 0 else (t.val - 16) % 8, 0] ∧ win0_7.index t = ![if t.val < 16 then 0 else (t.val - 16) % 8, 0]
    ∧ win0_8.index t = ![t.val, 0] ∧ win0_9.index t = ![t.val, 0] ∧ win0_10.index t = ![t.val, 0] ∧ win0_11.index t = ![t.val, 0]
    ∧ win0_12.index t = ![t.val, 0] :=
  (by decide +kernel : ∀ t : Fin grid0.N, _)

/-- The body's test of a grid point is true from the first sample block on. -/
theorem sample_bit : ∀ t : Fin grid0.N,
    Scalar.cmpi .sge (BitVec.ofNat 32 ((grid0.coords t 0 : Fin _) : ℕ)) 16#32 = if t.val < 16 then 0#1 else 1#1 := by
  decide +kernel

/-- The modulated input times the matrix, entry by entry: row `i` of the input, scaled and shifted by its sequence's row of the
    modulations, times column `l`. -/
def product (x : Vec Ideal S20480x1024 .f32) (mods : Vec Ideal S16x6x1024 .f32) (w : Vec Ideal S1024x4096 .bf16)
    (i : Fin 20480) (l : Fin 4096) : EReal :=
  ∑ e : Fin 1024, (x (ix2 i e) * (1 + mods (ix3 (group i) 1 e)) + mods (ix3 (group i) 0 e)) * w (ix2 e l)

/-- A lane of a row of the product, turned: the prompt's rows stay, the others turn by their token's angles. -/
def rotated (y : Fin 20480 → Fin 4096 → EReal) (i : Fin 20480) (l : Fin 4096) : EReal :=
  if (i : ℕ) < 4096 then y i l
  else turn l (y i l) (y i (mate (by decide) l)) (Host.cos angle (ix2 (place i) (freq l))) (Host.sin angle (ix2 (place i) (freq l)))

/-- Lane `l` of the queries, scaled. -/
def queryAt (y : Fin 20480 → Fin 4096 → EReal) (i : Fin 20480) (l : Fin 2048) : EReal :=
  rotated y i (⟨l, by omega⟩ : Fin 4096) * Ideal.ofBits .f32 0x3E000000#32

/-- Lane `l` of the keys, turned. -/
def keyAt (y : Fin 20480 → Fin 4096 → EReal) (i : Fin 20480) (l : Fin 1024) : EReal :=
  rotated y i (⟨2048 + l, by omega⟩ : Fin 4096)

/-- Lane `b + l` of the product. -/
def laneAt (b : ℕ) (hb : b ≤ 3072) (y : Fin 20480 → Fin 4096 → EReal) (i : Fin 20480) (l : Fin 1024) : EReal :=
  y i (⟨b + l, by omega⟩ : Fin 4096)

set_option maxHeartbeats 2000000 in
/-- A block's product is the array's at the place the block has. -/
theorem product_block (c : Dev nD) (t : Fin cfg0.N) (i : Fin 256) (l : Fin 4096) (r : Fin 20480) (h0 : (r : ℕ) = t.val * 256 + i) :
    k0_pay69 (grid0.coords t) (iblk m c 0 t) (iblk m c 1 t) (iblk m c 2 t) (iblk m c 3 t) (iblk m c 4 t) (iblk m c 5 t)
        (iblk m c 6 t) (iblk m c 7 t) (ix2 i l)
      = product (m ((c : Thread nD τ).loc main_arg0)) (m ((c : Thread nD τ).loc main_arg1)) (m ((c : Thread nD τ).loc main_arg2)) r l := by
  have ht : t.val < 80 := lt_of_lt_of_eq t.isLt N_0
  refine (product_at _ _ _ _ i l).trans (Finset.sum_congr rfl fun e _ => ?_)
  rw [Ideal.ofBits_one_f32]
  refine congrArg₂ (· * ·) (congrArg₂ (· + ·) (congrArg₂ (· * ·) ?_ (congrArg₂ (· + ·) rfl ?_)) ?_) ?_
  all_goals (pointwise; blk_ext [iblk, V, idx t, group, groupNum] <;> (split_ifs <;> omega))

/-- The row of the tables that row `i` of a block reads. -/
def tableRow (t : Fin cfg0.N) (i : Fin 256) : Fin 2048 := ⟨(if t.val < 16 then 0 else (t.val - 16) % 8) * 256 + i, by split <;> omega⟩

/-- The cosines a block turns by: one in the prompt's blocks. -/
theorem cosine_block (c : Dev nD) (t : Fin cfg0.N) (i : Fin 256) (d : Fin 128) (r : Fin 20480) (h0 : (r : ℕ) = t.val * 256 + i) :
    k0_pay70 (grid0.coords t) (iblk m c 0 t) (iblk m c 1 t) (iblk m c 2 t) (iblk m c 3 t) (iblk m c 4 t) (iblk m c 5 t)
        (iblk m c 6 t) (iblk m c 7 t) (ix2 i d)
      = if (r : ℕ) < 4096 then 1 else Host.cos angle (ix2 (place r) (freq d)) := by
  have ht : t.val < 80 := lt_of_lt_of_eq t.isLt N_0
  have hb : iblk m c 6 t (ix2 i d) = V m c main_v37 (ix2 (tableRow t i) d) := by
    blk_ext [iblk, idx t, tableRow]
  have hs := sample_bit t
  pointwise [k0_pay70, k0_pay11]
  rw [hs, hb, cosines_at]
  by_cases h : t.val < 16
  · rw [if_pos h, if_pos (show (r : ℕ) < 4096 by omega)]
    rfl
  · rw [if_neg h, if_neg (show ¬ (r : ℕ) < 4096 by omega)]
    have hp : tableRow t i = place r := Fin.ext (by simp only [tableRow, place, if_neg h]; omega)
    rw [hp]
    rfl

/-- The signed sines a block turns by: zero in the prompt's blocks. -/
theorem sine_block (c : Dev nD) (t : Fin cfg0.N) (i : Fin 256) (d : Fin 128) (r : Fin 20480) (h0 : (r : ℕ) = t.val * 256 + i) :
    k0_pay71 (grid0.coords t) (iblk m c 0 t) (iblk m c 1 t) (iblk m c 2 t) (iblk m c 3 t) (iblk m c 4 t) (iblk m c 5 t)
        (iblk m c 6 t) (iblk m c 7 t) (ix2 i d)
      = if (r : ℕ) < 4096 then 0 else Host.sin angle (ix2 (place r) (freq d)) * (if (d : ℕ) % 2 = 0 then -1 else 1) := by
  have ht : t.val < 80 := lt_of_lt_of_eq t.isLt N_0
  have hb : iblk m c 7 t (ix2 i d) = V m c main_v43 (ix2 (tableRow t i) d) := by
    blk_ext [iblk, idx t, tableRow]
  have hs := sample_bit t
  pointwise [k0_pay71, k0_pay12]
  rw [hs, hb, sines_at]
  by_cases h : t.val < 16
  · rw [if_pos h, if_pos (show (r : ℕ) < 4096 by omega)]
    rfl
  · rw [if_neg h, if_neg (show ¬ (r : ℕ) < 4096 by omega)]
    have hp : tableRow t i = place r := Fin.ext (by simp only [tableRow, place, if_neg h]; omega)
    rw [hp]
    rfl

/-- The block's turn of a lane is the array's at the place the block has. -/
theorem rotated_block (c : Dev nD) (t : Fin cfg0.N) (i : Fin 256) (l : Fin 4096) (d : Fin 128) (hd : (d : ℕ) = l % 128) (r : Fin 20480)
    (h0 : (r : ℕ) = t.val * 256 + i) :
    k0_pay69 (grid0.coords t) (iblk m c 0 t) (iblk m c 1 t) (iblk m c 2 t) (iblk m c 3 t) (iblk m c 4 t) (iblk m c 5 t)
        (iblk m c 6 t) (iblk m c 7 t) (ix2 i l)
        * k0_pay70 (grid0.coords t) (iblk m c 0 t) (iblk m c 1 t) (iblk m c 2 t) (iblk m c 3 t) (iblk m c 4 t) (iblk m c 5 t)
        (iblk m c 6 t) (iblk m c 7 t) (ix2 i d)
      + k0_pay69 (grid0.coords t) (iblk m c 0 t) (iblk m c 1 t) (iblk m c 2 t) (iblk m c 3 t) (iblk m c 4 t) (iblk m c 5 t)
        (iblk m c 6 t) (iblk m c 7 t) (ix2 i (mate (by decide) l))
        * k0_pay71 (grid0.coords t) (iblk m c 0 t) (iblk m c 1 t) (iblk m c 2 t) (iblk m c 3 t) (iblk m c 4 t) (iblk m c 5 t)
        (iblk m c 6 t) (iblk m c 7 t) (ix2 i d)
      = rotated (product (m ((c : Thread nD τ).loc main_arg0)) (m ((c : Thread nD τ).loc main_arg1)) (m ((c : Thread nD τ).loc main_arg2))) r l := by
  have hf : freq (d : ℕ) = freq l := Fin.ext (by simp only [freq]; omega)
  have hp : (d : ℕ) % 2 = (l : ℕ) % 2 := by omega
  rw [product_block m c t i l r h0, product_block m c t i (mate (by decide) l) r h0, cosine_block m c t i d r h0,
    sine_block m c t i d r h0, hf, hp]
  unfold rotated
  split
  · exact still _ _
  · exact turn_eq rfl _ _ _ _

/-- The queries after the run. -/
theorem final_8 (c : Dev nD) :
    (dats m 0 c).arrAt 8 cfg0.N = fun i : S20480x2048.Idx =>
      queryAt (product (m ((c : Thread nD τ).loc main_arg0)) (m ((c : Thread nD τ).loc main_arg1)) (m ((c : Thread nD τ).loc main_arg2))) (i 0) (i 1) := by
  refine (dats m 0 c).arrAt_eq_of_covers 8 _ (by decide +kernel) fun t hf y => ?_
  blk_simp
  rw [after0_8]
  refine (out0_8_eq _ _ _ _ _ _ _ _ _ _).trans ?_
  refine congrArg (· * _) ((rotated_block m c t _ _ _ rfl _ ?_).trans (congrArg _ (Fin.ext ?_)))
  all_goals (blk_simp [idx t] <;> try omega)

/-- The turned keys after the run. -/
theorem final_9 (c : Dev nD) :
    (dats m 0 c).arrAt 9 cfg0.N = fun i : S20480x1024.Idx =>
      keyAt (product (m ((c : Thread nD τ).loc main_arg0)) (m ((c : Thread nD τ).loc main_arg1)) (m ((c : Thread nD τ).loc main_arg2))) (i 0) (i 1) := by
  refine (dats m 0 c).arrAt_eq_of_covers 9 _ (by decide +kernel) fun t hf y => ?_
  blk_simp
  rw [after0_9]
  refine (out0_9_eq _ _ _ _ _ _ _ _ _ _).trans ?_
  refine (rotated_block m c t _ _ _ (by simp only; omega) _ ?_).trans (congrArg _ (Fin.ext ?_))
  all_goals (blk_simp [idx t] <;> try omega)

/-- The values in bfloat16 after the run. -/
theorem final_10 (c : Dev nD) :
    (dats m 0 c).arrAt 10 cfg0.N = fun i : S20480x1024.Idx =>
      laneAt 3072 (by omega) (product (m ((c : Thread nD τ).loc main_arg0)) (m ((c : Thread nD τ).loc main_arg1)) (m ((c : Thread nD τ).loc main_arg2))) (i 0) (i 1) := by
  refine (dats m 0 c).arrAt_eq_of_covers 10 _ (by decide +kernel) fun t hf y => ?_
  blk_simp
  rw [after0_10]
  refine (out0_10_eq _ _ _ _ _ _ _ _ _ _).trans ?_
  refine (product_block m c t _ _ _ ?_).trans (congrArg _ (Fin.ext ?_))
  all_goals (blk_simp [idx t] <;> try omega)

/-- The keys before they are turned, after the run. -/
theorem final_11 (c : Dev nD) :
    (dats m 0 c).arrAt 11 cfg0.N = fun i : S20480x1024.Idx =>
      laneAt 2048 (by omega) (product (m ((c : Thread nD τ).loc main_arg0)) (m ((c : Thread nD τ).loc main_arg1)) (m ((c : Thread nD τ).loc main_arg2))) (i 0) (i 1) := by
  refine (dats m 0 c).arrAt_eq_of_covers 11 _ (by decide +kernel) fun t hf y => ?_
  blk_simp
  rw [after0_11]
  refine (out0_11_eq _ _ _ _ _ _ _ _ _ _).trans ?_
  refine (product_block m c t _ _ _ ?_).trans (congrArg _ (Fin.ext ?_))
  all_goals (blk_simp [idx t] <;> try omega)

/-- The values after the run. -/
theorem final_12 (c : Dev nD) :
    (dats m 0 c).arrAt 12 cfg0.N = fun i : S20480x1024.Idx =>
      laneAt 3072 (by omega) (product (m ((c : Thread nD τ).loc main_arg0)) (m ((c : Thread nD τ).loc main_arg1)) (m ((c : Thread nD τ).loc main_arg2))) (i 0) (i 1) := by
  refine (dats m 0 c).arrAt_eq_of_covers 12 _ (by decide +kernel) fun t hf y => ?_
  blk_simp
  rw [after0_12]
  refine (out0_12_eq _ _ _ _ _ _ _ _ _ _).trans ?_
  refine (product_block m c t _ _ _ ?_).trans (congrArg _ (Fin.ext ?_))
  all_goals (blk_simp [idx t] <;> try omega)
end Cert.Kernel6Ideal.Value
end
-- ==== Proof.DqkvTurn.lean ====
module

public import proofs.«01_k».proof.Proof.Gen.Reference6Ideal.Run
public import proofs.«01_k».proof.Proof.Rope
public import proofs.«01_k».proof.Proof.Tokens
public import Idealize.ShloMosaic.Lib.Pipeline.ValueKit
public import Idealize.ShloMosaic.Lib.Pointwise

@[expose] public section

set_option maxRecDepth 16384
noncomputable section
namespace Cert.Reference6Ideal.Value
open Cert.Reference6Ideal Cert.Reference6Ideal.Gen Cert.Rope Cert.Tokens Idealize.ShloMosaic Idealize.ShloMosaic.TcCoe Idealize.SL.Sem

/-- The latent tokens' rows on the grid, as floats. -/
def gridRow : FVec Ideal S2048 .f32 :=
  sitofp .f32 (shapeCast S2048 (broadcastInDim S32x64 ![0] bcast_S32_S32x64_0 (iotaInDim S32 32 0)) shapeCasts_S32x64_S2048)

/-- The latent tokens' columns on the grid, as floats. -/
def gridCol : FVec Ideal S2048 .f32 :=
  sitofp .f32 (shapeCast S2048 (broadcastInDim S32x64 ![0, 1] bcast_S1x64_S32x64_0_1 (shapeCast S1x64 (iotaInDim S64 32 0) shapeCasts_S64_S1x64)) shapeCasts_S32x64_S2048)

/-- The sixteen rates of rotation. -/
def rate : FVec Ideal S16 .f32 :=
  Host.powf (broadcastInDim S16 ![] bcast_S_S16 (constant S_ .f32 0x461C4000#32)) (Host.divf (Host.negf (sitofp .f32 (iotaInDim S16 32 0)))
    (broadcastInDim S16 ![] bcast_S_S16 (constant S_ .f32 0x41800000#32)))

/-- The angles: each token's row times the rates, then its column times the rates. -/
def angle : FVec Ideal S2048x32 .f32 :=
  concatenate S2048x32 1
    [⟨S2048x16, mulf (broadcastInDim S2048x16 ![0, 1] bcast_S2048x1_S2048x16_0_1 (broadcastInDim S2048x1 ![0] bcast_S2048_S2048x1_0 gridRow))
        (broadcastInDim S2048x16 ![0, 1] bcast_S1x16_S2048x16_0_1 (broadcastInDim S1x16 ![1] bcast_S16_S1x16_1 rate))⟩,
     ⟨S2048x16, mulf (broadcastInDim S2048x16 ![0, 1] bcast_S2048x1_S2048x16_0_1 (broadcastInDim S2048x1 ![0] bcast_S2048_S2048x1_0 gridCol))
        (broadcastInDim S2048x16 ![0, 1] bcast_S1x16_S2048x16_0_1 (broadcastInDim S1x16 ![1] bcast_S16_S1x16_1 rate))⟩]
    concatenates_S2048x16_S2048x16_S2048x32_d1

/-- The latent rows of the queries, lane pairs apart. -/
def queryPairs (y : FVec Ideal S20480x2048 .f32) : FVec Ideal S8x2048x32x32x2 .f32 :=
  shapeCast S8x2048x32x32x2 (shapeCast S8x2048x32x64 (extractStridedSlice S16384x2048 ![4096, 0] y slices_S20480x2048_S16384x2048_4096_0)
    shapeCasts_S16384x2048_S8x2048x32x64) shapeCasts_S8x2048x32x64_S8x2048x32x32x2

/-- The even lanes of the pairs. -/
def queryEven (p : FVec Ideal S8x2048x32x32x2 .f32) : FVec Ideal S8x2048x32x32 .f32 :=
  shapeCast S8x2048x32x32 (extractStridedSlice S8x2048x32x32x1 ![0, 0, 0, 0, 0] p slices_S8x2048x32x32x2_S8x2048x32x32x1_0_0_0_0_0) shapeCasts_S8x2048x32x32x1_S8x2048x32x32

/-- The odd lanes of the pairs. -/
def queryOdd (p : FVec Ideal S8x2048x32x32x2 .f32) : FVec Ideal S8x2048x32x32 .f32 :=
  shapeCast S8x2048x32x32 (extractStridedSlice S8x2048x32x32x1 ![0, 0, 0, 0, 1] p slices_S8x2048x32x32x2_S8x2048x32x32x1_0_0_0_0_1) shapeCasts_S8x2048x32x32x1_S8x2048x32x32

/-- A table of the tokens' frequencies, the same for every sequence and head. -/
def queryTable (a : FVec Ideal S2048x32 .f32) : FVec Ideal S8x2048x32x32 .f32 :=
  broadcastInDim S8x2048x32x32 ![0, 1, 2, 3] bcast_S1x2048x1x32_S8x2048x32x32_0_1_2_3 (shapeCast S1x2048x1x32 a shapeCasts_S2048x32_S1x2048x1x32)

/-- The turned pairs put back into rows. -/
def queryJoined (a b : FVec Ideal S8x2048x32x32 .f32) : FVec Ideal S16384x2048 .f32 :=
  shapeCast S16384x2048 (shapeCast S8x2048x32x64 (concatenate S8x2048x32x32x2 4
    [⟨S8x2048x32x32x1, broadcastInDim S8x2048x32x32x1 ![0, 1, 2, 3] bcast_S8x2048x32x32_S8x2048x32x32x1_0_1_2_3 a⟩,
     ⟨S8x2048x32x32x1, broadcastInDim S8x2048x32x32x1 ![0, 1, 2, 3] bcast_S8x2048x32x32_S8x2048x32x32x1_0_1_2_3 b⟩]
    concatenates_S8x2048x32x32x1_S8x2048x32x32x1_S8x2048x32x32x2_d4) shapeCasts_S8x2048x32x32x2_S8x2048x32x64) shapeCasts_S8x2048x32x64_S16384x2048

/-- The latent rows of the queries turned. -/
def queryTurned (p : FVec Ideal S8x2048x32x32x2 .f32) : FVec Ideal S16384x2048 .f32 :=
  queryJoined (subf (mulf (queryEven p) (queryTable (Host.cos angle))) (mulf (queryOdd p) (queryTable (Host.sin angle))))
    (addf (mulf (queryEven p) (queryTable (Host.sin angle))) (mulf (queryOdd p) (queryTable (Host.cos angle))))

/-- The queries: the prompt's rows as they are, the latent rows turned. -/
def queryRows (y : FVec Ideal S20480x2048 .f32) : FVec Ideal S20480x2048 .f32 :=
  concatenate S20480x2048 0 [⟨S4096x2048, extractStridedSlice S4096x2048 ![0, 0] y slices_S20480x2048_S4096x2048_0_0⟩,
    ⟨S16384x2048, queryTurned (queryPairs y)⟩] concatenates_S4096x2048_S16384x2048_S20480x2048_d0

/-- A lane of a pair is the row's lane. -/
theorem queryPairs_at (y : FVec Ideal S20480x2048 .f32) (b : Fin 8) (s : Fin 2048) (h : Fin 32) (f : Fin 32) (e : Fin 2) :
    queryPairs y (ix5 b s h f e) = y (ix2 (⟨4096 + (b * 2048 + s), by omega⟩ : Fin 20480) (⟨h * 64 + (f * 2 + e), by omega⟩ : Fin 2048)) := by
  pointwise [queryPairs]
  blk_ext

/-- A table, read at an entry. -/
theorem queryTable_at (a : FVec Ideal S2048x32 .f32) (b : Fin 8) (s : Fin 2048) (h : Fin 32) (f : Fin 32) :
    queryTable a (ix4 b s h f) = a (ix2 s f) := by
  pointwise [queryTable]
  blk_ext

/-- The even lanes, read at an entry. -/
theorem queryEven_at (p : FVec Ideal S8x2048x32x32x2 .f32) (b : Fin 8) (s : Fin 2048) (h : Fin 32) (f : Fin 32) :
    queryEven p (ix4 b s h f) = p (ix5 b s h f 0) := by
  pointwise [queryEven]
  blk_ext

/-- The odd lanes, read at an entry. -/
theorem queryOdd_at (p : FVec Ideal S8x2048x32x32x2 .f32) (b : Fin 8) (s : Fin 2048) (h : Fin 32) (f : Fin 32) :
    queryOdd p (ix4 b s h f) = p (ix5 b s h f 1) := by
  pointwise [queryOdd]
  blk_ext

/-- The rows of the turned pairs, read at a lane: the first array on the even lanes, the second on the odd ones. -/
theorem queryJoined_at (a b : FVec Ideal S8x2048x32x32 .f32) (r : Fin 16384) (l : Fin 2048) :
    queryJoined a b (ix2 r l) = if (l : ℕ) % 2 = 0
      then a (ix4 (⟨r / 2048, by omega⟩ : Fin 8) (⟨r % 2048, by omega⟩ : Fin 2048) (⟨l / 64, by omega⟩ : Fin 32) (freq l))
      else b (ix4 (⟨r / 2048, by omega⟩ : Fin 8) (⟨r % 2048, by omega⟩ : Fin 2048) (⟨l / 64, by omega⟩ : Fin 32) (freq l)) := by
  have hf : (⟨(l : ℕ) / 2 % 32, by omega⟩ : Fin 32) = freq l := Fin.ext (by simp only [freq]; omega)
  pointwise [queryJoined]
  by_cases h : (l : ℕ) % 2 = 0
  · rw [dif_pos (by omega), if_pos h]
    exact congrArg a (congrArg (ix4 _ _ _) hf)
  · rw [dif_neg (by omega), if_neg h]
    exact congrArg b (congrArg (ix4 _ _ _) hf)

/-- The latent rows turned, read at a lane. -/
theorem queryTurned_at (y : FVec Ideal S20480x2048 .f32) (r : Fin 16384) (i : Fin 20480) (h0 : (i : ℕ) = 4096 + r) (l : Fin 2048) :
    queryTurned (queryPairs y) (ix2 r l) = turn l (y (ix2 i l)) (y (ix2 i (mate (by decide) l)))
      (Host.cos angle (ix2 (place i) (freq l))) (Host.sin angle (ix2 (place i) (freq l))) := by
  have hp : (⟨(r : ℕ) % 2048, by omega⟩ : Fin 2048) = place i := Fin.ext (by simp only [place]; omega)
  have he : (⟨4096 + ((r : ℕ) / 2048 * 2048 + (r : ℕ) % 2048), by omega⟩ : Fin 20480) = i := Fin.ext (by simp only; omega)
  unfold queryTurned turn
  rw [queryJoined_at]
  split <;> rename_i hl
  · pointwise [queryEven_at, queryOdd_at, queryTable_at, queryPairs_at]
    have hc : (⟨(l : ℕ) / 64 * 64 + (freq l : ℕ) * 2, by simp only [freq]; omega⟩ : Fin 2048) = l := Fin.ext (by simp only [freq]; omega)
    have hm : (⟨(l : ℕ) / 64 * 64 + ((freq l : ℕ) * 2 + 1), by simp only [freq]; omega⟩ : Fin 2048) = mate (by decide) l :=
      Fin.ext (by simp only [freq, mate, mateNum, if_pos hl]; omega)
    rw [he, hp, hc, hm]
  · pointwise [queryEven_at, queryOdd_at, queryTable_at, queryPairs_at]
    have hm : (⟨(l : ℕ) / 64 * 64 + (freq l : ℕ) * 2, by simp only [freq]; omega⟩ : Fin 2048) = mate (by decide) l :=
      Fin.ext (by simp only [freq, mate, mateNum, if_neg hl]; omega)
    have hc : (⟨(l : ℕ) / 64 * 64 + ((freq l : ℕ) * 2 + 1), by simp only [freq]; omega⟩ : Fin 2048) = l := Fin.ext (by simp only [freq]; omega)
    rw [he, hp, hc, hm]

/-- The queries, read at a lane. -/
theorem queryRows_at (y : FVec Ideal S20480x2048 .f32) (i : Fin 20480) (l : Fin 2048) :
    queryRows y (ix2 i l) = if (i : ℕ) < 4096 then y (ix2 i l) else turn l (y (ix2 i l)) (y (ix2 i (mate (by decide) l)))
      (Host.cos angle (ix2 (place i) (freq l))) (Host.sin angle (ix2 (place i) (freq l))) := by
  pointwise [queryRows]
  by_cases h : (i : ℕ) < 4096
  · rw [dif_pos h, if_pos h]
  · rw [dif_neg h, if_neg h]
    exact queryTurned_at y _ i (by simp only; omega) l

/-- The latent rows of the keys, lane pairs apart. -/
def keyPairs (y : FVec Ideal S20480x1024 .f32) : FVec Ideal S8x2048x16x32x2 .f32 :=
  shapeCast S8x2048x16x32x2 (shapeCast S8x2048x16x64 (extractStridedSlice S16384x1024 ![4096, 0] y slices_S20480x1024_S16384x1024_4096_0)
    shapeCasts_S16384x1024_S8x2048x16x64) shapeCasts_S8x2048x16x64_S8x2048x16x32x2

/-- The even lanes of the pairs. -/
def keyEven (p : FVec Ideal S8x2048x16x32x2 .f32) : FVec Ideal S8x2048x16x32 .f32 :=
  shapeCast S8x2048x16x32 (extractStridedSlice S8x2048x16x32x1 ![0, 0, 0, 0, 0] p slices_S8x2048x16x32x2_S8x2048x16x32x1_0_0_0_0_0) shapeCasts_S8x2048x16x32x1_S8x2048x16x32

/-- The odd lanes of the pairs. -/
def keyOdd (p : FVec Ideal S8x2048x16x32x2 .f32) : FVec Ideal S8x2048x16x32 .f32 :=
  shapeCast S8x2048x16x32 (extractStridedSlice S8x2048x16x32x1 ![0, 0, 0, 0, 1] p slices_S8x2048x16x32x2_S8x2048x16x32x1_0_0_0_0_1) shapeCasts_S8x2048x16x32x1_S8x2048x16x32

/-- A table of the tokens' frequencies, the same for every sequence and head. -/
def keyTable (a : FVec Ideal S2048x32 .f32) : FVec Ideal S8x2048x16x32 .f32 :=
  broadcastInDim S8x2048x16x32 ![0, 1, 2, 3] bcast_S1x2048x1x32_S8x2048x16x32_0_1_2_3 (shapeCast S1x2048x1x32 a shapeCasts_S2048x32_S1x2048x1x32)

/-- The turned pairs put back into rows. -/
def keyJoined (a b : FVec Ideal S8x2048x16x32 .f32) : FVec Ideal S16384x1024 .f32 :=
  shapeCast S16384x1024 (shapeCast S8x2048x16x64 (concatenate S8x2048x16x32x2 4
    [⟨S8x2048x16x32x1, broadcastInDim S8x2048x16x32x1 ![0, 1, 2, 3] bcast_S8x2048x16x32_S8x2048x16x32x1_0_1_2_3 a⟩,
     ⟨S8x2048x16x32x1, broadcastInDim S8x2048x16x32x1 ![0, 1, 2, 3] bcast_S8x2048x16x32_S8x2048x16x32x1_0_1_2_3 b⟩]
    concatenates_S8x2048x16x32x1_S8x2048x16x32x1_S8x2048x16x32x2_d4) shapeCasts_S8x2048x16x32x2_S8x2048x16x64) shapeCasts_S8x2048x16x64_S16384x1024

/-- The latent rows of the keys turned. -/
def keyTurned (p : FVec Ideal S8x2048x16x32x2 .f32) : FVec Ideal S16384x1024 .f32 :=
  keyJoined (subf (mulf (keyEven p) (keyTable (Host.cos angle))) (mulf (keyOdd p) (keyTable (Host.sin angle))))
    (addf (mulf (keyEven p) (keyTable (Host.sin angle))) (mulf (keyOdd p) (keyTable (Host.cos angle))))

/-- The keys: the prompt's rows as they are, the latent rows turned. -/
def keyRows (y : FVec Ideal S20480x1024 .f32) : FVec Ideal S20480x1024 .f32 :=
  concatenate S20480x1024 0 [⟨S4096x1024, extractStridedSlice S4096x1024 ![0, 0] y slices_S20480x1024_S4096x1024_0_0⟩,
    ⟨S16384x1024, keyTurned (keyPairs y)⟩] concatenates_S4096x1024_S16384x1024_S20480x1024_d0

/-- A lane of a pair is the row's lane. -/
theorem keyPairs_at (y : FVec Ideal S20480x1024 .f32) (b : Fin 8) (s : Fin 2048) (h : Fin 16) (f : Fin 32) (e : Fin 2) :
    keyPairs y (ix5 b s h f e) = y (ix2 (⟨4096 + (b * 2048 + s), by omega⟩ : Fin 20480) (⟨h * 64 + (f * 2 + e), by omega⟩ : Fin 1024)) := by
  pointwise [keyPairs]
  blk_ext

/-- A table, read at an entry. -/
theorem keyTable_at (a : FVec Ideal S2048x32 .f32) (b : Fin 8) (s : Fin 2048) (h : Fin 16) (f : Fin 32) :
    keyTable a (ix4 b s h f) = a (ix2 s f) := by
  pointwise [keyTable]
  blk_ext

/-- The even lanes, read at an entry. -/
theorem keyEven_at (p : FVec Ideal S8x2048x16x32x2 .f32) (b : Fin 8) (s : Fin 2048) (h : Fin 16) (f : Fin 32) :
    keyEven p (ix4 b s h f) = p (ix5 b s h f 0) := by
  pointwise [keyEven]
  blk_ext

/-- The odd lanes, read at an entry. -/
theorem keyOdd_at (p : FVec Ideal S8x2048x16x32x2 .f32) (b : Fin 8) (s : Fin 2048) (h : Fin 16) (f : Fin 32) :
    keyOdd p (ix4 b s h f) = p (ix5 b s h f 1) := by
  pointwise [keyOdd]
  blk_ext

/-- The rows of the turned pairs, read at a lane: the first array on the even lanes, the second on the odd ones. -/
theorem keyJoined_at (a b : FVec Ideal S8x2048x16x32 .f32) (r : Fin 16384) (l : Fin 1024) :
    keyJoined a b (ix2 r l) = if (l : ℕ) % 2 = 0
      then a (ix4 (⟨r / 2048, by omega⟩ : Fin 8) (⟨r % 2048, by omega⟩ : Fin 2048) (⟨l / 64, by omega⟩ : Fin 16) (freq l))
      else b (ix4 (⟨r / 2048, by omega⟩ : Fin 8) (⟨r % 2048, by omega⟩ : Fin 2048) (⟨l / 64, by omega⟩ : Fin 16) (freq l)) := by
  have hf : (⟨(l : ℕ) / 2 % 32, by omega⟩ : Fin 32) = freq l := Fin.ext (by simp only [freq]; omega)
  pointwise [keyJoined]
  by_cases h : (l : ℕ) % 2 = 0
  · rw [dif_pos (by omega), if_pos h]
    exact congrArg a (congrArg (ix4 _ _ _) hf)
  · rw [dif_neg (by omega), if_neg h]
    exact congrArg b (congrArg (ix4 _ _ _) hf)

/-- The latent rows turned, read at a lane. -/
theorem keyTurned_at (y : FVec Ideal S20480x1024 .f32) (r : Fin 16384) (i : Fin 20480) (h0 : (i : ℕ) = 4096 + r) (l : Fin 1024) :
    keyTurned (keyPairs y) (ix2 r l) = turn l (y (ix2 i l)) (y (ix2 i (mate (by decide) l)))
      (Host.cos angle (ix2 (place i) (freq l))) (Host.sin angle (ix2 (place i) (freq l))) := by
  have hp : (⟨(r : ℕ) % 2048, by omega⟩ : Fin 2048) = place i := Fin.ext (by simp only [place]; omega)
  have he : (⟨4096 + ((r : ℕ) / 2048 * 2048 + (r : ℕ) % 2048), by omega⟩ : Fin 20480) = i := Fin.ext (by simp only; omega)
  unfold keyTurned turn
  rw [keyJoined_at]
  split <;> rename_i hl
  · pointwise [keyEven_at, keyOdd_at, keyTable_at, keyPairs_at]
    have hc : (⟨(l : ℕ) / 64 * 64 + (freq l : ℕ) * 2, by simp only [freq]; omega⟩ : Fin 1024) = l := Fin.ext (by simp only [freq]; omega)
    have hm : (⟨(l : ℕ) / 64 * 64 + ((freq l : ℕ) * 2 + 1), by simp only [freq]; omega⟩ : Fin 1024) = mate (by decide) l :=
      Fin.ext (by simp only [freq, mate, mateNum, if_pos hl]; omega)
    rw [he, hp, hc, hm]
  · pointwise [keyEven_at, keyOdd_at, keyTable_at, keyPairs_at]
    have hm : (⟨(l : ℕ) / 64 * 64 + (freq l : ℕ) * 2, by simp only [freq]; omega⟩ : Fin 1024) = mate (by decide) l :=
      Fin.ext (by simp only [freq, mate, mateNum, if_neg hl]; omega)
    have hc : (⟨(l : ℕ) / 64 * 64 + ((freq l : ℕ) * 2 + 1), by simp only [freq]; omega⟩ : Fin 1024) = l := Fin.ext (by simp only [freq]; omega)
    rw [he, hp, hc, hm]

/-- The keys, read at a lane. -/
theorem keyRows_at (y : FVec Ideal S20480x1024 .f32) (i : Fin 20480) (l : Fin 1024) :
    keyRows y (ix2 i l) = if (i : ℕ) < 4096 then y (ix2 i l) else turn l (y (ix2 i l)) (y (ix2 i (mate (by decide) l)))
      (Host.cos angle (ix2 (place i) (freq l))) (Host.sin angle (ix2 (place i) (freq l))) := by
  pointwise [keyRows]
  by_cases h : (i : ℕ) < 4096
  · rw [dif_pos h, if_pos h]
  · rw [dif_neg h, if_neg h]
    exact keyTurned_at y _ i (by simp only; omega) l

end Cert.Reference6Ideal.Value
end
-- ==== Proof.DqkvReference.lean ====
module

public import proofs.«01_k».proof.Proof.DqkvTurn
public import proofs.«01_k».proof.Proof.Tokens
public import Idealize.ShloMosaic.Lib.Pipeline.ValueKit
public import Idealize.ShloMosaic.Lib.Pointwise

@[expose] public section

set_option maxRecDepth 16384
noncomputable section
namespace Cert.Reference6Ideal.Value
open Cert.Reference6Ideal Cert.Reference6Ideal.Gen Cert.Rope Cert.Tokens Idealize.ShloMosaic Idealize.ShloMosaic.TcCoe Idealize.SL.Sem

/-- The modulations of every row: the prompt's for its rows, each sequence's for its own. -/
def modRows (mods : FVec Ideal S16x6x1024 .f32) : FVec Ideal S20480x6x1024 .f32 :=
  concatenate S20480x6x1024 0 [⟨S4096x6x1024, (broadcastInDim S4096x6x1024 ![1, 2] bcast_S6x1024_S4096x6x1024_1_2 (shapeCast _ (extractStridedSlice S1x6x1024 ![0, 0, 0] mods slices_S16x6x1024_S1x6x1024_0_0_0) shapeCasts_S1x6x1024_S6x1024))⟩,
    ⟨S16384x6x1024, (shapeCast _ (broadcastInDim S8x2048x6x1024 ![0, 1, 2, 3] bcast_S8x1x6x1024_S8x2048x6x1024_0_1_2_3 (broadcastInDim S8x1x6x1024 ![0, 2, 3] bcast_S8x6x1024_S8x1x6x1024_0_2_3 (extractStridedSlice S8x6x1024 ![1, 0, 0] mods slices_S16x6x1024_S8x6x1024_1_0_0))) shapeCasts_S8x2048x6x1024_S16384x6x1024)⟩]
    concatenates_S4096x6x1024_S16384x6x1024_S20480x6x1024_d0

/-- The input scaled and shifted by its rows' modulations. -/
def modulated (x : FVec Ideal S20480x1024 .f32) (r : FVec Ideal S20480x6x1024 .f32) : FVec Ideal S20480x1024 .f32 :=
  addf (mulf x (addf (broadcastInDim S20480x1024 ![] bcast_S_S20480x1024 (constant S_ .f32 0x3F800000#32))
      (shapeCast _ (extractStridedSlice S20480x1x1024 ![0, 1, 0] r slices_S20480x6x1024_S20480x1x1024_0_1_0) shapeCasts_S20480x1x1024_S20480x1024)))
    (shapeCast _ (extractStridedSlice S20480x1x1024 ![0, 0, 0] r slices_S20480x6x1024_S20480x1x1024_0_0_0) shapeCasts_S20480x1x1024_S20480x1024)

/-- The modulated input times the matrix. -/
def fused (x : FVec Ideal S20480x1024 .f32) (mods : FVec Ideal S16x6x1024 .f32) (w : FVec Ideal S1024x4096 .bf16) : FVec Ideal S20480x4096 .f32 :=
  Host.dotGeneral dot_S20480x1024_S1024x4096_S20480x4096_1_0_0_1_n_n none (modulated x (modRows mods)) (extf .f32 w bitsLt_bf16_f32)

/-- The queries of the product, scaled. -/
def queries (y : FVec Ideal S20480x4096 .f32) : FVec Ideal S20480x2048 .bf16 :=
  truncf .bf16 (mulf (queryRows (extractStridedSlice S20480x2048 ![0, 0] y slices_S20480x4096_S20480x2048_0_0))
    (broadcastInDim S20480x2048 ![] bcast_S_S20480x2048 (constant S_ .f32 0x3E000000#32))) bitsLt_bf16_f32

/-- The turned keys of the product. -/
def keys (y : FVec Ideal S20480x4096 .f32) : FVec Ideal S20480x1024 .bf16 :=
  truncf .bf16 (keyRows (extractStridedSlice S20480x1024 ![0, 2048] y slices_S20480x4096_S20480x1024_0_2048)) bitsLt_bf16_f32

/-- The keys of the product before they are turned. -/
def plainKeys (y : FVec Ideal S20480x4096 .f32) : FVec Ideal S20480x1024 .f32 :=
  extractStridedSlice S20480x1024 ![0, 2048] y slices_S20480x4096_S20480x1024_0_2048

/-- The values of the product. -/
def values (y : FVec Ideal S20480x4096 .f32) : FVec Ideal S20480x1024 .f32 :=
  extractStridedSlice S20480x1024 ![0, 3072] y slices_S20480x4096_S20480x1024_0_3072

variable (m : (ℓ : Loc nD τ sig) → Buf (Elt Ideal) ℓ) (c : Dev nD)

set_option maxHeartbeats 4000000 in
/-- The first result is the queries of the product. -/
theorem queries_eq : res_out0 m c = queries (fused (m ((c.tc : Thread nD τ).loc main_arg0)) (m ((c.tc : Thread nD τ).loc main_arg1))
    (m ((c.tc : Thread nD τ).loc main_arg2))) := by
  rfl

set_option maxHeartbeats 4000000 in
/-- The second result is the turned keys of the product. -/
theorem keys_eq : res_out1 m c = keys (fused (m ((c.tc : Thread nD τ).loc main_arg0)) (m ((c.tc : Thread nD τ).loc main_arg1))
    (m ((c.tc : Thread nD τ).loc main_arg2))) := by
  rfl

/-- The rows' modulations, read at an entry. -/
theorem modRows_at (mods : FVec Ideal S16x6x1024 .f32) (i : Fin 20480) (a : Fin 6) (e : Fin 1024) :
    modRows mods (ix3 i a e) = mods (ix3 (group i) a e) := by
  pointwise [modRows]
  split <;> rename_i h <;> (blk_ext [group, groupNum, h] <;> simp)

/-- The modulated input, read at an entry. -/
theorem modulated_at (x : FVec Ideal S20480x1024 .f32) (r : FVec Ideal S20480x6x1024 .f32) (i : Fin 20480) (e : Fin 1024) :
    modulated x r (ix2 i e) = x (ix2 i e) * (1 + r (ix3 i 1 e)) + r (ix3 i 0 e) := by
  pointwise [modulated]

/-- The product, read at an entry. -/
theorem fused_at (x : FVec Ideal S20480x1024 .f32) (mods : FVec Ideal S16x6x1024 .f32) (w : FVec Ideal S1024x4096 .bf16) (i : Fin 20480) (l : Fin 4096) :
    fused x mods w (ix2 i l)
      = ∑ e : Fin 1024, (x (ix2 i e) * (1 + mods (ix3 (group i) 1 e)) + mods (ix3 (group i) 0 e)) * w (ix2 e l) := by
  pointwise [fused]
  simp only [modulated_at, modRows_at]

/-- A turned lane of the product. -/
def turnedLane (y : FVec Ideal S20480x4096 .f32) (i : Fin 20480) (l : Fin 4096) : EReal :=
  if (i : ℕ) < 4096 then y (ix2 i l) else turn l (y (ix2 i l)) (y (ix2 i (mate (by decide) l)))
    (Host.cos angle (ix2 (place i) (freq l))) (Host.sin angle (ix2 (place i) (freq l)))

/-- A query, read at an entry. -/
theorem queries_at (y : FVec Ideal S20480x4096 .f32) (i : Fin 20480) (l : Fin 2048) :
    queries y (ix2 i l) = turnedLane y i (⟨l, by omega⟩ : Fin 4096) * Ideal.ofBits .f32 0x3E000000#32 := by
  pointwise [queries, queryRows_at]
  rfl

/-- A turned key, read at an entry. -/
theorem keys_at (y : FVec Ideal S20480x4096 .f32) (i : Fin 20480) (l : Fin 1024) :
    keys y (ix2 i l) = turnedLane y i (⟨2048 + l, by omega⟩ : Fin 4096) := by
  have hm : (⟨2048 + ((mate (by decide) l : Fin 1024) : ℕ), by omega⟩ : Fin 4096) = mate (by decide) (⟨2048 + (l : ℕ), by omega⟩ : Fin 4096) :=
    Fin.ext (by simp only [mate, mateNum]; split <;> split <;> omega)
  have hf : freq (2048 + (l : ℕ)) = freq l := Fin.ext (by simp only [freq]; omega)
  pointwise [keys, keyRows_at]
  unfold turnedLane
  simp only [hf, turn_shift]
  rw [hm]
  rfl

/-- A key before it is turned, read at an entry. -/
theorem plainKeys_at (y : FVec Ideal S20480x4096 .f32) (i : Fin 20480) (l : Fin 1024) :
    plainKeys y (ix2 i l) = y (ix2 i (⟨2048 + l, by omega⟩ : Fin 4096)) := by
  pointwise [plainKeys]

/-- A value, read at an entry. -/
theorem values_at (y : FVec Ideal S20480x4096 .f32) (i : Fin 20480) (l : Fin 1024) :
    values y (ix2 i l) = y (ix2 i (⟨3072 + l, by omega⟩ : Fin 4096)) := by
  pointwise [values]
end Cert.Reference6Ideal.Value
end
-- ==== Proof.DqkvClaims.lean ====
module

public import proofs.«01_k».proof.Defs
public import proofs.«01_k».proof.Proof.DqkvArray
public import proofs.«01_k».proof.Proof.DqkvReference
public import Idealize.ShloMosaic.Adequacy
public import Idealize.ShloMosaic.Init

@[expose] public section

set_option maxRecDepth 16384
noncomputable section
namespace Cert.Dqkv
open Idealize.ShloMosaic Idealize.SL.Sem Cert.Rope Cert.Tokens
open Cert.Kernel6Ideal.Value (product rotated queryAt keyAt laneAt)
open Cert.Reference6Ideal.Value (fused queries keys plainKeys values turnedLane fused_at queries_at keys_at plainKeys_at values_at)

/-- Both programs turn by the same angles. -/
theorem angle_eq : Cert.Reference6Ideal.Value.angle = Cert.Kernel6Ideal.Value.angle := by
  rfl

section
variable {x x' : FVec Ideal Cert.Kernel6Ideal.S20480x1024 .f32} {mods mods' : FVec Ideal Cert.Kernel6Ideal.S16x6x1024 .f32}
  {w w' : FVec Ideal Cert.Kernel6Ideal.S1024x4096 .bf16}

/-- The reference's product, read at an entry, is the kernel's. -/
theorem product_eq (i : Fin 20480) (l : Fin 4096) : fused x mods w (ix2 i l) = product x mods w i l :=
  fused_at x mods w i l

/-- A turned lane of the reference's product is the kernel's. -/
theorem turned_eq (i : Fin 20480) (l : Fin 4096) : turnedLane (fused x mods w) i l = rotated (product x mods w) i l := by
  unfold turnedLane rotated
  rw [product_eq, product_eq, angle_eq]

/-- THE EQUATION of the queries: the reference's queries are the kernel's, at every entry. -/
theorem queries_equation (h0 : x' = x) (h1 : mods' = mods) (h2 : w' = w) :
    queries (fused x' mods' w') = fun j => queryAt (product x mods w) (j 0) (j 1) := by
  subst h0 h1 h2
  funext j
  rw [eq_ix2 j]
  exact (queries_at _ _ _).trans (congrArg (· * _) (turned_eq _ _))

/-- The equation of the turned keys. -/
theorem keys_equation (h0 : x' = x) (h1 : mods' = mods) (h2 : w' = w) :
    keys (fused x' mods' w') = fun j => keyAt (product x mods w) (j 0) (j 1) := by
  subst h0 h1 h2
  funext j
  rw [eq_ix2 j]
  exact (keys_at _ _ _).trans (turned_eq _ _)

/-- The equation of the keys before they are turned. -/
theorem plain_equation (h0 : x' = x) (h1 : mods' = mods) (h2 : w' = w) :
    plainKeys (fused x' mods' w') = fun j => laneAt 2048 (by omega) (product x mods w) (j 0) (j 1) := by
  subst h0 h1 h2
  funext j
  rw [eq_ix2 j]
  exact (plainKeys_at _ _ _).trans (product_eq _ _)

/-- The equation of the values. -/
theorem values_equation (h0 : x' = x) (h1 : mods' = mods) (h2 : w' = w) :
    values (fused x' mods' w') = fun j => laneAt 3072 (by omega) (product x mods w) (j 0) (j 1) := by
  subst h0 h1 h2
  funext j
  rw [eq_ix2 j]
  exact (values_at _ _ _).trans (product_eq _ _)
end

/-- The reference runs to its end and leaves its arguments and the semaphores as they were. -/
theorem frame_reference : quiescent_Reference6Ideal (hReference6Ideal := Cert.Reference6Ideal.Gen.facts) := fun m ρ _ =>
  (θ_run Cert.Reference6Ideal.defs _ _).mono (fun r h => ⟨fun c => (h c).2.2.2.2.2, sem_eq_zero_of_no_sems (by decide) r.2⟩)
    (Cert.Reference6Ideal.Value.run (F := Ideal) m ρ)

/-- The differential layers' queries, keys and values: from arguments that agree, the kernel's five results are the reference's. -/
theorem algebraic : algebraic_Kernel6Ideal_Reference6Ideal
    (hKernel6Ideal := Cert.Kernel6Ideal.Gen.facts) (hReference6Ideal := Cert.Reference6Ideal.Gen.facts) := by
  pair_intro
  · run_from Cert.Kernel6Ideal.Value.run_blocks m g
  · run_from Cert.Reference6Ideal.Value.run m' g'
    · exact ((Cert.Reference6Ideal.Value.queries_eq m' c).trans (queries_equation (hagree c).1 (hagree c).2.1 (hagree c).2.2)).trans (Cert.Kernel6Ideal.Value.final_8 m c).symm
    · exact ((Cert.Reference6Ideal.Value.keys_eq m' c).trans (keys_equation (hagree c).1 (hagree c).2.1 (hagree c).2.2)).trans (Cert.Kernel6Ideal.Value.final_9 m c).symm
    · exact (values_equation rfl (hagree c).2.1 rfl).trans (Cert.Kernel6Ideal.Value.final_10 m c).symm
    · exact (plain_equation rfl (hagree c).2.1 rfl).trans (Cert.Kernel6Ideal.Value.final_11 m c).symm
    · exact (values_equation rfl (hagree c).2.1 rfl).trans (Cert.Kernel6Ideal.Value.final_12 m c).symm
end Cert.Dqkv
end
-- ==== Proof.HeadNorm.lean ====
module

public import proofs.«01_k».proof.Proof.Softmax

@[expose] public section

noncomputable section

namespace Cert.HeadNorm

open Cert.Softmax Idealize.ShloMosaic
open scoped BigOperators

/-- What divides the lanes of a head: one over the root mean square of its 64 lanes. -/
def headScale (v : Fin 64 → EReal) : EReal :=
  Ideal.rsqrt (Ideal.div (∑ e, v e * v e) (Ideal.ofBits .f32 0x42800000#32) + Ideal.ofBits .f32 0x358637BD#32)

/-- The same as two heads side by side compute it for one lane: the squares weighted by a column of weights, and what the
    squares lost when they were rounded, weighted by the same column. -/
def pairScale (v b : Fin 128 → EReal) : EReal :=
  Ideal.rsqrt (∑ e, v e * v e * b e + ∑ e, (v e * v e - v e * v e) * b e + Ideal.ofBits .f32 0x358637BD#32)

/-- The pattern of the weight is one part in sixty-four. -/
theorem weight_pattern : Ideal.ofBits .bf16 0x3C80#16 = ((64⁻¹ : ℝ) : EReal) := by
  simp [Ideal.ofBits, Ideal.ieee, -EReal.coe_mul]
  norm_num

/-- The pattern of the count of lanes is sixty-four. -/
theorem count_pattern : Ideal.ofBits .f32 0x42800000#32 = ((64 : ℝ) : EReal) := by
  simp [Ideal.ofBits, Ideal.ieee, -EReal.coe_mul]
  norm_num

/-- Weighting by one part in sixty-four and summing is dividing the sum by sixty-four. -/
theorem sum_weight (f : Fin 64 → EReal) :
    ∑ e, f e * Ideal.ofBits .bf16 0x3C80#16 = Ideal.div (∑ e, f e) (Ideal.ofBits .f32 0x42800000#32) := by
  have h : ((64 : ℝ) : EReal) ≠ 0 := by exact_mod_cast (by norm_num : (64 : ℝ) ≠ 0)
  rw [weight_pattern, count_pattern, Ideal.div, if_neg h, ← EReal.coe_inv, mul_comm (∑ e, f e),
    coe_mul_sum _ (by norm_num) f]
  exact Finset.sum_congr rfl fun e _ => mul_comm _ _

/-- Weights that are one part in sixty-four on the lane's own head and nothing on the other make the mean of that head. -/
theorem sum_own (f b : Fin 128 → EReal) (d : Fin 128)
    (hb : ∀ e : Fin 128, b e = if (e : ℕ) / 64 = (d : ℕ) / 64 then Ideal.ofBits .bf16 0x3C80#16 else 0) :
    ∑ e, f e * b e = Ideal.div (∑ e : Fin 64, f (⟨(d : ℕ) / 64 * 64 + e, by omega⟩ : Fin 128)) (Ideal.ofBits .f32 0x42800000#32) := by
  rw [← sum_weight]
  refine (Fin.sum_univ_add (a := 64) (b := 64) (fun e => f e * b e)).trans ?_
  by_cases h : (d : ℕ) / 64 = 0
  · refine Eq.trans (congrArg₂ (· + ·) ?_ (Finset.sum_eq_zero fun e _ => ?_)) (add_zero _)
    · refine Finset.sum_congr rfl fun e _ => ?_
      rw [hb, if_pos (by simp only [Fin.val_castAdd]; omega)]
      exact congrArg (· * _) (congrArg f (Fin.ext (by simp only [Fin.val_castAdd]; omega)))
    · rw [hb, if_neg (by simp only [Fin.val_natAdd]; omega), mul_zero]
  · refine Eq.trans (congrArg₂ (· + ·) (Finset.sum_eq_zero fun e _ => ?_) ?_) (zero_add _)
    · rw [hb, if_neg (by simp only [Fin.val_castAdd]; omega), mul_zero]
    · refine Finset.sum_congr rfl fun e _ => ?_
      rw [hb, if_pos (by simp only [Fin.val_natAdd]; omega)]
      exact congrArg (· * _) (congrArg f (Fin.ext (by simp only [Fin.val_natAdd]; omega)))

/-- A real number less itself is nothing. -/
theorem sub_self_real {x : EReal} (h : IsReal x) : x - x = 0 := by
  obtain ⟨r, rfl⟩ := h
  rw [← EReal.coe_sub, sub_self, EReal.coe_zero]

/-- THE TWO SCALES AGREE on real lanes: nothing is lost by rounding, and the weights make the head's mean. -/
theorem pairScale_eq (v b : Fin 128 → EReal) (d : Fin 128) (hv : ∀ e, IsReal (v e))
    (hb : ∀ e : Fin 128, b e = if (e : ℕ) / 64 = (d : ℕ) / 64 then Ideal.ofBits .bf16 0x3C80#16 else 0) :
    pairScale v b = headScale fun e => v (⟨(d : ℕ) / 64 * 64 + e, by omega⟩ : Fin 128) := by
  unfold pairScale headScale
  rw [Finset.sum_eq_zero (fun e _ => by rw [sub_self_real ((hv e).mul (hv e)), zero_mul] :
    ∀ e ∈ Finset.univ, (v e * v e - v e * v e) * b e = 0), add_zero, sum_own (fun e => v e * v e) b d hb]

end Cert.HeadNorm

end
-- ==== Proof.GqkvBlock.lean ====
module

public import proofs.«01_k».proof.Proof.Gen.Kernel7Ideal.Value
public import proofs.«01_k».proof.Proof.Gen.Kernel7Ideal.Frame
public import proofs.«01_k».proof.Proof.HeadNorm
public import proofs.«01_k».proof.Proof.Rope
public import proofs.«01_k».proof.Proof.Tokens
public import Idealize.ShloMosaic.Lib.Pipeline.ValueKit
public import Idealize.ShloMosaic.Lib.Pointwise

@[expose] public section

set_option maxRecDepth 16384
noncomputable section
namespace Cert.Kernel7Ideal.Value
open Cert.Kernel7Ideal Cert.Kernel7Ideal.Gen Cert.Rope Cert.HeadNorm Idealize.ShloMosaic Idealize.ShloMosaic.TcCoe Idealize.SL.Sem
open Idealize.ShloMosaic.Pipeline (Dat)

/-- The product of the block, read at an entry: the modulated row times a column of the matrix. -/
theorem product_at (x : Vec Ideal S256x1024 .f32) (sc sh : Vec Ideal S1x1x1024 .f32) (w : Vec Ideal S1024x2560 .bf16)
    (i : Fin 256) (l : Fin 2560) :
    k0_pay5 (F := Ideal) x sc sh w (ix2 i l)
      = ∑ e : Fin 1024, (x (ix2 i e) * (Ideal.ofBits .f32 0x3F800000#32 + sc (ix3 0 0 e)) + sh (ix3 0 0 e)) * w (ix2 e l) := by
  pointwise [k0_pay5]

/-- The body's test of a lane's lowest bit is true on the even lanes. -/
theorem even_bit : ∀ d : Fin 128, IntOp.cmpi .eq (IntOp.andi (BitVec.ofNat 32 (d : ℕ)) 1#32) 0#32 = if (d : ℕ) % 2 = 0 then 1#1 else 0#1 := by
  decide +kernel

/-- A group of 128 lanes of the product turned by the tables' block. -/
def turned (v cs sn : FVec Ideal S256x128 .f32) : FVec Ideal S256x128 .f32 :=
  addf (mulf v cs) (mulf (select (cmpi .eq (andi (iota .tc S256x128 32 [1] iota_S256x128_d1_w32) (broadcast S256x128 1#32)) (broadcast S256x128 0#32))
    (dynamicRotate 1 127#32 none v rotates_S256x128_d1) (dynamicRotate 1 1#32 none v rotates_S256x128_d1)) sn)

/-- The turned group, read at an entry: the lane's own value by the first table and its mate's by the second. -/
theorem turned_at (v cs sn : FVec Ideal S256x128 .f32) (i : Fin 256) (d : Fin 128) :
    turned v cs sn (ix2 i d) = v (ix2 i d) * cs (ix2 i d) + v (ix2 i (mate (by decide) d)) * sn (ix2 i d) := by
  pointwise [turned]
  rw [even_bit d]
  congr 2
  by_cases h : (d : ℕ) % 2 = 0
  · simp only [h, if_true, Scalar.select]
    exact congrArg v (congrArg (ix2 i) (Fin.ext (by simp only [mate, mateNum, h, if_true]; omega)))
  · simp only [h, if_false, Scalar.select]
    exact congrArg v (congrArg (ix2 i) (Fin.ext (by simp only [mate, mateNum, h, if_false]; omega)))

/-- A group of 128 lanes fits in the product's rows. -/
theorem group_fits (k : Fin 20) : S256x2560.Slices ![0, 128 * (k : ℕ)] S256x128 := by
  revert k
  decide +kernel

/-- Group `k` of 128 lanes of the product. -/
def lanes (y : FVec Ideal S256x2560 .f32) (k : Fin 20) : FVec Ideal S256x128 .f32 :=
  extractStridedSlice S256x128 ![0, 128 * (k : ℕ)] y (group_fits k)

/-- A group's entry is the product's at that lane. -/
theorem lanes_at (y : FVec Ideal S256x2560 .f32) (k : Fin 20) (i : Fin 256) (d : Fin 128) (l : Fin 2560) (h : (l : ℕ) = 128 * k + d) :
    lanes y k (ix2 i d) = y (ix2 i l) := by
  pointwise [lanes]
  blk_ext

/-- A group divided by its heads' root mean squares and multiplied by the gains. -/
def normed (v : FVec Ideal S256x128 .f32) (bd : FVec Ideal S128x128 .bf16) (g : FVec Ideal S1x128 .f32) : FVec Ideal S256x128 .f32 :=
  mulf (mulf v (rsqrt (addf (addf
      (matmul dot_S256x128_S128x128_S256x128_1_0_0_1_n_n none (truncf .bf16 (mulf v v) bitsLt_bf16_f32) bd (constant S256x128 .f32 0x00000000#32))
      (matmul dot_S256x128_S128x128_S256x128_1_0_0_1_n_n none
        (truncf .bf16 (subf (mulf v v) (extf .f32 (truncf .bf16 (mulf v v) bitsLt_bf16_f32) bitsLt_bf16_f32)) bitsLt_bf16_f32) bd
        (constant S256x128 .f32 0x00000000#32)))
      (broadcast S256x128 (Scalar.ofBits .f32 0x358637BD#32))))) (broadcastTo S256x128 g broadcasts_S1x128_S256x128)

/-- The divided group, read at an entry. -/
theorem normed_at (v : FVec Ideal S256x128 .f32) (bd : FVec Ideal S128x128 .bf16) (g : FVec Ideal S1x128 .f32) (i : Fin 256) (d : Fin 128) :
    normed v bd g (ix2 i d) = v (ix2 i d) * pairScale (fun e => v (ix2 i e)) (fun e => bd (ix2 e d)) * g (ix2 0 d) := by
  pointwise [normed, pairScale]

/-- A lane of a row of the product divided by its head's root mean square, without the gain. -/
def pairLane (bd : Fin 128 → Fin 128 → EReal) (r : Fin 2560 → EReal) (l : Fin 2560) : EReal :=
  r l * pairScale (fun e => r (⟨l / 128 * 128 + e, by omega⟩ : Fin 2560)) (fun e => bd e (⟨l % 128, by omega⟩ : Fin 128))

/-- The rows of the block's product after the division, times the gains. -/
def normedBlock (bd : FVec Ideal S128x128 .bf16) (y : FVec Ideal S256x2560 .f32) (gain : Fin 2560 → EReal) (i : Fin 256) (l : Fin 2560) : EReal :=
  pairLane (fun e d => bd (ix2 e d)) (fun l' => y (ix2 i l')) l * gain l

/-- A divided group of the product, read at an entry. -/
theorem normed_lanes_at (y : FVec Ideal S256x2560 .f32) (bd : FVec Ideal S128x128 .bf16) (g : FVec Ideal S1x128 .f32)
    (gain : Fin 2560 → EReal) (k : Fin 20) (hg : ∀ (d : Fin 128) (l : Fin 2560), (l : ℕ) = 128 * k + d → g (ix2 0 d) = gain l)
    (i : Fin 256) (d : Fin 128) (l : Fin 2560) (h : (l : ℕ) = 128 * k + d) :
    normed (lanes y k) bd g (ix2 i d) = normedBlock bd y gain i l := by
  have hd : (⟨(l : ℕ) % 128, by omega⟩ : Fin 128) = d := Fin.ext (by simp only; omega)
  unfold normedBlock pairLane
  rw [normed_at, hg d l h, lanes_at y k i d l h, hd]
  refine congrArg (fun v => y (ix2 i l) * pairScale v _ * gain l) (funext fun e => ?_)
  exact lanes_at y k i e _ (by simp only; omega)

/-- A divided group turned by the tables' block, read at an entry. -/
theorem turned_lanes_at (y : FVec Ideal S256x2560 .f32) (bd : FVec Ideal S128x128 .bf16) (g : FVec Ideal S1x128 .f32)
    (cs sn : FVec Ideal S256x128 .f32) (gain : Fin 2560 → EReal) (k : Fin 20)
    (hg : ∀ (d : Fin 128) (l : Fin 2560), (l : ℕ) = 128 * k + d → g (ix2 0 d) = gain l)
    (i : Fin 256) (d : Fin 128) (l : Fin 2560) (h : (l : ℕ) = 128 * k + d) :
    turned (normed (lanes y k) bd g) cs sn (ix2 i d)
      = normedBlock bd y gain i l * cs (ix2 i d) + normedBlock bd y gain i (mate (by decide) l) * sn (ix2 i d) := by
  rw [turned_at, normed_lanes_at y bd g gain k hg i d l h, normed_lanes_at y bd g gain k hg i (mate (by decide) d) (mate (by decide) l)]
  simp only [mate, mateNum]
  split <;> split <;> omega

/-- A group divided, turned and scaled: what a group of queries stores. -/
def query (y : FVec Ideal S256x2560 .f32) (bd : FVec Ideal S128x128 .bf16) (g : FVec Ideal S1x128 .f32) (cs sn : FVec Ideal S256x128 .f32)
    (k : Fin 20) : FVec Ideal S256x128 .bf16 :=
  truncf .bf16 (mulf (turned (normed (lanes y k) bd g) cs sn) (broadcast S256x128 (Scalar.ofBits .f32 0x3E000000#32))) bitsLt_bf16_f32

/-- A group divided and turned: what a group of keys stores. -/
def key (y : FVec Ideal S256x2560 .f32) (bd : FVec Ideal S128x128 .bf16) (g : FVec Ideal S1x128 .f32) (cs sn : FVec Ideal S256x128 .f32)
    (k : Fin 20) : FVec Ideal S256x128 .bf16 :=
  truncf .bf16 (turned (normed (lanes y k) bd g) cs sn) bitsLt_bf16_f32

/-- The queries' block of the output as one function of the divided rows and the tables' blocks. -/
def queryBlock (z : Fin 256 → Fin 2560 → EReal) (cs sn : FVec Ideal S256x128 .f32) (i : Fin 256) (l : Fin 2048) : EReal :=
  (z i (⟨l, by omega⟩ : Fin 2560) * cs (ix2 i (⟨l % 128, by omega⟩ : Fin 128))
    + z i (mate (by decide) (⟨l, by omega⟩ : Fin 2560)) * sn (ix2 i (⟨l % 128, by omega⟩ : Fin 128))) * Ideal.ofBits .f32 0x3E000000#32

/-- The keys' block of the output, turned, as one function of the divided rows and the tables' blocks. -/
def keyBlock (z : Fin 256 → Fin 2560 → EReal) (cs sn : FVec Ideal S256x128 .f32) (i : Fin 256) (l : Fin 256) : EReal :=
  z i (⟨2048 + l, by omega⟩ : Fin 2560) * cs (ix2 i (⟨l % 128, by omega⟩ : Fin 128))
    + z i (mate (by decide) (⟨2048 + l, by omega⟩ : Fin 2560)) * sn (ix2 i (⟨l % 128, by omega⟩ : Fin 128))

/-- A group of queries stores `queryBlock` in its lanes. -/
theorem query_tile (y : FVec Ideal S256x2560 .f32) (bd : FVec Ideal S128x128 .bf16) (g : FVec Ideal S1x128 .f32)
    (cs sn : FVec Ideal S256x128 .f32) (gain : Fin 2560 → EReal) (k : Fin 20)
    (hg : ∀ (d : Fin 128) (l : Fin 2560), (l : ℕ) = 128 * k + d → g (ix2 0 d) = gain l) (i : Fin 256) (d : Fin 128)
    (j : S256x2048.Idx) (h0 : (j 0 : ℕ) = i) (h1 : (j 1 : ℕ) = 128 * k + d) :
    query y bd g cs sn k (ix2 i d) = queryBlock (normedBlock bd y gain) cs sn (j 0) (j 1) := by
  have e0 : (j 0 : Fin 256) = i := Fin.ext h0
  have e2 : (⟨(j 1 : ℕ) % 128, by omega⟩ : Fin 128) = d := Fin.ext (by simp only; omega)
  unfold queryBlock
  rw [e0, e2]
  refine congrArg (· * _) (turned_lanes_at y bd g cs sn gain k hg i d _ ?_)
  exact h1

/-- A group of keys stores `keyBlock` in its lanes. -/
theorem key_tile (y : FVec Ideal S256x2560 .f32) (bd : FVec Ideal S128x128 .bf16) (g : FVec Ideal S1x128 .f32)
    (cs sn : FVec Ideal S256x128 .f32) (gain : Fin 2560 → EReal) (k : Fin 20)
    (hg : ∀ (d : Fin 128) (l : Fin 2560), (l : ℕ) = 128 * k + d → g (ix2 0 d) = gain l) (i : Fin 256) (d : Fin 128)
    (j : S256x256.Idx) (h0 : (j 0 : ℕ) = i) (h1 : 2048 + (j 1 : ℕ) = 128 * k + d) :
    key y bd g cs sn k (ix2 i d) = keyBlock (normedBlock bd y gain) cs sn (j 0) (j 1) := by
  have e0 : (j 0 : Fin 256) = i := Fin.ext h0
  have e2 : (⟨(j 1 : ℕ) % 128, by omega⟩ : Fin 128) = d := Fin.ext (by simp only; omega)
  unfold keyBlock
  rw [e0, e2]
  exact turned_lanes_at y bd g cs sn gain k hg i d _ h1

/-- 256 lanes of a block's rows from `b` on. -/
def laneBlock (b : ℕ) (hb : b ≤ 2304) (z : Fin 256 → Fin 2560 → EReal) (i : Fin 256) (l : Fin 256) : EReal :=
  z i (⟨b + l, by omega⟩ : Fin 2560)

/-- A group of keys stored before it is turned holds the divided rows' lanes. -/
theorem plain_key_tile (y : FVec Ideal S256x2560 .f32) (bd : FVec Ideal S128x128 .bf16) (g : FVec Ideal S1x128 .f32)
    (gain : Fin 2560 → EReal) (k : Fin 20)
    (hg : ∀ (d : Fin 128) (l : Fin 2560), (l : ℕ) = 128 * k + d → g (ix2 0 d) = gain l) (i : Fin 256) (d : Fin 128)
    (j : S256x256.Idx) (h0 : (j 0 : ℕ) = i) (h1 : 2048 + (j 1 : ℕ) = 128 * k + d) :
    normed (lanes y k) bd g (ix2 i d) = laneBlock 2048 (by omega) (normedBlock bd y gain) (j 0) (j 1) := by
  have e0 : (j 0 : Fin 256) = i := Fin.ext h0
  unfold laneBlock
  rw [e0]
  exact normed_lanes_at y bd g gain k hg i d _ h1

/-- A group of values stored as it is holds the product's lanes. -/
theorem value_tile (y : FVec Ideal S256x2560 .f32) (k : Fin 20) (i : Fin 256) (d : Fin 128) (j : S256x256.Idx)
    (h0 : (j 0 : ℕ) = i) (h1 : 2304 + (j 1 : ℕ) = 128 * k + d) :
    lanes y k (ix2 i d) = laneBlock 2304 (by omega) (fun i l => y (ix2 i l)) (j 0) (j 1) := by
  have e0 : (j 0 : Fin 256) = i := Fin.ext h0
  unfold laneBlock
  rw [e0]
  exact lanes_at y k i d _ h1

/-- The gains of the lanes: the queries' on the first 2048, the keys' on the next 256. -/
def gains (gq : Fin 2048 → EReal) (gk : Fin 256 → EReal) (l : Fin 2560) : EReal :=
  if h : (l : ℕ) < 2048 then gq ⟨l, h⟩ else if h' : (l : ℕ) < 2304 then gk ⟨l - 2048, by omega⟩ else 1

/-- The gain of a query's lane. -/
theorem gains_query (gq : Fin 2048 → EReal) (gk : Fin 256 → EReal) (l : Fin 2560) (l' : Fin 2048) (h : (l : ℕ) = l') :
    gains gq gk l = gq l' := by
  unfold gains
  rw [dif_pos (by omega)]
  exact congrArg gq (Fin.ext h)

/-- The gain of a key's lane. -/
theorem gains_key (gq : Fin 2048 → EReal) (gk : Fin 256 → EReal) (l : Fin 2560) (l' : Fin 256) (h : (l : ℕ) = 2048 + l') :
    gains gq gk l = gk l' := by
  unfold gains
  rw [dif_neg (by omega), dif_pos (by omega)]
  exact congrArg gk (Fin.ext (by simp only; omega))

/-- An entry of an array that is another one is that one's. -/
theorem entry_of_eq {f g : S256x128.Idx → EReal} {x : S256x128.Idx} {z : EReal} (h : f = g) (hz : g (ix2 (x 0) (x 1)) = z) : f x = z :=
  (congrFun h x).trans ((congrArg g (eq_ix2 x)).trans hz)
end Cert.Kernel7Ideal.Value
end
-- ==== Proof.GqkvTiles.lean ====
module

public import proofs.«01_k».proof.Proof.GqkvBlock

@[expose] public section

set_option maxRecDepth 16384
noncomputable section
namespace Cert.Kernel7Ideal.Value
open Cert.Kernel7Ideal Cert.Kernel7Ideal.Gen Cert.Rope Idealize.ShloMosaic Idealize.ShloMosaic.TcCoe Idealize.SL.Sem
open Idealize.ShloMosaic.Pipeline (Dat)

variable (g : grid0.Coords) (x0 : Vec Ideal S256x1024 .f32) (x1 : Vec Ideal S1x6x1024 .f32) (x2 : Vec Ideal S1024x2560 .bf16)
  (x3 : Vec Ideal S128x128 .bf16) (x4 : Vec Ideal S1x2048 .f32) (x5 : Vec Ideal S1x256 .f32) (x6 x7 : Vec Ideal S256x128 .f32)

/-- The divided rows of the block: the product's rows, the weights' block and the gains' blocks. -/
def rowsBlock : Fin 256 → Fin 2560 → EReal :=
  normedBlock (View.ld x3 r0_5) (k0_pay59 g x0 x1 x2 x3 x4 x5 x6 x7) (gains (fun l => x4 (ix2 0 l)) (fun l => x5 (ix2 0 l)))

set_option maxHeartbeats 4000000 in
/-- The sixteen stores of the queries make their block. -/
theorem out0_8_eq (y : S256x2048.Idx) :
    out0_8 g x0 x1 x2 x3 x4 x5 x6 x7 y = queryBlock (rowsBlock g x0 x1 x2 x3 x4 x5 x6 x7) (k0_pay60 g x0 x1 x2 x3 x4 x5 x6 x7)
      (k0_pay61 g x0 x1 x2 x3 x4 x5 x6 x7) (y 0) (y 1) := by
  unfold out0_8
  canon_tiles x h
  case' piece0 => refine entry_of_eq (g := query _ _ _ _ _ 15) (by rfl) (query_tile _ _ _ _ _ _ 15 (fun d l h => ?_) (x 0) (x 1) y ?_ ?_)
  case' piece1 => refine entry_of_eq (g := query _ _ _ _ _ 14) (by rfl) (query_tile _ _ _ _ _ _ 14 (fun d l h => ?_) (x 0) (x 1) y ?_ ?_)
  case' piece2 => refine entry_of_eq (g := query _ _ _ _ _ 13) (by rfl) (query_tile _ _ _ _ _ _ 13 (fun d l h => ?_) (x 0) (x 1) y ?_ ?_)
  case' piece3 => refine entry_of_eq (g := query _ _ _ _ _ 12) (by rfl) (query_tile _ _ _ _ _ _ 12 (fun d l h => ?_) (x 0) (x 1) y ?_ ?_)
  case' piece4 => refine entry_of_eq (g := query _ _ _ _ _ 11) (by rfl) (query_tile _ _ _ _ _ _ 11 (fun d l h => ?_) (x 0) (x 1) y ?_ ?_)
  case' piece5 => refine entry_of_eq (g := query _ _ _ _ _ 10) (by rfl) (query_tile _ _ _ _ _ _ 10 (fun d l h => ?_) (x 0) (x 1) y ?_ ?_)
  case' piece6 => refine entry_of_eq (g := query _ _ _ _ _ 9) (by rfl) (query_tile _ _ _ _ _ _ 9 (fun d l h => ?_) (x 0) (x 1) y ?_ ?_)
  case' piece7 => refine entry_of_eq (g := query _ _ _ _ _ 8) (by rfl) (query_tile _ _ _ _ _ _ 8 (fun d l h => ?_) (x 0) (x 1) y ?_ ?_)
  case' piece8 => refine entry_of_eq (g := query _ _ _ _ _ 7) (by rfl) (query_tile _ _ _ _ _ _ 7 (fun d l h => ?_) (x 0) (x 1) y ?_ ?_)
  case' piece9 => refine entry_of_eq (g := query _ _ _ _ _ 6) (by rfl) (query_tile _ _ _ _ _ _ 6 (fun d l h => ?_) (x 0) (x 1) y ?_ ?_)
  case' piece10 => refine entry_of_eq (g := query _ _ _ _ _ 5) (by rfl) (query_tile _ _ _ _ _ _ 5 (fun d l h => ?_) (x 0) (x 1) y ?_ ?_)
  case' piece11 => refine entry_of_eq (g := query _ _ _ _ _ 4) (by rfl) (query_tile _ _ _ _ _ _ 4 (fun d l h => ?_) (x 0) (x 1) y ?_ ?_)
  case' piece12 => refine entry_of_eq (g := query _ _ _ _ _ 3) (by rfl) (query_tile _ _ _ _ _ _ 3 (fun d l h => ?_) (x 0) (x 1) y ?_ ?_)
  case' piece13 => refine entry_of_eq (g := query _ _ _ _ _ 2) (by rfl) (query_tile _ _ _ _ _ _ 2 (fun d l h => ?_) (x 0) (x 1) y ?_ ?_)
  case' piece14 => refine entry_of_eq (g := query _ _ _ _ _ 1) (by rfl) (query_tile _ _ _ _ _ _ 1 (fun d l h => ?_) (x 0) (x 1) y ?_ ?_)
  case' piece15 => refine entry_of_eq (g := query _ _ _ _ _ 0) (by rfl) (query_tile _ _ _ _ _ _ 0 (fun d l h => ?_) (x 0) (x 1) y ?_ ?_)
  all_goals first
    | omega
    | refine Eq.trans ?_ (gains_query _ _ l (⟨l, by omega⟩ : Fin 2048) rfl).symm
      pointwise
      blk_ext

set_option maxHeartbeats 4000000 in
/-- The two stores of the turned keys make their block. -/
theorem out0_9_eq (y : S256x256.Idx) :
    out0_9 g x0 x1 x2 x3 x4 x5 x6 x7 y = keyBlock (rowsBlock g x0 x1 x2 x3 x4 x5 x6 x7) (k0_pay60 g x0 x1 x2 x3 x4 x5 x6 x7)
      (k0_pay61 g x0 x1 x2 x3 x4 x5 x6 x7) (y 0) (y 1) := by
  unfold out0_9
  canon_tiles x h
  case' piece0 => refine entry_of_eq (g := key _ _ _ _ _ 17) (by rfl) (key_tile _ _ _ _ _ _ 17 (fun d l h => ?_) (x 0) (x 1) y ?_ ?_)
  case' piece1 => refine entry_of_eq (g := key _ _ _ _ _ 16) (by rfl) (key_tile _ _ _ _ _ _ 16 (fun d l h => ?_) (x 0) (x 1) y ?_ ?_)
  all_goals first
    | omega
    | refine Eq.trans ?_ (gains_key _ _ l (⟨l - 2048, by omega⟩ : Fin 256) (by simp only; omega)).symm
      pointwise
      blk_ext

set_option maxHeartbeats 4000000 in
/-- The two stores of the values in bfloat16 make their block: lanes of the product. -/
theorem out0_10_eq (y : S256x256.Idx) :
    out0_10 g x0 x1 x2 x3 x4 x5 x6 x7 y
      = laneBlock 2304 (by omega) (fun i l => k0_pay59 g x0 x1 x2 x3 x4 x5 x6 x7 (ix2 i l)) (y 0) (y 1) := by
  unfold out0_10
  canon_tiles x h
  case' piece0 => refine entry_of_eq (g := lanes (k0_pay59 g x0 x1 x2 x3 x4 x5 x6 x7) 19) (by rfl) (value_tile _ 19 (x 0) (x 1) y ?_ ?_)
  case' piece1 => refine entry_of_eq (g := lanes (k0_pay59 g x0 x1 x2 x3 x4 x5 x6 x7) 18) (by rfl) (value_tile _ 18 (x 0) (x 1) y ?_ ?_)
  all_goals omega

set_option maxHeartbeats 4000000 in
/-- The two stores of the values make their block: lanes of the product. -/
theorem out0_12_eq (y : S256x256.Idx) :
    out0_12 g x0 x1 x2 x3 x4 x5 x6 x7 y
      = laneBlock 2304 (by omega) (fun i l => k0_pay59 g x0 x1 x2 x3 x4 x5 x6 x7 (ix2 i l)) (y 0) (y 1) := by
  unfold out0_12
  canon_tiles x h
  case' piece0 => refine entry_of_eq (g := lanes (k0_pay59 g x0 x1 x2 x3 x4 x5 x6 x7) 19) (by rfl) (value_tile _ 19 (x 0) (x 1) y ?_ ?_)
  case' piece1 => refine entry_of_eq (g := lanes (k0_pay59 g x0 x1 x2 x3 x4 x5 x6 x7) 18) (by rfl) (value_tile _ 18 (x 0) (x 1) y ?_ ?_)
  all_goals omega

set_option maxHeartbeats 4000000 in
/-- The two stores of the keys before they are turned make their block: lanes of the divided rows. -/
theorem out0_11_eq (y : S256x256.Idx) :
    out0_11 g x0 x1 x2 x3 x4 x5 x6 x7 y = laneBlock 2048 (by omega) (rowsBlock g x0 x1 x2 x3 x4 x5 x6 x7) (y 0) (y 1) := by
  unfold out0_11
  canon_tiles x h
  case' piece0 => refine entry_of_eq (g := normed (lanes _ 17) _ _) (by rfl) (plain_key_tile _ _ _ _ 17 (fun d l h => ?_) (x 0) (x 1) y ?_ ?_)
  case' piece1 => refine entry_of_eq (g := normed (lanes _ 16) _ _) (by rfl) (plain_key_tile _ _ _ _ 16 (fun d l h => ?_) (x 0) (x 1) y ?_ ?_)
  all_goals first
    | omega
    | refine Eq.trans ?_ (gains_key _ _ l (⟨l - 2048, by omega⟩ : Fin 256) (by simp only; omega)).symm
      pointwise
      blk_ext
end Cert.Kernel7Ideal.Value
end
-- ==== Proof.GqkvTables.lean ====
module

public import proofs.«01_k».proof.Proof.GqkvTiles
public import proofs.«01_k».proof.Proof.DqkvTables

@[expose] public section

set_option maxRecDepth 16384
noncomputable section
namespace Cert.Kernel7Ideal.Value
open Cert.Kernel7Ideal Cert.Kernel7Ideal.Gen Cert.Rope Idealize.ShloMosaic Idealize.ShloMosaic.TcCoe Idealize.SL.Sem
open Idealize.ShloMosaic.Pipeline (Dat)
open Cert.Kernel6Ideal.Value (angle paired signs repeated repeated_at paired_at signs_at)
variable (m : (ℓ : Loc nD τ sig) → Buf (Elt Ideal) ℓ)

/-- The table of cosines as the region finds it: the differential layers' own. -/
theorem V_main_v37 (c : Dev nD) : V m c main_v37 = repeated (paired (Host.cos angle)) := by
  entry_read
  rfl

/-- The table of signed sines as the region finds it: the differential layers' own. -/
theorem V_main_v43 (c : Dev nD) : V m c main_v43 = repeated (mulf (paired (Host.sin angle))
    (broadcastInDim S2048x64 ![0, 1] bcast_S1x64_S2048x64_0_1 (broadcastInDim S1x64 ![1] bcast_S64_S1x64_1 signs))) := by
  entry_read
  rfl

/-- The cosines, read at an entry. -/
theorem cosines_at (c : Dev nD) (s : Fin 2048) (d : Fin 128) :
    V m c main_v37 (ix2 s d) = Host.cos angle (ix2 s (freq d)) := by
  rw [V_main_v37, repeated_at, paired_at]
  rfl

/-- The signed sines, read at an entry. -/
theorem sines_at (c : Dev nD) (s : Fin 2048) (d : Fin 128) :
    V m c main_v43 (ix2 s d) = Host.sin angle (ix2 s (freq d)) * (if (d : ℕ) % 2 = 0 then -1 else 1) := by
  rw [V_main_v43, repeated_at]
  pointwise [paired_at, signs_at]
  rw [Nat.mod_mod_of_dvd _ (by decide : 2 ∣ 64)]
  rfl
end Cert.Kernel7Ideal.Value
end
-- ==== Proof.GqkvWeights.lean ====
module

public import proofs.«01_k».proof.Kernel7Ideal

@[expose] public section

set_option maxRecDepth 16384
noncomputable section
namespace Cert.Kernel7Ideal.Value
open Cert.Kernel7Ideal

/-- The constant's entry at a row and a column: a weight on the column's own head and nothing on the other. -/
theorem weight_entry : ∀ e d : Fin 128, lit1t ((e : ℕ) * 128 + d) = if (e : ℕ) / 64 = (d : ℕ) / 64 then 0x3C80#16 else 0x0000#16 := by
  decide +kernel
end Cert.Kernel7Ideal.Value
end
-- ==== Proof.GqkvArray.lean ====
module

public import proofs.«01_k».proof.Proof.GqkvTables
public import proofs.«01_k».proof.Proof.GqkvWeights

@[expose] public section

set_option maxRecDepth 16384
noncomputable section
namespace Cert.Kernel7Ideal.Value
open Cert.Kernel7Ideal Cert.Kernel7Ideal.Gen Cert.Rope Cert.Tokens Cert.HeadNorm Cert.Softmax Idealize.ShloMosaic Idealize.ShloMosaic.TcCoe Idealize.SL.Sem
open Idealize.ShloMosaic.Pipeline (Dat)
open Cert.Kernel6Ideal.Value (angle)
variable (m : (ℓ : Loc nD τ sig) → Buf (Elt Ideal) ℓ)

/-- Where each window that is read or written stands at a grid point. -/
theorem idx : ∀ t : Fin cfg0.N, win0_0.index t = ![t.val, 0]
    ∧ win0_1.index t = ![if t.val < 16 then 0 else 1 + (t.val - 16) / 8, 0, 0] ∧ win0_2.index t = ![0, 0]
    ∧ win0_3.index t = ![0, 0] ∧ win0_4.index t = ![0, 0] ∧ win0_5.index t = ![0, 0]
    ∧ win0_6.index t = ![if t.val < 16 then 0 else (t.val - 16) % 8, 0] ∧ win0_7.index t = ![if t.val < 16 then 0 else (t.val - 16) % 8, 0]
    ∧ win0_8.index t = ![t.val, 0] ∧ win0_9.index t = ![t.val, 0] ∧ win0_10.index t = ![t.val, 0] ∧ win0_11.index t = ![t.val, 0]
    ∧ win0_12.index t = ![t.val, 0] :=
  (by decide +kernel : ∀ t : Fin grid0.N, _)

/-- The body's test of a grid point is true from the first sample block on. -/
theorem sample_bit : ∀ t : Fin grid0.N,
    Scalar.cmpi .sge (BitVec.ofNat 32 ((grid0.coords t 0 : Fin _) : ℕ)) 16#32 = if t.val < 16 then 0#1 else 1#1 := by
  decide +kernel

/-- The modulated input times the matrix, entry by entry: row `i` of the input, scaled and shifted by its sequence's row of the
    modulations, times column `l`. -/
def product (x : Vec Ideal S20480x1024 .f32) (mods : Vec Ideal S16x6x1024 .f32) (w : Vec Ideal S1024x2560 .bf16)
    (i : Fin 20480) (l : Fin 2560) : EReal :=
  ∑ e : Fin 1024, (x (ix2 i e) * (1 + mods (ix3 (group i) 1 e)) + mods (ix3 (group i) 0 e)) * w (ix2 e l)

/-- With a real input, real modulations and a real matrix the product is real. -/
theorem product_real {x : Vec Ideal S20480x1024 .f32} {mods : Vec Ideal S16x6x1024 .f32} {w : Vec Ideal S1024x2560 .bf16}
    (hx : ∀ j, IsReal (x j)) (hm : ∀ j, IsReal (mods j)) (hw : ∀ j, IsReal (w j)) (i : Fin 20480) (l : Fin 2560) :
    IsReal (product x mods w i l) :=
  IsReal.sum _ fun e => (((hx _).mul (IsReal.add ⟨1, by simp⟩ (hm _))).add (hm _)).mul (hw _)

/-- A lane of a row divided by its head's root mean square, times its gain. -/
def scaled (gq : Fin 2048 → EReal) (gk : Fin 256 → EReal) (y : Fin 20480 → Fin 2560 → EReal) (i : Fin 20480) (l : Fin 2560) : EReal :=
  y i l * headScale (fun e => y i (⟨l / 64 * 64 + e, by omega⟩ : Fin 2560)) * gains gq gk l

/-- A lane of a row, turned: the prompt's rows stay, the others turn by their token's angles. -/
def rotated (z : Fin 20480 → Fin 2560 → EReal) (i : Fin 20480) (l : Fin 2560) : EReal :=
  if (i : ℕ) < 4096 then z i l
  else turn l (z i l) (z i (mate (by decide) l)) (Host.cos angle (ix2 (place i) (freq l))) (Host.sin angle (ix2 (place i) (freq l)))

/-- Lane `l` of the queries, scaled. -/
def queryAt (z : Fin 20480 → Fin 2560 → EReal) (i : Fin 20480) (l : Fin 2048) : EReal :=
  rotated z i (⟨l, by omega⟩ : Fin 2560) * Ideal.ofBits .f32 0x3E000000#32

/-- Lane `l` of the keys, turned. -/
def keyAt (z : Fin 20480 → Fin 2560 → EReal) (i : Fin 20480) (l : Fin 256) : EReal :=
  rotated z i (⟨2048 + l, by omega⟩ : Fin 2560)

/-- Lane `b + l` of the rows. -/
def laneAt (b : ℕ) (hb : b ≤ 2304) (z : Fin 20480 → Fin 2560 → EReal) (i : Fin 20480) (l : Fin 256) : EReal :=
  z i (⟨b + l, by omega⟩ : Fin 2560)

/-- On a real row, with a head's own weights, the division over two heads side by side is the division head by head. -/
theorem pairLane_eq (bd : Fin 128 → Fin 128 → EReal)
    (hb : ∀ e d, bd e d = if (e : ℕ) / 64 = (d : ℕ) / 64 then Ideal.ofBits .bf16 0x3C80#16 else 0)
    (r : Fin 2560 → EReal) (hr : ∀ l, IsReal (r l)) (l : Fin 2560) :
    pairLane bd r l = r l * headScale (fun e => r (⟨l / 64 * 64 + e, by omega⟩ : Fin 2560)) := by
  unfold pairLane
  rw [pairScale_eq _ _ (⟨l % 128, by omega⟩ : Fin 128) (fun e => hr _) (fun e => hb e _)]
  refine congrArg (fun v => r l * headScale v) (funext fun e => congrArg r (Fin.ext ?_))
  simp only
  omega

/-- The weights' block at every grid point. -/
theorem weights_block (c : Dev nD) (t : Fin cfg0.N) (e d : Fin 128) :
    (View.ld (iblk m c 3 t) r0_5 : Vec Ideal S128x128 .bf16) (ix2 e d)
      = if (e : ℕ) / 64 = (d : ℕ) / 64 then Ideal.ofBits .bf16 0x3C80#16 else 0 := by
  have hv : V m c main_cst_0 = fun i : S128x128.Idx => Ideal.ofBits .bf16 (lit1 (S128x128.rowMajor i)) := by
    entry_read
    rfl
  have hb : (View.ld (iblk m c 3 t) r0_5 : Vec Ideal S128x128 .bf16) (ix2 e d) = V m c main_cst_0 (ix2 e d) := by
    pointwise
    blk_ext [iblk, idx t]
  have hn : ((S128x128.rowMajor (ix2 e d) : Fin _) : ℕ) = (e : ℕ) * 128 + d := by
    exact Shape.rowMajor_val_two (ix2 e d)
  rw [hb, hv]
  show Ideal.ofBits .bf16 (lit1t ((S128x128.rowMajor (ix2 e d) : Fin _) : ℕ)) = _
  rw [hn, weight_entry]
  split
  · rfl
  · simp [Ideal.ofBits, Ideal.ieee]

set_option maxHeartbeats 2000000 in
/-- A block's product is the array's at the place the block has. -/
theorem product_block (c : Dev nD) (t : Fin cfg0.N) (i : Fin 256) (l : Fin 2560) (r : Fin 20480) (h0 : (r : ℕ) = t.val * 256 + i) :
    k0_pay59 (grid0.coords t) (iblk m c 0 t) (iblk m c 1 t) (iblk m c 2 t) (iblk m c 3 t) (iblk m c 4 t) (iblk m c 5 t)
        (iblk m c 6 t) (iblk m c 7 t) (ix2 i l)
      = product (m ((c : Thread nD τ).loc main_arg0)) (m ((c : Thread nD τ).loc main_arg1)) (m ((c : Thread nD τ).loc main_arg2)) r l := by
  have ht : t.val < 80 := lt_of_lt_of_eq t.isLt N_0
  refine (product_at _ _ _ _ i l).trans (Finset.sum_congr rfl fun e _ => ?_)
  rw [Ideal.ofBits_one_f32]
  refine congrArg₂ (· * ·) (congrArg₂ (· + ·) (congrArg₂ (· * ·) ?_ (congrArg₂ (· + ·) rfl ?_)) ?_) ?_
  all_goals (pointwise; blk_ext [iblk, V, idx t, group, groupNum] <;> (split_ifs <;> omega))

/-- The row of the tables that row `i` of a block reads. -/
def tableRow (t : Fin cfg0.N) (i : Fin 256) : Fin 2048 := ⟨(if t.val < 16 then 0 else (t.val - 16) % 8) * 256 + i, by split <;> omega⟩

/-- The cosines a block turns by: one in the prompt's blocks. -/
theorem cosine_block (c : Dev nD) (t : Fin cfg0.N) (i : Fin 256) (d : Fin 128) (r : Fin 20480) (h0 : (r : ℕ) = t.val * 256 + i) :
    k0_pay60 (grid0.coords t) (iblk m c 0 t) (iblk m c 1 t) (iblk m c 2 t) (iblk m c 3 t) (iblk m c 4 t) (iblk m c 5 t)
        (iblk m c 6 t) (iblk m c 7 t) (ix2 i d)
      = if (r : ℕ) < 4096 then 1 else Host.cos angle (ix2 (place r) (freq d)) := by
  have ht : t.val < 80 := lt_of_lt_of_eq t.isLt N_0
  have hb : iblk m c 6 t (ix2 i d) = V m c main_v37 (ix2 (tableRow t i) d) := by
    blk_ext [iblk, idx t, tableRow]
  have hs := sample_bit t
  pointwise [k0_pay60, k0_pay6]
  rw [hs, hb, cosines_at]
  by_cases h : t.val < 16
  · rw [if_pos h, if_pos (show (r : ℕ) < 4096 by omega)]
    rfl
  · rw [if_neg h, if_neg (show ¬ (r : ℕ) < 4096 by omega)]
    have hp : tableRow t i = place r := Fin.ext (by simp only [tableRow, place, if_neg h]; omega)
    rw [hp]
    rfl

/-- The signed sines a block turns by: zero in the prompt's blocks. -/
theorem sine_block (c : Dev nD) (t : Fin cfg0.N) (i : Fin 256) (d : Fin 128) (r : Fin 20480) (h0 : (r : ℕ) = t.val * 256 + i) :
    k0_pay61 (grid0.coords t) (iblk m c 0 t) (iblk m c 1 t) (iblk m c 2 t) (iblk m c 3 t) (iblk m c 4 t) (iblk m c 5 t)
        (iblk m c 6 t) (iblk m c 7 t) (ix2 i d)
      = if (r : ℕ) < 4096 then 0 else Host.sin angle (ix2 (place r) (freq d)) * (if (d : ℕ) % 2 = 0 then -1 else 1) := by
  have ht : t.val < 80 := lt_of_lt_of_eq t.isLt N_0
  have hb : iblk m c 7 t (ix2 i d) = V m c main_v43 (ix2 (tableRow t i) d) := by
    blk_ext [iblk, idx t, tableRow]
  have hs := sample_bit t
  pointwise [k0_pay61, k0_pay7]
  rw [hs, hb, sines_at]
  by_cases h : t.val < 16
  · rw [if_pos h, if_pos (show (r : ℕ) < 4096 by omega)]
    rfl
  · rw [if_neg h, if_neg (show ¬ (r : ℕ) < 4096 by omega)]
    have hp : tableRow t i = place r := Fin.ext (by simp only [tableRow, place, if_neg h]; omega)
    rw [hp]
    rfl

/-- The divided rows of the array: the memory's product, divided and multiplied by the memory's gains. -/
def rowsAt (c : Dev nD) : Fin 20480 → Fin 2560 → EReal :=
  scaled (fun l => m ((c : Thread nD τ).loc main_arg3) (ix2 (0 : Fin 1) l)) (fun l => m ((c : Thread nD τ).loc main_arg4) (ix2 (0 : Fin 1) l))
    (product (m ((c : Thread nD τ).loc main_arg0)) (m ((c : Thread nD τ).loc main_arg1)) (m ((c : Thread nD τ).loc main_arg2)))

/-- The product in memory holds no infinity. -/
def Finite (c : Dev nD) : Prop := ∀ i l, IsReal ((product (m ((c : Thread nD τ).loc main_arg0)) (m ((c : Thread nD τ).loc main_arg1)) (m ((c : Thread nD τ).loc main_arg2))) i l)

/-- The block's divided rows are the array's at the place the block has. -/
theorem rows_block (c : Dev nD) (hr : Finite m c) (t : Fin cfg0.N) (i : Fin 256) (l : Fin 2560) (r : Fin 20480) (h0 : (r : ℕ) = t.val * 256 + i) :
    rowsBlock (grid0.coords t) (iblk m c 0 t) (iblk m c 1 t) (iblk m c 2 t) (iblk m c 3 t) (iblk m c 4 t) (iblk m c 5 t)
        (iblk m c 6 t) (iblk m c 7 t) i l = rowsAt m c r l := by
  have hq : (fun l : Fin 2048 => iblk m c 4 t (ix2 (0 : Fin 1) l)) = fun l => m ((c : Thread nD τ).loc main_arg3) (ix2 (0 : Fin 1) l) := by
    funext l
    blk_ext [iblk, V, idx t]
  have hk : (fun l : Fin 256 => iblk m c 5 t (ix2 (0 : Fin 1) l)) = fun l => m ((c : Thread nD τ).loc main_arg4) (ix2 (0 : Fin 1) l) := by
    funext l
    blk_ext [iblk, V, idx t]
  have hp : (fun l' : Fin 2560 => k0_pay59 (grid0.coords t) (iblk m c 0 t) (iblk m c 1 t) (iblk m c 2 t) (iblk m c 3 t) (iblk m c 4 t) (iblk m c 5 t)
        (iblk m c 6 t) (iblk m c 7 t) (ix2 i l')) = (product (m ((c : Thread nD τ).loc main_arg0)) (m ((c : Thread nD τ).loc main_arg1)) (m ((c : Thread nD τ).loc main_arg2))) r :=
    funext fun l' => product_block m c t i l' r h0
  unfold rowsBlock normedBlock rowsAt scaled
  rw [hp, pairLane_eq _ (weights_block m c t) _ (hr r) l]
  exact congrArg _ (congrArg₂ (fun a b => gains a b l) hq hk)

/-- The block's turn of a lane is the array's at the place the block has. -/
theorem rotated_block (c : Dev nD) (hr : Finite m c) (t : Fin cfg0.N) (i : Fin 256) (l : Fin 2560) (d : Fin 128) (hd : (d : ℕ) = l % 128) (r : Fin 20480)
    (h0 : (r : ℕ) = t.val * 256 + i) :
    rowsBlock (grid0.coords t) (iblk m c 0 t) (iblk m c 1 t) (iblk m c 2 t) (iblk m c 3 t) (iblk m c 4 t) (iblk m c 5 t)
        (iblk m c 6 t) (iblk m c 7 t) i l * k0_pay60 (grid0.coords t) (iblk m c 0 t) (iblk m c 1 t) (iblk m c 2 t) (iblk m c 3 t) (iblk m c 4 t) (iblk m c 5 t)
        (iblk m c 6 t) (iblk m c 7 t) (ix2 i d)
      + rowsBlock (grid0.coords t) (iblk m c 0 t) (iblk m c 1 t) (iblk m c 2 t) (iblk m c 3 t) (iblk m c 4 t) (iblk m c 5 t)
        (iblk m c 6 t) (iblk m c 7 t) i (mate (by decide) l) * k0_pay61 (grid0.coords t) (iblk m c 0 t) (iblk m c 1 t) (iblk m c 2 t) (iblk m c 3 t) (iblk m c 4 t) (iblk m c 5 t)
        (iblk m c 6 t) (iblk m c 7 t) (ix2 i d)
      = rotated (rowsAt m c) r l := by
  have hf : freq (d : ℕ) = freq l := Fin.ext (by simp only [freq]; omega)
  have hp : (d : ℕ) % 2 = (l : ℕ) % 2 := by omega
  rw [rows_block m c hr t i l r h0, rows_block m c hr t i (mate (by decide) l) r h0, cosine_block m c t i d r h0,
    sine_block m c t i d r h0, hf, hp]
  unfold rotated
  split
  · exact still _ _
  · exact turn_eq rfl _ _ _ _

/-- The queries after the run. -/
theorem final_8 (c : Dev nD) (hr : Finite m c) :
    (dats m 0 c).arrAt 8 cfg0.N = fun i : S20480x2048.Idx => queryAt (rowsAt m c) (i 0) (i 1) := by
  refine (dats m 0 c).arrAt_eq_of_covers 8 _ (by decide +kernel) fun t hf y => ?_
  blk_simp
  rw [after0_8]
  refine (out0_8_eq _ _ _ _ _ _ _ _ _ _).trans ?_
  refine congrArg (· * _) ((rotated_block m c hr t _ _ _ rfl _ ?_).trans (congrArg _ (Fin.ext ?_)))
  all_goals (blk_simp [idx t] <;> try omega)

/-- The turned keys after the run. -/
theorem final_9 (c : Dev nD) (hr : Finite m c) :
    (dats m 0 c).arrAt 9 cfg0.N = fun i : S20480x256.Idx => keyAt (rowsAt m c) (i 0) (i 1) := by
  refine (dats m 0 c).arrAt_eq_of_covers 9 _ (by decide +kernel) fun t hf y => ?_
  blk_simp
  rw [after0_9]
  refine (out0_9_eq _ _ _ _ _ _ _ _ _ _).trans ?_
  refine (rotated_block m c hr t _ _ _ (by simp only; omega) _ ?_).trans (congrArg _ (Fin.ext ?_))
  all_goals (blk_simp [idx t] <;> try omega)

/-- The values in bfloat16 after the run. -/
theorem final_10 (c : Dev nD) :
    (dats m 0 c).arrAt 10 cfg0.N = fun i : S20480x256.Idx =>
      laneAt 2304 (by omega) (product (m ((c : Thread nD τ).loc main_arg0)) (m ((c : Thread nD τ).loc main_arg1)) (m ((c : Thread nD τ).loc main_arg2))) (i 0) (i 1) := by
  refine (dats m 0 c).arrAt_eq_of_covers 10 _ (by decide +kernel) fun t hf y => ?_
  blk_simp
  rw [after0_10]
  refine (out0_10_eq _ _ _ _ _ _ _ _ _ _).trans ?_
  refine (product_block m c t _ _ _ ?_).trans (congrArg _ (Fin.ext ?_))
  all_goals (blk_simp [idx t] <;> try omega)

/-- The keys before they are turned, after the run. -/
theorem final_11 (c : Dev nD) (hr : Finite m c) :
    (dats m 0 c).arrAt 11 cfg0.N = fun i : S20480x256.Idx => laneAt 2048 (by omega) (rowsAt m c) (i 0) (i 1) := by
  refine (dats m 0 c).arrAt_eq_of_covers 11 _ (by decide +kernel) fun t hf y => ?_
  blk_simp
  rw [after0_11]
  refine (out0_11_eq _ _ _ _ _ _ _ _ _ _).trans ?_
  refine (rows_block m c hr t _ _ _ ?_).trans (congrArg _ (Fin.ext ?_))
  all_goals (blk_simp [idx t] <;> try omega)

/-- The values after the run. -/
theorem final_12 (c : Dev nD) :
    (dats m 0 c).arrAt 12 cfg0.N = fun i : S20480x256.Idx =>
      laneAt 2304 (by omega) (product (m ((c : Thread nD τ).loc main_arg0)) (m ((c : Thread nD τ).loc main_arg1)) (m ((c : Thread nD τ).loc main_arg2))) (i 0) (i 1) := by
  refine (dats m 0 c).arrAt_eq_of_covers 12 _ (by decide +kernel) fun t hf y => ?_
  blk_simp
  rw [after0_12]
  refine (out0_12_eq _ _ _ _ _ _ _ _ _ _).trans ?_
  refine (product_block m c t _ _ _ ?_).trans (congrArg _ (Fin.ext ?_))
  all_goals (blk_simp [idx t] <;> try omega)
end Cert.Kernel7Ideal.Value
end
-- ==== Proof.GqkvTurn.lean ====
module

public import proofs.«01_k».proof.Proof.Gen.Reference7Ideal.Run
public import proofs.«01_k».proof.Proof.DqkvTurn
public import Idealize.ShloMosaic.Lib.Pipeline.ValueKit
public import Idealize.ShloMosaic.Lib.Pointwise

@[expose] public section

set_option maxRecDepth 16384
noncomputable section
namespace Cert.Reference7Ideal.Value
open Cert.Reference7Ideal Cert.Reference7Ideal.Gen Cert.Rope Cert.Tokens Idealize.ShloMosaic Idealize.ShloMosaic.TcCoe Idealize.SL.Sem
open Cert.Reference6Ideal.Value (angle)

/-- The latent rows of the keys, lane pairs apart. -/
def keyPairs (y : FVec Ideal S20480x256 .f32) : FVec Ideal S8x2048x4x32x2 .f32 :=
  shapeCast S8x2048x4x32x2 (shapeCast S8x2048x4x64 (extractStridedSlice S16384x256 ![4096, 0] y slices_S20480x256_S16384x256_4096_0)
    shapeCasts_S16384x256_S8x2048x4x64) shapeCasts_S8x2048x4x64_S8x2048x4x32x2

/-- The even lanes of the pairs. -/
def keyEven (p : FVec Ideal S8x2048x4x32x2 .f32) : FVec Ideal S8x2048x4x32 .f32 :=
  shapeCast S8x2048x4x32 (extractStridedSlice S8x2048x4x32x1 ![0, 0, 0, 0, 0] p slices_S8x2048x4x32x2_S8x2048x4x32x1_0_0_0_0_0) shapeCasts_S8x2048x4x32x1_S8x2048x4x32

/-- The odd lanes of the pairs. -/
def keyOdd (p : FVec Ideal S8x2048x4x32x2 .f32) : FVec Ideal S8x2048x4x32 .f32 :=
  shapeCast S8x2048x4x32 (extractStridedSlice S8x2048x4x32x1 ![0, 0, 0, 0, 1] p slices_S8x2048x4x32x2_S8x2048x4x32x1_0_0_0_0_1) shapeCasts_S8x2048x4x32x1_S8x2048x4x32

/-- A table of the tokens' frequencies, the same for every sequence and head. -/
def keyTable (a : FVec Ideal S2048x32 .f32) : FVec Ideal S8x2048x4x32 .f32 :=
  broadcastInDim S8x2048x4x32 ![0, 1, 2, 3] bcast_S1x2048x1x32_S8x2048x4x32_0_1_2_3 (shapeCast S1x2048x1x32 a shapeCasts_S2048x32_S1x2048x1x32)

/-- The turned pairs put back into rows. -/
def keyJoined (a b : FVec Ideal S8x2048x4x32 .f32) : FVec Ideal S16384x256 .f32 :=
  shapeCast S16384x256 (shapeCast S8x2048x4x64 (concatenate S8x2048x4x32x2 4
    [⟨S8x2048x4x32x1, broadcastInDim S8x2048x4x32x1 ![0, 1, 2, 3] bcast_S8x2048x4x32_S8x2048x4x32x1_0_1_2_3 a⟩,
     ⟨S8x2048x4x32x1, broadcastInDim S8x2048x4x32x1 ![0, 1, 2, 3] bcast_S8x2048x4x32_S8x2048x4x32x1_0_1_2_3 b⟩]
    concatenates_S8x2048x4x32x1_S8x2048x4x32x1_S8x2048x4x32x2_d4) shapeCasts_S8x2048x4x32x2_S8x2048x4x64) shapeCasts_S8x2048x4x64_S16384x256

/-- The latent rows of the keys turned. -/
def keyTurned (p : FVec Ideal S8x2048x4x32x2 .f32) : FVec Ideal S16384x256 .f32 :=
  keyJoined (subf (mulf (keyEven p) (keyTable (Host.cos angle))) (mulf (keyOdd p) (keyTable (Host.sin angle))))
    (addf (mulf (keyEven p) (keyTable (Host.sin angle))) (mulf (keyOdd p) (keyTable (Host.cos angle))))

/-- The keys: the prompt's rows as they are, the latent rows turned. -/
def keyRows (y : FVec Ideal S20480x256 .f32) : FVec Ideal S20480x256 .f32 :=
  concatenate S20480x256 0 [⟨S4096x256, extractStridedSlice S4096x256 ![0, 0] y slices_S20480x256_S4096x256_0_0⟩,
    ⟨S16384x256, keyTurned (keyPairs y)⟩] concatenates_S4096x256_S16384x256_S20480x256_d0

/-- A lane of a pair is the row's lane. -/
theorem keyPairs_at (y : FVec Ideal S20480x256 .f32) (b : Fin 8) (s : Fin 2048) (h : Fin 4) (f : Fin 32) (e : Fin 2) :
    keyPairs y (ix5 b s h f e) = y (ix2 (⟨4096 + (b * 2048 + s), by omega⟩ : Fin 20480) (⟨h * 64 + (f * 2 + e), by omega⟩ : Fin 256)) := by
  pointwise [keyPairs]
  blk_ext

/-- A table, read at an entry. -/
theorem keyTable_at (a : FVec Ideal S2048x32 .f32) (b : Fin 8) (s : Fin 2048) (h : Fin 4) (f : Fin 32) :
    keyTable a (ix4 b s h f) = a (ix2 s f) := by
  pointwise [keyTable]
  blk_ext

/-- The even lanes, read at an entry. -/
theorem keyEven_at (p : FVec Ideal S8x2048x4x32x2 .f32) (b : Fin 8) (s : Fin 2048) (h : Fin 4) (f : Fin 32) :
    keyEven p (ix4 b s h f) = p (ix5 b s h f 0) := by
  pointwise [keyEven]
  blk_ext

/-- The odd lanes, read at an entry. -/
theorem keyOdd_at (p : FVec Ideal S8x2048x4x32x2 .f32) (b : Fin 8) (s : Fin 2048) (h : Fin 4) (f : Fin 32) :
    keyOdd p (ix4 b s h f) = p (ix5 b s h f 1) := by
  pointwise [keyOdd]
  blk_ext

/-- The rows of the turned pairs, read at a lane: the first array on the even lanes, the second on the odd ones. -/
theorem keyJoined_at (a b : FVec Ideal S8x2048x4x32 .f32) (r : Fin 16384) (l : Fin 256) :
    keyJoined a b (ix2 r l) = if (l : ℕ) % 2 = 0
      then a (ix4 (⟨r / 2048, by omega⟩ : Fin 8) (⟨r % 2048, by omega⟩ : Fin 2048) (⟨l / 64, by omega⟩ : Fin 4) (freq l))
      else b (ix4 (⟨r / 2048, by omega⟩ : Fin 8) (⟨r % 2048, by omega⟩ : Fin 2048) (⟨l / 64, by omega⟩ : Fin 4) (freq l)) := by
  have hf : (⟨(l : ℕ) / 2 % 32, by omega⟩ : Fin 32) = freq l := Fin.ext (by simp only [freq]; omega)
  pointwise [keyJoined]
  by_cases h : (l : ℕ) % 2 = 0
  · rw [dif_pos (by omega), if_pos h]
    exact congrArg a (congrArg (ix4 _ _ _) hf)
  · rw [dif_neg (by omega), if_neg h]
    exact congrArg b (congrArg (ix4 _ _ _) hf)

/-- The latent rows turned, read at a lane. -/
theorem keyTurned_at (y : FVec Ideal S20480x256 .f32) (r : Fin 16384) (i : Fin 20480) (h0 : (i : ℕ) = 4096 + r) (l : Fin 256) :
    keyTurned (keyPairs y) (ix2 r l) = turn l (y (ix2 i l)) (y (ix2 i (mate (by decide) l)))
      (Host.cos angle (ix2 (place i) (freq l))) (Host.sin angle (ix2 (place i) (freq l))) := by
  have hp : (⟨(r : ℕ) % 2048, by omega⟩ : Fin 2048) = place i := Fin.ext (by simp only [place]; omega)
  have he : (⟨4096 + ((r : ℕ) / 2048 * 2048 + (r : ℕ) % 2048), by omega⟩ : Fin 20480) = i := Fin.ext (by simp only; omega)
  unfold keyTurned turn
  rw [keyJoined_at]
  split <;> rename_i hl
  · pointwise [keyEven_at, keyOdd_at, keyTable_at, keyPairs_at]
    have hc : (⟨(l : ℕ) / 64 * 64 + (freq l : ℕ) * 2, by simp only [freq]; omega⟩ : Fin 256) = l := Fin.ext (by simp only [freq]; omega)
    have hm : (⟨(l : ℕ) / 64 * 64 + ((freq l : ℕ) * 2 + 1), by simp only [freq]; omega⟩ : Fin 256) = mate (by decide) l :=
      Fin.ext (by simp only [freq, mate, mateNum, if_pos hl]; omega)
    rw [he, hp, hc, hm]
  · pointwise [keyEven_at, keyOdd_at, keyTable_at, keyPairs_at]
    have hm : (⟨(l : ℕ) / 64 * 64 + (freq l : ℕ) * 2, by simp only [freq]; omega⟩ : Fin 256) = mate (by decide) l :=
      Fin.ext (by simp only [freq, mate, mateNum, if_neg hl]; omega)
    have hc : (⟨(l : ℕ) / 64 * 64 + ((freq l : ℕ) * 2 + 1), by simp only [freq]; omega⟩ : Fin 256) = l := Fin.ext (by simp only [freq]; omega)
    rw [he, hp, hc, hm]

/-- The keys, read at a lane. -/
theorem keyRows_at (y : FVec Ideal S20480x256 .f32) (i : Fin 20480) (l : Fin 256) :
    keyRows y (ix2 i l) = if (i : ℕ) < 4096 then y (ix2 i l) else turn l (y (ix2 i l)) (y (ix2 i (mate (by decide) l)))
      (Host.cos angle (ix2 (place i) (freq l))) (Host.sin angle (ix2 (place i) (freq l))) := by
  pointwise [keyRows]
  by_cases h : (i : ℕ) < 4096
  · rw [dif_pos h, if_pos h]
  · rw [dif_neg h, if_neg h]
    exact keyTurned_at y _ i (by simp only; omega) l

end Cert.Reference7Ideal.Value
end
-- ==== Proof.GqkvReference.lean ====
module

public import proofs.«01_k».proof.Proof.GqkvTurn
public import proofs.«01_k».proof.Proof.DqkvReference
public import proofs.«01_k».proof.Proof.HeadNorm

@[expose] public section

set_option maxRecDepth 16384
noncomputable section
namespace Cert.Reference7Ideal.Value
open Cert.Reference7Ideal Cert.Reference7Ideal.Gen Cert.Rope Cert.Tokens Cert.HeadNorm Idealize.ShloMosaic Idealize.ShloMosaic.TcCoe Idealize.SL.Sem
open Cert.Reference6Ideal.Value (angle modRows modulated modulated_at modRows_at queryRows queryRows_at)

/-- The modulated input times the matrix. -/
def fused (x : FVec Ideal S20480x1024 .f32) (mods : FVec Ideal S16x6x1024 .f32) (w : FVec Ideal S1024x2560 .bf16) : FVec Ideal S20480x2560 .f32 :=
  Host.dotGeneral dot_S20480x1024_S1024x2560_S20480x2560_1_0_0_1_n_n none (modulated x (modRows mods)) (extf .f32 w bitsLt_bf16_f32)

/-- The queries' 32 heads divided by their root mean squares, times the gains. -/
def normHeads (z : FVec Ideal S20480x32x64 .f32) (g : FVec Ideal S32x64 .f32) : FVec Ideal S20480x32x64 .f32 :=
  mulf (mulf z (broadcastInDim S20480x32x64 ![0, 1, 2] bcast_S20480x32x1_S20480x32x64_0_1_2
      (Host.rsqrt (addf (Host.divf (broadcastInDim S20480x32x1 ![0, 1] bcast_S20480x32_S20480x32x1_0_1
          (Host.reduceAdd (mulf z z) (constant S_ .f32 0x00000000#32) reducesTo_S20480x32x64_S20480x32_d2 h_S_))
        (broadcastInDim S20480x32x1 ![] bcast_S_S20480x32x1 (constant S_ .f32 0x42800000#32)))
        (broadcastInDim S20480x32x1 ![] bcast_S_S20480x32x1 (constant S_ .f32 0x358637BD#32))))))
    (broadcastInDim S20480x32x64 ![0, 1, 2] bcast_S1x32x64_S20480x32x64_0_1_2 (broadcastInDim S1x32x64 ![1, 2] bcast_S32x64_S1x32x64_1_2 g))

/-- The keys' four heads divided by their root mean squares, times the gains. -/
def normKeyHeads (z : FVec Ideal S20480x4x64 .f32) (g : FVec Ideal S4x64 .f32) : FVec Ideal S20480x4x64 .f32 :=
  mulf (mulf z (broadcastInDim S20480x4x64 ![0, 1, 2] bcast_S20480x4x1_S20480x4x64_0_1_2
      (Host.rsqrt (addf (Host.divf (broadcastInDim S20480x4x1 ![0, 1] bcast_S20480x4_S20480x4x1_0_1
          (Host.reduceAdd (mulf z z) (constant S_ .f32 0x00000000#32) reducesTo_S20480x4x64_S20480x4_d2 h_S_))
        (broadcastInDim S20480x4x1 ![] bcast_S_S20480x4x1 (constant S_ .f32 0x42800000#32)))
        (broadcastInDim S20480x4x1 ![] bcast_S_S20480x4x1 (constant S_ .f32 0x358637BD#32))))))
    (broadcastInDim S20480x4x64 ![0, 1, 2] bcast_S1x4x64_S20480x4x64_0_1_2 (broadcastInDim S1x4x64 ![1, 2] bcast_S4x64_S1x4x64_1_2 g))

/-- The queries' lanes of the product, divided head by head. -/
def normQueries (y : FVec Ideal S20480x2560 .f32) (gq : FVec Ideal S1x2048 .f32) : FVec Ideal S20480x2048 .f32 :=
  shapeCast S20480x2048 (normHeads (shapeCast S20480x32x64 (extractStridedSlice S20480x2048 ![0, 0] y slices_S20480x2560_S20480x2048_0_0)
    shapeCasts_S20480x2048_S20480x32x64) (shapeCast S32x64 gq shapeCasts_S1x2048_S32x64)) shapeCasts_S20480x32x64_S20480x2048

/-- The keys' lanes of the product, divided head by head. -/
def normKeys (y : FVec Ideal S20480x2560 .f32) (gk : FVec Ideal S1x256 .f32) : FVec Ideal S20480x256 .f32 :=
  shapeCast S20480x256 (normKeyHeads (shapeCast S20480x4x64 (extractStridedSlice S20480x256 ![0, 2048] y slices_S20480x2560_S20480x256_0_2048)
    shapeCasts_S20480x256_S20480x4x64) (shapeCast S4x64 gk shapeCasts_S1x256_S4x64)) shapeCasts_S20480x4x64_S20480x256

/-- The queries, turned and scaled. -/
def queries (y : FVec Ideal S20480x2560 .f32) (gq : FVec Ideal S1x2048 .f32) : FVec Ideal S20480x2048 .bf16 :=
  truncf .bf16 (mulf (queryRows (normQueries y gq)) (broadcastInDim S20480x2048 ![] bcast_S_S20480x2048 (constant S_ .f32 0x3E000000#32)))
    bitsLt_bf16_f32

/-- The keys, turned. -/
def keys (y : FVec Ideal S20480x2560 .f32) (gk : FVec Ideal S1x256 .f32) : FVec Ideal S20480x256 .bf16 :=
  truncf .bf16 (keyRows (normKeys y gk)) bitsLt_bf16_f32

/-- The values of the product. -/
def values (y : FVec Ideal S20480x2560 .f32) : FVec Ideal S20480x256 .f32 :=
  extractStridedSlice S20480x256 ![0, 2304] y slices_S20480x2560_S20480x256_0_2304

variable (m : (ℓ : Loc nD τ sig) → Buf (Elt Ideal) ℓ) (c : Dev nD)

set_option maxHeartbeats 4000000 in
/-- The first result is the queries of the product. -/
theorem queries_eq : res_out0 m c = queries (fused (m ((c.tc : Thread nD τ).loc main_arg0)) (m ((c.tc : Thread nD τ).loc main_arg1))
    (m ((c.tc : Thread nD τ).loc main_arg2))) (m ((c.tc : Thread nD τ).loc main_arg3)) := by
  rfl

set_option maxHeartbeats 4000000 in
/-- The second result is the turned keys of the product. -/
theorem keys_eq : res_out1 m c = keys (fused (m ((c.tc : Thread nD τ).loc main_arg0)) (m ((c.tc : Thread nD τ).loc main_arg1))
    (m ((c.tc : Thread nD τ).loc main_arg2))) (m ((c.tc : Thread nD τ).loc main_arg4)) := by
  rfl

set_option maxHeartbeats 4000000 in
/-- The fourth result is the keys of the product before they are turned. -/
theorem plainKeys_eq : res_out3 m c = normKeys (fused (m ((c.tc : Thread nD τ).loc main_arg0)) (m ((c.tc : Thread nD τ).loc main_arg1))
    (m ((c.tc : Thread nD τ).loc main_arg2))) (m ((c.tc : Thread nD τ).loc main_arg4)) := by
  rfl

/-- The product, read at an entry. -/
theorem fused_at (x : FVec Ideal S20480x1024 .f32) (mods : FVec Ideal S16x6x1024 .f32) (w : FVec Ideal S1024x2560 .bf16) (i : Fin 20480) (l : Fin 2560) :
    fused x mods w (ix2 i l)
      = ∑ e : Fin 1024, (x (ix2 i e) * (1 + mods (ix3 (group i) 1 e)) + mods (ix3 (group i) 0 e)) * w (ix2 e l) := by
  pointwise [fused]
  simp only [modulated_at, modRows_at]

/-- A divided head, read at a lane. -/
theorem normHeads_at (z : FVec Ideal S20480x32x64 .f32) (g : FVec Ideal S32x64 .f32) (i : Fin 20480) (h : Fin 32) (d : Fin 64) :
    normHeads z g (ix3 i h d) = z (ix3 i h d) * headScale (fun e => z (ix3 i h e)) * g (ix2 h d) := by
  pointwise [normHeads, headScale]

/-- A divided head of the keys, read at a lane. -/
theorem normKeyHeads_at (z : FVec Ideal S20480x4x64 .f32) (g : FVec Ideal S4x64 .f32) (i : Fin 20480) (h : Fin 4) (d : Fin 64) :
    normKeyHeads z g (ix3 i h d) = z (ix3 i h d) * headScale (fun e => z (ix3 i h e)) * g (ix2 h d) := by
  pointwise [normKeyHeads, headScale]

/-- A divided lane of a row, without the gain. -/
def headLane (y : FVec Ideal S20480x2560 .f32) (i : Fin 20480) (l : Fin 2560) : EReal :=
  y (ix2 i l) * headScale fun e => y (ix2 i (⟨l / 64 * 64 + e, by omega⟩ : Fin 2560))

/-- A divided query, read at an entry. -/
theorem normQueries_at (y : FVec Ideal S20480x2560 .f32) (gq : FVec Ideal S1x2048 .f32) (i : Fin 20480) (l : Fin 2048) :
    normQueries y gq (ix2 i l) = headLane y i (⟨l, by omega⟩ : Fin 2560) * gq (ix2 0 l) := by
  have hl : (⟨(l : ℕ) / 64 * 64 + (l : ℕ) % 64, by omega⟩ : Fin 2048) = l := Fin.ext (by simp only; omega)
  pointwise [normQueries, normHeads_at]
  unfold headLane
  refine congrArg₂ (· * ·) (congrArg₂ (· * ·) ?_ (congrArg headScale (funext fun e => ?_))) ?_ <;> blk_ext

/-- A divided key, read at an entry. -/
theorem normKeys_at (y : FVec Ideal S20480x2560 .f32) (gk : FVec Ideal S1x256 .f32) (i : Fin 20480) (l : Fin 256) :
    normKeys y gk (ix2 i l) = headLane y i (⟨2048 + l, by omega⟩ : Fin 2560) * gk (ix2 0 l) := by
  pointwise [normKeys, normKeyHeads_at]
  unfold headLane
  refine congrArg₂ (· * ·) (congrArg₂ (· * ·) ?_ (congrArg headScale (funext fun e => ?_))) ?_ <;> blk_ext

/-- A turned lane of divided rows. -/
def turnedLane (z : Fin 20480 → Fin 2560 → EReal) (i : Fin 20480) (l : Fin 2560) : EReal :=
  if (i : ℕ) < 4096 then z i l else turn l (z i l) (z i (mate (by decide) l))
    (Host.cos angle (ix2 (place i) (freq l))) (Host.sin angle (ix2 (place i) (freq l)))

/-- A value, read at an entry. -/
theorem values_at (y : FVec Ideal S20480x2560 .f32) (i : Fin 20480) (l : Fin 256) :
    values y (ix2 i l) = y (ix2 i (⟨2304 + l, by omega⟩ : Fin 2560)) := by
  pointwise [values]

/-- A query, read at an entry: the lane of any rows `z` that hold the divided queries with their gains. -/
theorem queries_at (y : FVec Ideal S20480x2560 .f32) (gq : FVec Ideal S1x2048 .f32) (z : Fin 20480 → Fin 2560 → EReal)
    (hz : ∀ (i : Fin 20480) (l : Fin 2048), headLane y i (⟨l, by omega⟩ : Fin 2560) * gq (ix2 0 l) = z i (⟨l, by omega⟩ : Fin 2560))
    (i : Fin 20480) (l : Fin 2048) :
    queries y gq (ix2 i l) = turnedLane z i (⟨l, by omega⟩ : Fin 2560) * Ideal.ofBits .f32 0x3E000000#32 := by
  pointwise [queries, queryRows_at, normQueries_at, hz]
  rfl

/-- A turned key, read at an entry: the lane of any rows `z` that hold the divided keys with their gains. -/
theorem keys_at (y : FVec Ideal S20480x2560 .f32) (gk : FVec Ideal S1x256 .f32) (z : Fin 20480 → Fin 2560 → EReal)
    (hz : ∀ (i : Fin 20480) (l : Fin 256), headLane y i (⟨2048 + l, by omega⟩ : Fin 2560) * gk (ix2 0 l) = z i (⟨2048 + l, by omega⟩ : Fin 2560))
    (i : Fin 20480) (l : Fin 256) :
    keys y gk (ix2 i l) = turnedLane z i (⟨2048 + l, by omega⟩ : Fin 2560) := by
  have hm : (⟨2048 + ((mate (by decide) l : Fin 256) : ℕ), by omega⟩ : Fin 2560) = mate (by decide) (⟨2048 + (l : ℕ), by omega⟩ : Fin 2560) :=
    Fin.ext (by simp only [mate, mateNum]; split <;> split <;> omega)
  have hf : freq (2048 + (l : ℕ)) = freq l := Fin.ext (by simp only [freq]; omega)
  pointwise [keys, keyRows_at, normKeys_at, hz]
  unfold turnedLane
  simp only [hf, turn_shift]
  rw [hm]
  rfl
end Cert.Reference7Ideal.Value
end
-- ==== Proof.GqkvClaims.lean ====
module

public import proofs.«01_k».proof.Defs
public import proofs.«01_k».proof.Proof.GqkvArray
public import proofs.«01_k».proof.Proof.GqkvReference
public import proofs.«01_k».proof.Proof.GqaEquation
public import proofs.«01_k».proof.Proof.DqkvClaims
public import Idealize.ShloMosaic.Adequacy
public import Idealize.ShloMosaic.Init

@[expose] public section

set_option maxRecDepth 16384
noncomputable section
namespace Cert.Gqkv
open Idealize.ShloMosaic Idealize.SL.Sem Cert.Rope Cert.Tokens Cert.HeadNorm Cert.Gqa
open Cert.Kernel7Ideal.Value (product product_real scaled rotated queryAt keyAt laneAt gains_query gains_key)
open Cert.Reference7Ideal.Value (fused headLane normKeys normKeys_at queries keys values turnedLane fused_at queries_at keys_at values_at)

section
variable {x x' : FVec Ideal Cert.Kernel7Ideal.S20480x1024 .f32} {mods mods' : FVec Ideal Cert.Kernel7Ideal.S16x6x1024 .f32}
  {w w' : FVec Ideal Cert.Kernel7Ideal.S1024x2560 .bf16} {gq gq' : FVec Ideal Cert.Kernel7Ideal.S1x2048 .f32}
  {gk gk' : FVec Ideal Cert.Kernel7Ideal.S1x256 .f32}

/-- The rows of the product divided head by head, times the gains. -/
def rows (x : FVec Ideal Cert.Kernel7Ideal.S20480x1024 .f32) (mods : FVec Ideal Cert.Kernel7Ideal.S16x6x1024 .f32)
    (w : FVec Ideal Cert.Kernel7Ideal.S1024x2560 .bf16) (gq : FVec Ideal Cert.Kernel7Ideal.S1x2048 .f32)
    (gk : FVec Ideal Cert.Kernel7Ideal.S1x256 .f32) : Fin 20480 → Fin 2560 → EReal :=
  scaled (fun l => gq (ix2 (0 : Fin 1) l)) (fun l => gk (ix2 (0 : Fin 1) l)) (product x mods w)

/-- The reference's product, read at an entry, is the kernel's. -/
theorem product_eq (i : Fin 20480) (l : Fin 2560) : fused x mods w (ix2 i l) = product x mods w i l :=
  fused_at x mods w i l

/-- A divided lane of the reference's product is the kernel's. -/
theorem headLane_eq (i : Fin 20480) (l : Fin 2560) :
    headLane (fused x mods w) i l = product x mods w i l * headScale fun e => product x mods w i (⟨l / 64 * 64 + e, by omega⟩ : Fin 2560) := by
  unfold headLane
  simp only [product_eq]

/-- A divided query with its gain is the rows' lane. -/
theorem query_lane (i : Fin 20480) (l : Fin 2048) :
    headLane (fused x mods w) i (⟨l, by omega⟩ : Fin 2560) * gq (ix2 0 l) = rows x mods w gq gk i (⟨l, by omega⟩ : Fin 2560) := by
  rw [headLane_eq]
  exact congrArg (fun g : EReal => (product x mods w i (⟨l, by omega⟩ : Fin 2560) * headScale fun e => product x mods w i (⟨(l : ℕ) / 64 * 64 + e, by omega⟩ : Fin 2560)) * g)
    (gains_query (fun l => gq (ix2 (0 : Fin 1) l)) (fun l => gk (ix2 (0 : Fin 1) l)) (⟨l, by omega⟩ : Fin 2560) l rfl).symm

/-- A divided key with its gain is the rows' lane. -/
theorem key_lane (i : Fin 20480) (l : Fin 256) :
    headLane (fused x mods w) i (⟨2048 + l, by omega⟩ : Fin 2560) * gk (ix2 0 l) = rows x mods w gq gk i (⟨2048 + l, by omega⟩ : Fin 2560) := by
  rw [headLane_eq]
  exact congrArg (fun g : EReal => (product x mods w i (⟨2048 + l, by omega⟩ : Fin 2560) * headScale fun e => product x mods w i (⟨(2048 + l : ℕ) / 64 * 64 + e, by omega⟩ : Fin 2560)) * g)
    (gains_key (fun l => gq (ix2 (0 : Fin 1) l)) (fun l => gk (ix2 (0 : Fin 1) l)) (⟨2048 + l, by omega⟩ : Fin 2560) l rfl).symm

/-- Both programs turn the rows alike. -/
theorem turned_eq (z : Fin 20480 → Fin 2560 → EReal) (i : Fin 20480) (l : Fin 2560) : turnedLane z i l = rotated z i l := by
  unfold turnedLane rotated
  rw [Cert.Dqkv.angle_eq]

/-- THE EQUATION of the queries: the reference's queries are the kernel's, at every entry. -/
theorem queries_equation (h0 : x' = x) (h1 : mods' = mods) (h2 : w' = w) (h3 : gq' = gq) :
    queries (fused x' mods' w') gq' = fun j => queryAt (rows x mods w gq gk) (j 0) (j 1) := by
  subst h0 h1 h2 h3
  funext j
  rw [eq_ix2 j]
  exact (queries_at _ _ _ (fun i l => query_lane (gk := gk) i l) _ _).trans (congrArg (· * _) (turned_eq _ _ _))

/-- The equation of the turned keys. -/
theorem keys_equation (h0 : x' = x) (h1 : mods' = mods) (h2 : w' = w) (h4 : gk' = gk) :
    keys (fused x' mods' w') gk' = fun j => keyAt (rows x mods w gq gk) (j 0) (j 1) := by
  subst h0 h1 h2 h4
  funext j
  rw [eq_ix2 j]
  exact (keys_at _ _ _ (fun i l => key_lane (gq := gq) i l) _ _).trans (turned_eq _ _ _)

/-- The equation of the keys before they are turned. -/
theorem plain_equation (h0 : x' = x) (h1 : mods' = mods) (h2 : w' = w) (h4 : gk' = gk) :
    normKeys (fused x' mods' w') gk' = fun j => laneAt 2048 (by omega) (rows x mods w gq gk) (j 0) (j 1) := by
  subst h0 h1 h2 h4
  funext j
  rw [eq_ix2 j]
  exact (normKeys_at _ _ _ _).trans (key_lane _ _)

/-- The equation of the values. -/
theorem values_equation (h0 : x' = x) (h1 : mods' = mods) (h2 : w' = w) :
    values (fused x' mods' w') = fun j => laneAt 2304 (by omega) (product x mods w) (j 0) (j 1) := by
  subst h0 h1 h2
  funext j
  rw [eq_ix2 j]
  exact (values_at _ _ _).trans (product_eq _ _)
end

/-- The side conditions of the precondition's operations. -/
theorem pre_facts : Cert.Pre_finite_inputs.Facts := ⟨by decide, by decide, by decide, by decide⟩

/-- The reference runs to its end and leaves its arguments and the semaphores as they were. -/
theorem frame_reference : quiescent_Reference7Ideal (hReference7Ideal := Cert.Reference7Ideal.Gen.facts) := fun m ρ _ =>
  (θ_run Cert.Reference7Ideal.defs _ _).mono (fun r h => ⟨fun c => (h c).2.2.2.2.2, sem_eq_zero_of_no_sems (by decide) r.2⟩)
    (Cert.Reference7Ideal.Value.run (F := Ideal) m ρ)

/-- The same under the precondition. -/
theorem frame_reference_pre [Cert.Pre_finite_inputs.Facts] :
    quiescent_Reference7Ideal_pre_finite_inputs (hReference7Ideal := Cert.Reference7Ideal.Gen.facts) := fun m ρ _ =>
  frame_reference m ρ trivial

/-- The grouped-query layers' queries, keys and values: from arguments that agree, and whose tokens, modulations and matrix hold
    no infinity, the kernel's five results are the reference's. -/
theorem algebraic [Cert.Pre_finite_inputs.Facts] : algebraic_Kernel7Ideal_Reference7Ideal_pre_finite_inputs
    (hKernel7Ideal := Cert.Kernel7Ideal.Gen.facts) (hReference7Ideal := Cert.Reference7Ideal.Gen.facts) := by
  pair_intro
  · run_from Cert.Kernel7Ideal.Value.run_blocks m g
  · run_from Cert.Reference7Ideal.Value.run m' g'
    all_goals
      have hr : Cert.Kernel7Ideal.Value.Finite m c :=
        product_real (fun j => isReal_of_cmp (congrFun (hpre c).1 j)) (fun j => isReal_of_cmp (congrFun (hpre c).2.1 j))
          (fun j => isReal_of_cmp (congrFun (hpre c).2.2 j))
    · exact ((Cert.Reference7Ideal.Value.queries_eq m' c).trans (queries_equation (hagree c).1 (hagree c).2.1 (hagree c).2.2.1 (hagree c).2.2.2.1)).trans (Cert.Kernel7Ideal.Value.final_8 m c hr).symm
    · exact ((Cert.Reference7Ideal.Value.keys_eq m' c).trans (keys_equation (hagree c).1 (hagree c).2.1 (hagree c).2.2.1 (hagree c).2.2.2.2)).trans (Cert.Kernel7Ideal.Value.final_9 m c hr).symm
    · exact (values_equation rfl (hagree c).2.1 rfl).trans (Cert.Kernel7Ideal.Value.final_10 m c).symm
    · exact ((Cert.Reference7Ideal.Value.plainKeys_eq m' c).trans (plain_equation (hagree c).1 (hagree c).2.1 (hagree c).2.2.1 (hagree c).2.2.2.2)).trans (Cert.Kernel7Ideal.Value.final_11 m c hr).symm
    · exact (values_equation rfl (hagree c).2.1 rfl).trans (Cert.Kernel7Ideal.Value.final_12 m c).symm
end Cert.Gqkv
end
-- ==== Proof.lean ====
module

public import proofs.«01_k».proof.Defs
public import proofs.«01_k».proof.Proof.Gen.Kernel.Frame
public import proofs.«01_k».proof.Proof.Gen.Kernel2.Frame
public import proofs.«01_k».proof.Proof.ProjClaims
public import proofs.«01_k».proof.Proof.Gen.Kernel3.Frame
public import proofs.«01_k».proof.Proof.GmlpClaims
public import proofs.«01_k».proof.Proof.Gen.Kernel4.Frame
public import proofs.«01_k».proof.Proof.DiffClaims
public import proofs.«01_k».proof.Proof.Gen.Kernel5.Frame
public import proofs.«01_k».proof.Proof.HalfProjClaims
public import proofs.«01_k».proof.Proof.Gen.Kernel6.Frame
public import proofs.«01_k».proof.Proof.DqkvClaims
public import proofs.«01_k».proof.Proof.GqaEquation
public import proofs.«01_k».proof.Proof.Gen.Kernel7.Frame
public import proofs.«01_k».proof.Proof.GqkvClaims
public import Idealize.ShloMosaic.Adequacy
public import Idealize.ShloMosaic.Init

@[expose] public section

set_option maxRecDepth 16384

noncomputable section

namespace Cert.Proof

open Idealize.ShloMosaic Idealize.SL.Sem Cert.Kernel

/-- The side conditions of the precondition's operations. -/
theorem pre_facts : Cert.Pre_finite_keys.Facts := ⟨by decide, by decide, by decide, by decide⟩

/-- The reference runs to its end and leaves its arguments and the semaphores as they were. -/
theorem frame_reference : quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same under the precondition. -/
theorem frame_reference_pre [Cert.Pre_finite_keys.Facts] :
    quiescent_ReferenceIdeal_pre_finite_keys (hReferenceIdeal := Cert.ReferenceIdeal.Gen.facts) := fun m ρ _ =>
  frame_reference m ρ trivial

/-- The attention of the latent tokens: from arguments that agree, and whose queries and keys hold no infinity, the
    kernel's result is the reference's. -/
theorem gqa [Cert.Pre_finite_keys.Facts] : algebraic_KernelIdeal_ReferenceIdeal_pre_finite_keys
    (hKernelIdeal := Cert.KernelIdeal.Gen.facts) (hReferenceIdeal := Cert.ReferenceIdeal.Gen.facts) := by
  pair_intro
  · run_from Cert.KernelIdeal.Value.run_blocks m g
  · run_from Cert.ReferenceIdeal.Value.run m' g'
    obtain ⟨h0, h1, h2, h3, h4⟩ := hagree c
    refine ((Cert.ReferenceIdeal.Value.res_eq m' c).trans ?_).trans (Cert.KernelIdeal.Value.final m c).symm
    exact Cert.Gqa.equation' h0.symm h1.symm h2.symm h3.symm h4.symm (fun j => Cert.Gqa.isReal_of_cmp (congrFun (hpre c).1 j))
      (fun j => Cert.Gqa.isReal_of_cmp (congrFun (hpre c).2.1 j))
      (fun j => Cert.Gqa.isReal_of_cmp (congrFun (hpre c).2.2 j))

/-- Everything claimed, proved. -/
theorem claim : Cert.Claim := by
  refine ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts, pre_facts, Cert.Diff.pre_facts,
    Cert.Gqkv.pre_facts, ?_⟩
  haveI := pre_facts
  haveI := Cert.Diff.pre_facts
  haveI := Cert.Gqkv.pre_facts
  exact ⟨fun m ρ _ => Cert.Kernel.Gen.frame m ρ, fun m ρ _ => Cert.KernelIdeal.Gen.frame m ρ,
    fun m ρ _ => Cert.KernelIdeal.Gen.frame m ρ, frame_reference, frame_reference_pre,
    fun m ρ _ => Cert.Kernel2.Gen.frame m ρ, fun m ρ _ => Cert.Kernel2Ideal.Gen.frame m ρ, Cert.Proj.frame_reference,
    fun m ρ _ => Cert.Kernel3.Gen.frame m ρ, fun m ρ _ => Cert.Kernel3Ideal.Gen.frame m ρ, Cert.Gmlp.frame_reference,
    fun m ρ _ => Cert.Kernel4.Gen.frame m ρ, fun m ρ _ => Cert.Kernel4Ideal.Gen.frame m ρ,
    fun m ρ _ => Cert.Kernel4Ideal.Gen.frame m ρ, Cert.Diff.frame_reference, Cert.Diff.frame_reference_pre,
    fun m ρ _ => Cert.Kernel5.Gen.frame m ρ, fun m ρ _ => Cert.Kernel5Ideal.Gen.frame m ρ, Cert.HalfProj.frame_reference,
    fun m ρ _ => Cert.Kernel6.Gen.frame m ρ, fun m ρ _ => Cert.Kernel6Ideal.Gen.frame m ρ, Cert.Dqkv.frame_reference,
    fun m ρ _ => Cert.Kernel7.Gen.frame m ρ, fun m ρ _ => Cert.Kernel7Ideal.Gen.frame m ρ,
    fun m ρ _ => Cert.Kernel7Ideal.Gen.frame m ρ, Cert.Gqkv.frame_reference, Cert.Gqkv.frame_reference_pre,
    trivial, gqa, trivial, Cert.Proj.algebraic, trivial, Cert.Gmlp.algebraic, trivial, Cert.Diff.algebraic,
    trivial, Cert.HalfProj.algebraic, trivial, Cert.Dqkv.algebraic,
    trivial, Cert.Gqkv.algebraic⟩

end Cert.Proof

end
